-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7)
      ∧ r.2.mem ((c.tc : Thread Cert.Kernel12.nD Cert.Kernel12.τ).loc Cert.Kernel12.main_arg8) = m ((c.tc : Thread Cert.Kernel12.nD Cert.Kernel12.τ).loc Cert.Kernel12.main_arg8))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
      ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7)
      ∧ r.2.mem ((c.tc : Thread Cert.Reference12Ideal.nD Cert.Reference12Ideal.τ).loc Cert.Reference12Ideal.main_arg8) = m ((c.tc : Thread Cert.Reference12Ideal.nD Cert.Reference12Ideal.τ).loc Cert.Reference12Ideal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v12_0)) (v1 : (c : Dev Cert.Kernel2Ideal.nD) → Buf (Elt Ideal) ((c.tc : Thread Cert.Kernel2Ideal.nD Cert.Kernel2Ideal.τ).loc Cert.Kernel2Ideal.main_v12_1)) (v2 : (c : Dev Cert.Kernel2Ideal.nD) → Buf (Elt Ideal) ((c.tc : Thread Cert.Kernel2Ideal.nD Cert.Kernel2Ideal.τ).loc Cert.Kernel2Ideal.main_v12_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12_0) = v0 c
          ∧ r.2.mem ((c.tc : Thread Cert.Kernel2Ideal.nD Cert.Kernel2Ideal.τ).loc Cert.Kernel2Ideal.main_v12_1) = v1 c
          ∧ r.2.mem ((c.tc : Thread Cert.Kernel2Ideal.nD Cert.Kernel2Ideal.τ).loc Cert.Kernel2Ideal.main_v12_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v67) = v0 c
          ∧ r.2.mem ((c.tc : Thread Cert.Reference2Ideal.nD Cert.Reference2Ideal.τ).loc Cert.Reference2Ideal.main_v72) = v1 c
          ∧ r.2.mem ((c.tc : Thread Cert.Reference2Ideal.nD Cert.Reference2Ideal.τ).loc Cert.Reference2Ideal.main_v75) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v16_0)) (v1 : (c : Dev Cert.Kernel3Ideal.nD) → Buf (Elt Ideal) ((c.tc : Thread Cert.Kernel3Ideal.nD Cert.Kernel3Ideal.τ).loc Cert.Kernel3Ideal.main_v16_1)) (v2 : (c : Dev Cert.Kernel3Ideal.nD) → Buf (Elt Ideal) ((c.tc : Thread Cert.Kernel3Ideal.nD Cert.Kernel3Ideal.τ).loc Cert.Kernel3Ideal.main_v16_2)) (v3 : (c : Dev Cert.Kernel3Ideal.nD) → Buf (Elt Ideal) ((c.tc : Thread Cert.Kernel3Ideal.nD Cert.Kernel3Ideal.τ).loc Cert.Kernel3Ideal.main_v16_3)) (v4 : (c : Dev Cert.Kernel3Ideal.nD) → Buf (Elt Ideal) ((c.tc : Thread Cert.Kernel3Ideal.nD Cert.Kernel3Ideal.τ).loc Cert.Kernel3Ideal.main_v16_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v16_0) = v0 c
          ∧ r.2.mem ((c.tc : Thread Cert.Kernel3Ideal.nD Cert.Kernel3Ideal.τ).loc Cert.Kernel3Ideal.main_v16_1) = v1 c
          ∧ r.2.mem ((c.tc : Thread Cert.Kernel3Ideal.nD Cert.Kernel3Ideal.τ).loc Cert.Kernel3Ideal.main_v16_2) = v2 c
          ∧ r.2.mem ((c.tc : Thread Cert.Kernel3Ideal.nD Cert.Kernel3Ideal.τ).loc Cert.Kernel3Ideal.main_v16_3) = v3 c
          ∧ r.2.mem ((c.tc : Thread Cert.Kernel3Ideal.nD Cert.Kernel3Ideal.τ).loc Cert.Kernel3Ideal.main_v16_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v70) = v0 c
          ∧ r.2.mem ((c.tc : Thread Cert.Reference3Ideal.nD Cert.Reference3Ideal.τ).loc Cert.Reference3Ideal.main_v73) = v1 c
          ∧ r.2.mem ((c.tc : Thread Cert.Reference3Ideal.nD Cert.Reference3Ideal.τ).loc Cert.Reference3Ideal.main_v30) = v2 c
          ∧ r.2.mem ((c.tc : Thread Cert.Reference3Ideal.nD Cert.Reference3Ideal.τ).loc Cert.Reference3Ideal.main_v47) = v3 c
          ∧ r.2.mem ((c.tc : Thread Cert.Reference3Ideal.nD Cert.Reference3Ideal.τ).loc Cert.Reference3Ideal.main_v74) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v5)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v5) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v0) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v5)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v5) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)
      ∧ m' ((c.tc : Thread Cert.Reference12Ideal.nD Cert.Reference12Ideal.τ).loc Cert.Reference12Ideal.main_arg8) = m ((c.tc : Thread Cert.Kernel12Ideal.nD Cert.Kernel12Ideal.τ).loc Cert.Kernel12Ideal.main_arg8)) →
    ∃ (v0 : (c : Dev Cert.Kernel12Ideal.nD) → Buf (Elt Ideal) ((c.tc : Thread Cert.Kernel12Ideal.nD Cert.Kernel12Ideal.τ).loc Cert.Kernel12Ideal.main_v8_0)) (v1 : (c : Dev Cert.Kernel12Ideal.nD) → Buf (Elt Ideal) ((c.tc : Thread Cert.Kernel12Ideal.nD Cert.Kernel12Ideal.τ).loc Cert.Kernel12Ideal.main_v8_1)) (v2 : (c : Dev Cert.Kernel12Ideal.nD) → Buf (Elt Ideal) ((c.tc : Thread Cert.Kernel12Ideal.nD Cert.Kernel12Ideal.τ).loc Cert.Kernel12Ideal.main_v8_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v8_0) = v0 c
          ∧ r.2.mem ((c.tc : Thread Cert.Kernel12Ideal.nD Cert.Kernel12Ideal.τ).loc Cert.Kernel12Ideal.main_v8_1) = v1 c
          ∧ r.2.mem ((c.tc : Thread Cert.Kernel12Ideal.nD Cert.Kernel12Ideal.τ).loc Cert.Kernel12Ideal.main_v8_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
          ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_v20) = v1 c
          ∧ r.2.mem ((c.tc : Thread Cert.Reference12Ideal.nD Cert.Reference12Ideal.τ).loc Cert.Reference12Ideal.main_v42) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7)
          ∧ r.2.mem ((c.tc : Thread Cert.Reference12Ideal.nD Cert.Reference12Ideal.τ).loc Cert.Reference12Ideal.main_arg8) = m' ((c.tc : Thread Cert.Reference12Ideal.nD Cert.Reference12Ideal.τ).loc Cert.Reference12Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_finite.lean ====
abbrev S8192x5632 : Shape := ⟨2, ![8192, 5632]⟩
abbrev S2816x1024 : Shape := ⟨2, ![2816, 1024]⟩
abbrev S8192x1024 : Shape := ⟨2, ![8192, 1024]⟩
abbrev S_ : Shape := ⟨0, ![]⟩

class Facts : Prop where
  bcast_S_S8192x5632 : S_.BroadcastsInDim S8192x5632 (![] : Fin 0 → Fin S8192x5632.rank)
  reducesTo_S8192x5632_S_d0_1 : S8192x5632.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S8192x5632 .f32) (main_arg1 : FVec F S2816x1024 .f32) (main_arg2 : FVec F S8192x1024 .f32) : IVec S_ 1 :=
  let main_v0 : FVec F S8192x5632 .f32 := Host.absf main_arg0
  let main_cst : FVec F S_ .f32 := constant S_ .f32 0x7F800000#32
  let main_v1 : FVec F S8192x5632 .f32 := broadcastInDim S8192x5632 ![] bcast_S_S8192x5632 main_cst
  let main_v2 : IVec S8192x5632 1 := cmpf .olt main_v0 main_v1
  let main_c : IVec S_ 1 := constantI S_ 1 1#1
  let main_v3 : IVec S_ 1 := (fun x v => Host.reduce IntOp.andi x v reducesTo_S8192x5632_S_d0_1 h_S_) main_v2 main_c
  let main_v4 : FVec F S2816x1024 .f32 := Host.absf main_arg1
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  main_v13
-- ==== Kernel.lean ====
abbrev S8192x5632 : Shape := ⟨2, ![8192, 5632]⟩
abbrev S2816x1024 : Shape := ⟨2, ![2816, 1024]⟩
abbrev S8192x1024 : Shape := ⟨2, ![8192, 1024]⟩
abbrev S8192x2x4x704 : Shape := ⟨4, ![8192, 2, 4, 704]⟩
abbrev S2x4x8192x704 : Shape := ⟨4, ![2, 4, 8192, 704]⟩
abbrev S4x704x1024 : Shape := ⟨3, ![4, 704, 1024]⟩
abbrev S512x1024 : Shape := ⟨2, ![512, 1024]⟩
abbrev S2x1x512x704 : Shape := ⟨4, ![2, 1, 512, 704]⟩
abbrev S1x704x1024 : Shape := ⟨3, ![1, 704, 1024]⟩
abbrev S704x1024 : Shape := ⟨2, ![704, 1024]⟩
abbrev S512x704 : Shape := ⟨2, ![512, 704]⟩
abbrev S1x1x512x704 : Shape := ⟨4, ![1, 1, 512, 704]⟩

abbrev nBuf : Space → Nat
  | .hbm => 11
  | .vmem => 11
  | .smem => 0
  | _ => 0

abbrev bufTy : (tb : Table) → Fin (tcTables nBuf tb) → BufTy
  | .hbm, ⟨0, _⟩ => ⟨S8192x5632, .f32⟩
  | .hbm, ⟨1, _⟩ => ⟨S2816x1024, .f32⟩
  | .hbm, ⟨2, _⟩ => ⟨S8192x1024, .f32⟩
  | .hbm, ⟨3, _⟩ => ⟨S8192x2x4x704, .f32⟩
  | .hbm, ⟨4, _⟩ => ⟨S2x4x8192x704, .f32⟩
  | .hbm, ⟨5, _⟩ => ⟨S2x4x8192x704, .bf16⟩
  | .hbm, ⟨6, _⟩ => ⟨S8192x1024, .bf16⟩
  | .hbm, ⟨7, _⟩ => ⟨S2816x1024, .bf16⟩
  | .hbm, ⟨8, _⟩ => ⟨S4x704x1024, .bf16⟩
  | .hbm, ⟨9, _⟩ => ⟨S2x4x8192x704, .bf16⟩
  | .hbm, ⟨10, _⟩ => ⟨S2816x1024, .bf16⟩
  | .local _ .vmem, ⟨0, _⟩ => ⟨S512x1024, .bf16⟩
  | .local _ .vmem, ⟨1, _⟩ => ⟨S512x1024, .bf16⟩
  | .local _ .vmem, ⟨2, _⟩ => ⟨S2x1x512x704, .bf16⟩
  | .local _ .vmem, ⟨3, _⟩ => ⟨S2x1x512x704, .bf16⟩
  | .local _ .vmem, ⟨4, _⟩ => ⟨S1x704x1024, .bf16⟩
  | .local _ .vmem, ⟨5, _⟩ => ⟨S1x704x1024, .bf16⟩
  | .local _ .vmem, ⟨6, _⟩ => ⟨S2x1x512x704, .bf16⟩
  | .local _ .vmem, ⟨7, _⟩ => ⟨S2x1x512x704, .bf16⟩
  | .local _ .vmem, ⟨8, _⟩ => ⟨S704x1024, .bf16⟩
  | .local _ .vmem, ⟨9, _⟩ => ⟨S704x1024, .bf16⟩
  | .local _ .vmem, ⟨10, _⟩ => ⟨S704x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v39 : BitVec 1 := Scalar.cmpi .eq arg1 c15_i32
  let v40 : BitVec 32 := Scalar.extui v39
  let c0_i32_26 : BitVec 32 := 0#32
  let v41 : BitVec 1 := Scalar.cmpi .ne v40 c0_i32_26
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2x1x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S8192x5632 : Shape := ⟨2, ![8192, 5632]⟩
abbrev S2816x1024 : Shape := ⟨2, ![2816, 1024]⟩
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S8192x2x4x704 : Shape := ⟨4, ![8192, 2, 4, 704]⟩
abbrev S2x4x8192x704 : Shape := ⟨4, ![2, 4, 8192, 704]⟩

abbrev nBuf : Space → Nat
  | .hbm => 34
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S2816x1024, .f32⟩
  | .hbm, ⟨2, _⟩ => ⟨S8192x1024, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x1024, .f32⟩
  | .hbm, ⟨20, _⟩ => ⟨S1024x2816, .f32⟩
  | .hbm, ⟨21, _⟩ => ⟨S2816x1024, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x5632, .f32⟩
  | .hbm, ⟨30, _⟩ => ⟨S8192x2x4x704, .f32⟩
  | .hbm, ⟨31, _⟩ => ⟨S2x4x8192x704, .f32⟩
  | .hbm, ⟨32, _⟩ => ⟨S2x4x8192x704, .bf16⟩
  | .hbm, ⟨33, _⟩ => ⟨S2816x1024, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩

abbrev nD : Nat := 1
abbrev τ : Topo := Topo.v7x

variable {F : FTy → Type} [FloatOps F]
-- ==== Kernel2.lean ====
abbrev S8192x1024 : Shape := ⟨2, ![8192, 1024]⟩
abbrev S1024x5632 : Shape := ⟨2, ![1024, 5632]⟩
abbrev S3x5632 : Shape := ⟨2, ![3, 5632]⟩
abbrev S8192x5632 : Shape := ⟨2, ![8192, 5632]⟩
abbrev S8192x8x704 : Shape := ⟨3, ![8192, 8, 704]⟩
abbrev S8x8192x704 : Shape := ⟨3, ![8, 8192, 704]⟩
abbrev S3x8x704 : Shape := ⟨3, ![3, 8, 704]⟩
abbrev S8x3x704 : Shape := ⟨3, ![8, 3, 704]⟩
abbrev S1024x8x704 : Shape := ⟨3, ![1024, 8, 704]⟩
abbrev S8x1024x704 : Shape := ⟨3, ![8, 1024, 704]⟩
abbrev S8x8x704 : Shape := ⟨3, ![8, 8, 704]⟩
abbrev S1x512x704 : Shape := ⟨3, ![1, 512, 704]⟩
abbrev S1x16x704 : Shape := ⟨3, ![1, 16, 704]⟩
abbrev S512x1024 : Shape := ⟨2, ![512, 1024]⟩
abbrev S1x3x704 : Shape := ⟨3, ![1, 3, 704]⟩
abbrev S1x1024x704 : Shape := ⟨3, ![1, 1024, 704]⟩
abbrev S1024x704 : Shape := ⟨2, ![1024, 704]⟩
abbrev S512x704 : Shape := ⟨2, ![512, 704]⟩
abbrev S16x704 : Shape := ⟨2, ![16, 704]⟩
abbrev S8x704 : Shape := ⟨2, ![8, 704]⟩
abbrev S64x8x704 : Shape := ⟨3, ![64, 8, 704]⟩
abbrev S1x8x704 : Shape := ⟨3, ![1, 8, 704]⟩
abbrev S65x8x704 : Shape := ⟨3, ![65, 8, 704]⟩
abbrev S1x1x704 : Shape := ⟨3, ![1, 1, 704]⟩
abbrev S1x704 : Shape := ⟨2, ![1, 704]⟩
abbrev S_ : Shape := ⟨0, ![]⟩
abbrev S704 : Shape := ⟨1, ![704]⟩

abbrev nBuf : Space → Nat
  | .hbm => 19
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S3x5632, .f32⟩
  | .hbm, ⟨3, _⟩ => ⟨S8192x5632, .f32⟩
  | .hbm, ⟨4, _⟩ => ⟨S8192x5632, .f32⟩
  | .hbm, ⟨5, _⟩ => ⟨S8192x8x704, .f32⟩
  | .hbm, ⟨6, _⟩ => ⟨S8x8192x704, .f32⟩
  | .hbm, ⟨7, _⟩ => ⟨S8192x8x704, .f32⟩
  | .hbm, ⟨8, _⟩ => ⟨S8x8192x704, .f32⟩
  | .hbm, ⟨9, _⟩ => ⟨S8x8192x704, .bf16⟩
  | .hbm, ⟨10, _⟩ => ⟨S3x8x704, .f32⟩
  | .hbm, ⟨11, _⟩ => ⟨S8x3x704, .f32⟩
  | .hbm, ⟨12, _⟩ => ⟨S1024x8x704, .f32⟩
  | .hbm, ⟨13, _⟩ => ⟨S8x1024x704, .f32⟩
  | .hbm, ⟨14, _⟩ => ⟨S8x1024x704, .bf16⟩
  | .hbm, ⟨15, _⟩ => ⟨S8192x1024, .bf16⟩
  | .hbm, ⟨16, _⟩ => ⟨S8192x1024, .f32⟩
  | .hbm, ⟨17, _⟩ => ⟨S8x8x704, .f32⟩
  | .hbm, ⟨18, _⟩ => ⟨S8x1024x704, .bf16⟩
  | .local _ .vmem, ⟨0, _⟩ => ⟨S1x512x704, .bf16⟩
  | .local _ .vmem, ⟨1, _⟩ => ⟨S1x512x704, .bf16⟩
  | .local _ .vmem, ⟨2, _⟩ => ⟨S1x16x704, .bf16⟩
  | .local _ .vmem, ⟨3, _⟩ => ⟨S1x16x704, .bf16⟩
  | .local _ .vmem, ⟨4, _⟩ => ⟨S1x512x704, .f32⟩
  | .local _ .vmem, ⟨5, _⟩ => ⟨S1x512x704, .f32⟩
  | .local _ .vmem, ⟨6, _⟩ => ⟨S512x1024, .bf16⟩
  | .local _ .vmem, ⟨7, _⟩ => ⟨S512x1024, .bf16⟩
  | .local _ .vmem, ⟨8, _⟩ => ⟨S1x3x704, .f32⟩
  | .local _ .vmem, ⟨9, _⟩ => ⟨S1x3x704, .f32⟩
  | .local _ .vmem, ⟨10, _⟩ => ⟨S1x1024x704, .bf16⟩
  | .local _ .vmem, ⟨11, _⟩ => ⟨S1x1024x704, .bf16⟩
  | .local _ .vmem, ⟨12, _⟩ => ⟨S512x1024, .f32⟩
  | .local _ .vmem, ⟨13, _⟩ => ⟨S512x1024, .f32⟩
  | .local _ .vmem, ⟨14, _⟩ => ⟨S8x8x704, .f32⟩
  | .local _ .vmem, ⟨15, _⟩ => ⟨S512x1024, .f32⟩
  | .local _ .vmem, ⟨16, _⟩ => ⟨S8x1024x704, .f32⟩
  | .local _ .vmem, ⟨17, _⟩ => ⟨S1024x704, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12_0 : Ref sig .tc := ⟨.hbm, 16, rfl⟩
abbrev main_v12_1 : Ref sig .tc := ⟨.hbm, 17, rfl⟩
abbrev main_v12_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14

abbrev nD : Nat := 1
abbrev τ : Topo := Topo.v7x

variable {F : FTy → Type} [FloatOps F]

abbrev grid0 : Pipeline.Grid := ⟨2, ![16, 8], ![false, false]⟩

def k0_cond3 (i : grid0.Coords) : BitVec 1 :=
  let arg0 : BitVec 32 := BitVec.ofNat 32 (i 0).val
  let c0_i32_29 : BitVec 32 := 0#32
  let v70 : BitVec 1 := Scalar.cmpi .eq arg0 c0_i32_29
  let v71 : BitVec 32 := Scalar.extui v70
  let c0_i32_30 : BitVec 32 := 0#32
  let v72 : BitVec 1 := Scalar.cmpi .ne v71 c0_i32_30
  v72

def k0_off1 (i : grid0.Coords) : Fin 3 → Nat :=
  let arg1 : BitVec 32 := BitVec.ofNat 32 (i 1).val
  let v127 : Index := Scalar.indexCast arg1
  let c0_59 : Index := 0#32
  let c0_60 : Index := 0#32
  ![v127.toNat, 0, 0]
def k0_cond4 (i : grid0.Coords) : BitVec 1 :=
  let arg0 : BitVec 32 := BitVec.ofNat 32 (i 0).val
  let c0_i32_31 : BitVec 32 := 0#32
  let v73 : BitVec 1 := Scalar.cmpi .sgt arg0 c0_i32_31
  let v74 : BitVec 32 := Scalar.extui v73
  let c0_i32_32 : BitVec 32 := 0#32
  let v75 : BitVec 1 := Scalar.cmpi .ne v74 c0_i32_32
  v75

def k0_off2 (i : grid0.Coords) : Fin 3 → Nat :=
  let arg1 : BitVec 32 := BitVec.ofNat 32 (i 1).val
  let v127 : Index := Scalar.indexCast arg1
  let c0_59 : Index := 0#32
  let c0_60 : Index := 0#32
  ![v127.toNat, 0, 0]
def k0_cond5 (i : grid0.Coords) : BitVec 1 :=
  let arg0 : BitVec 32 := BitVec.ofNat 32 (i 0).val
  let c15_i32_33 : BitVec 32 := 15#32
  let v76 : BitVec 1 := Scalar.cmpi .eq arg0 c15_i32_33
  let v77 : BitVec 32 := Scalar.extui v76
  let c0_i32_34 : BitVec 32 := 0#32
  let v78 : BitVec 1 := Scalar.cmpi .ne v77 c0_i32_34
  v78

def k0_off3 (i : grid0.Coords) : Fin 3 → Nat :=
  let arg1 : BitVec 32 := BitVec.ofNat 32 (i 1).val
  let v127 : Index := Scalar.indexCast arg1
  let c0_59 : Index := 0#32
  let c0_60 : Index := 0#32
  ![v127.toNat, 0, 0]
def k0_off4 (i : grid0.Coords) : Fin 3 → Nat :=
  let arg1 : BitVec 32 := BitVec.ofNat 32 (i 1).val
  let c0_i32_63_r0 : BitVec 32 := 0#32
  let c0_i32_64_r0 : BitVec 32 := 0#32
  ![arg1.toNat, 0, 0]
def k0_off5 (i : grid0.Coords) : Fin 3 → Nat :=
  let arg1 : BitVec 32 := BitVec.ofNat 32 (i 1).val
  let v81 : Index := Scalar.indexCast arg1
  let c0_38 : Index := 0#32
  let c0_39 : Index := 0#32
  ![v81.toNat, 0, 0]
def k0_off6 (i : grid0.Coords) : Fin 3 → Nat :=
  let arg1 : BitVec 32 := BitVec.ofNat 32 (i 1).val
  let v92 : Index := Scalar.indexCast arg1
  let c1_43 : Index := 1#32
  let c0_44 : Index := 0#32
  ![v92.toNat, 1, 0]
def k0_off7 (i : grid0.Coords) : Fin 3 → Nat :=
  let arg1 : BitVec 32 := BitVec.ofNat 32 (i 1).val
  let v103 : Index := Scalar.indexCast arg1
  let c2_48 : Index := 2#32
  let c0_49 : Index := 0#32
  ![v103.toNat, 2, 0]
def k0_off8 (i : grid0.Coords) : Fin 3 → Nat :=
  let arg1 : BitVec 32 := BitVec.ofNat 32 (i 1).val
  let v114 : Index := Scalar.indexCast arg1
  let c3 : Index := 3#32
  let c0_53 : Index := 0#32
  ![v114.toNat, 3, 0]
def k0_cond6 (i : grid0.Coords) : BitVec 1 :=
  let arg1 : BitVec 32 := BitVec.ofNat 32 (i 1).val
  let c7_i32_57 : BitVec 32 := 7#32
  let v124 : BitVec 1 := Scalar.cmpi .eq arg1 c7_i32_57
  let v125 : BitVec 32 := Scalar.extui v124
  let c0_i32_58 : BitVec 32 := 0#32
  let v126 : BitVec 1 := Scalar.cmpi .ne v125 c0_i32_58
  v126

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![arg1.toNat, v2.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x3x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S8x8x704 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference2Ideal.lean ====
abbrev S8192x1024 : Shape := ⟨2, ![8192, 1024]⟩
abbrev S1024x5632 : Shape := ⟨2, ![1024, 5632]⟩
abbrev S3x5632 : Shape := ⟨2, ![3, 5632]⟩
abbrev S8192x5632 : Shape := ⟨2, ![8192, 5632]⟩
abbrev S_ : Shape := ⟨0, ![]⟩
abbrev S5632 : Shape := ⟨1, ![5632]⟩
abbrev S2x5632 : Shape := ⟨2, ![2, 5632]⟩
abbrev S8194x5632 : Shape := ⟨2, ![8194, 5632]⟩
abbrev S1x5632 : Shape := ⟨2, ![1, 5632]⟩
abbrev S5632x1024 : Shape := ⟨2, ![5632, 1024]⟩
abbrev S4x5632 : Shape := ⟨2, ![4, 5632]⟩
abbrev S8x5632 : Shape := ⟨2, ![8, 5632]⟩
abbrev S8x8x704 : Shape := ⟨3, ![8, 8, 704]⟩
abbrev S1024x8x704 : Shape := ⟨3, ![1024, 8, 704]⟩
abbrev S8x1024x704 : Shape := ⟨3, ![8, 1024, 704]⟩

abbrev nBuf : Space → Nat
  | .hbm => 98
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S3x5632, .f32⟩
  | .hbm, ⟨3, _⟩ => ⟨S8192x5632, .f32⟩
  | .hbm, ⟨4, _⟩ => ⟨S_, .f32⟩
  | .hbm, ⟨5, _⟩ => ⟨S5632, .f32⟩
  | .hbm, ⟨6, _⟩ => ⟨S8192x5632, .f32⟩
  | .hbm, ⟨7, _⟩ => ⟨S_, .f32⟩
  | .hbm, ⟨8, _⟩ => ⟨S2x5632, .f32⟩
  | .hbm, ⟨9, _⟩ => ⟨S8194x5632, .f32⟩
  | .hbm, ⟨10, _⟩ => ⟨S_, .f32⟩
  | .hbm, ⟨11, _⟩ => ⟨S2x5632, .f32⟩
  | .hbm, ⟨12, _⟩ => ⟨S8192x5632, .f32⟩
  | .hbm, ⟨13, _⟩ => ⟨S1x5632, .f32⟩
  | .hbm, ⟨14, _⟩ => ⟨S5632, .f32⟩
  | .hbm, ⟨15, _⟩ => ⟨S1x5632, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S1x5632, .f32⟩
  | .hbm, ⟨20, _⟩ => ⟨S5632, .f32⟩
  | .hbm, ⟨21, _⟩ => ⟨S1x5632, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S1x5632, .f32⟩
  | .hbm, ⟨27, _⟩ => ⟨S5632, .f32⟩
  | .hbm, ⟨28, _⟩ => ⟨S1x5632, .f32⟩
  | .hbm, ⟨29, _⟩ => ⟨S8192x5632, .f32⟩
  | .hbm, ⟨30, _⟩ => ⟨S8192x5632, .f32⟩
  | .hbm, ⟨31, _⟩ => ⟨S8192x5632, .f32⟩
  | .hbm, ⟨32, _⟩ => ⟨S1x5632, .f32⟩
  | .hbm, ⟨33, _⟩ => ⟨S8192x5632, .f32⟩
  | .hbm, ⟨34, _⟩ => ⟨S8192x5632, .f32⟩
  | .hbm, ⟨35, _⟩ => ⟨S8192x5632, .f32⟩
  | .hbm, ⟨36, _⟩ => ⟨S_, .f32⟩
  | .hbm, ⟨37, _⟩ => ⟨S5632, .f32⟩
  | .hbm, ⟨38, _⟩ => ⟨S1x5632, .f32⟩
  | .hbm, ⟨39, _⟩ => ⟨S_, .f32⟩
  | .hbm, ⟨40, _⟩ => ⟨S5632, .f32⟩
  | .hbm, ⟨41, _⟩ => ⟨S8192x5632, .f32⟩
  | .hbm, ⟨42, _⟩ => ⟨S_, .f32⟩
  | .hbm, ⟨43, _⟩ => ⟨S5632, .f32⟩
  | .hbm, ⟨44, _⟩ => ⟨S1x5632, .f32⟩
  | .hbm, ⟨45, _⟩ => ⟨S8192x5632, .f32⟩
  | .hbm, ⟨46, _⟩ => ⟨S8192x5632, .f32⟩
  | .hbm, ⟨47, _⟩ => ⟨S_, .f32⟩
  | .hbm, ⟨48, _⟩ => ⟨S5632, .f32⟩
  | .hbm, ⟨49, _⟩ => ⟨S1x5632, .f32⟩
  | .hbm, ⟨50, _⟩ => ⟨S_, .f32⟩
  | .hbm, ⟨51, _⟩ => ⟨S3x5632, .f32⟩
  | .hbm, ⟨52, _⟩ => ⟨S_, .f32⟩
  | .hbm, ⟨53, _⟩ => ⟨S8194x5632, .f32⟩
  | .hbm, ⟨54, _⟩ => ⟨S8192x5632, .f32⟩
  | .hbm, ⟨55, _⟩ => ⟨S_, .f32⟩
  | .hbm, ⟨56, _⟩ => ⟨S5632, .f32⟩
  | .hbm, ⟨57, _⟩ => ⟨S1x5632, .f32⟩
  | .hbm, ⟨58, _⟩ => ⟨S8192x5632, .f32⟩
  | .hbm, ⟨59, _⟩ => ⟨S8192x5632, .f32⟩
  | .hbm, ⟨60, _⟩ => ⟨S_, .f32⟩
  | .hbm, ⟨61, _⟩ => ⟨S5632, .f32⟩
  | .hbm, ⟨62, _⟩ => ⟨S1x5632, .f32⟩
  | .hbm, ⟨63, _⟩ => ⟨S_, .f32⟩
  | .hbm, ⟨64, _⟩ => ⟨S3x5632, .f32⟩
  | .hbm, ⟨65, _⟩ => ⟨S3x5632, .f32⟩
  | .hbm, ⟨66, _⟩ => ⟨S_, .f32⟩
  | .hbm, ⟨67, _⟩ => ⟨S8194x5632, .f32⟩
  | .hbm, ⟨68, _⟩ => ⟨S8194x5632, .f32⟩
  | .hbm, ⟨69, _⟩ => ⟨S8192x5632, .f32⟩
  | .hbm, ⟨70, _⟩ => ⟨S_, .f32⟩
  | .hbm, ⟨71, _⟩ => ⟨S5632, .f32⟩
  | .hbm, ⟨72, _⟩ => ⟨S1x5632, .f32⟩
  | .hbm, ⟨73, _⟩ => ⟨S8192x5632, .f32⟩
  | .hbm, ⟨74, _⟩ => ⟨S8192x5632, .f32⟩
  | .hbm, ⟨75, _⟩ => ⟨S_, .f32⟩
  | .hbm, ⟨76, _⟩ => ⟨S5632, .f32⟩
  | .hbm, ⟨77, _⟩ => ⟨S1x5632, .f32⟩
  | .hbm, ⟨78, _⟩ => ⟨S_, .f32⟩
  | .hbm, ⟨79, _⟩ => ⟨S3x5632, .f32⟩
  | .hbm, ⟨80, _⟩ => ⟨S3x5632, .f32⟩
  | .hbm, ⟨81, _⟩ => ⟨S_, .f32⟩
  | .hbm, ⟨82, _⟩ => ⟨S8194x5632, .f32⟩
  | .hbm, ⟨83, _⟩ => ⟨S8194x5632, .f32⟩
  | .hbm, ⟨84, _⟩ => ⟨S2x5632, .f32⟩
  | .hbm, ⟨85, _⟩ => ⟨S8192x5632, .f32⟩
  | .hbm, ⟨86, _⟩ => ⟨S5632x1024, .f32⟩
  | .hbm, ⟨87, _⟩ => ⟨S1024x5632, .f32⟩
  | .hbm, ⟨88, _⟩ => ⟨S8192x1024, .f32⟩
  | .hbm, ⟨89, _⟩ => ⟨S1x5632, .f32⟩
  | .hbm, ⟨90, _⟩ => ⟨S_, .f32⟩
  | .hbm, ⟨91, _⟩ => ⟨S4x5632, .f32⟩
  | .hbm, ⟨92, _⟩ => ⟨S8x5632, .f32⟩
  | .hbm, ⟨93, _⟩ => ⟨S8x8x704, .f32⟩
  | .hbm, ⟨94, _⟩ => ⟨S8x8x704, .f32⟩
  | .hbm, ⟨95, _⟩ => ⟨S1024x8x704, .f32⟩
  | .hbm, ⟨96, _⟩ => ⟨S8x1024x704, .f32⟩
  | .hbm, ⟨97, _⟩ => ⟨S8x1024x704, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_cst_4 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_5 : Ref sig .tc := ⟨.hbm, 47, rfl⟩
abbrev main_v37 : Ref sig .tc := ⟨.hbm, 48, rfl⟩
abbrev main_v38 : Ref sig .tc := ⟨.hbm, 49, rfl⟩
abbrev main_cst_6 : Ref sig .tc := ⟨.hbm, 50, rfl⟩
abbrev main_v39 : Ref sig .tc := ⟨.hbm, 51, rfl⟩
abbrev main_cst_7 : Ref sig .tc := ⟨.hbm, 52, rfl⟩
abbrev main_v40 : Ref sig .tc := ⟨.hbm, 53, rfl⟩
abbrev main_v41 : Ref sig .tc := ⟨.hbm, 54, rfl⟩
abbrev main_cst_8 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_9 : Ref sig .tc := ⟨.hbm, 60, rfl⟩
abbrev main_v46 : Ref sig .tc := ⟨.hbm, 61, rfl⟩
abbrev main_v47 : Ref sig .tc := ⟨.hbm, 62, rfl⟩
abbrev main_cst_10 : Ref sig .tc := ⟨.hbm, 63, rfl⟩
abbrev main_v48 : Ref sig .tc := ⟨.hbm, 64, rfl⟩
abbrev main_v49 : Ref sig .tc := ⟨.hbm, 65, rfl⟩
abbrev main_cst_11 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_12 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_13 : Ref sig .tc := ⟨.hbm, 75, rfl⟩
abbrev main_v57 : Ref sig .tc := ⟨.hbm, 76, rfl⟩
abbrev main_v58 : Ref sig .tc := ⟨.hbm, 77, rfl⟩
abbrev main_cst_14 : Ref sig .tc := ⟨.hbm, 78, rfl⟩
abbrev main_v59 : Ref sig .tc := ⟨.hbm, 79, rfl⟩
abbrev main_v60 : Ref sig .tc := ⟨.hbm, 80, rfl⟩
abbrev main_cst_15 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_16 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩

abbrev nD : Nat := 1
abbrev τ : Topo := Topo.v7x

variable {F : FTy → Type} [FloatOps F]
-- ==== Kernel3.lean ====
abbrev S8192x1024 : Shape := ⟨2, ![8192, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S1024x8x704 : Shape := ⟨3, ![1024, 8, 704]⟩
abbrev S8x1024x704 : Shape := ⟨3, ![8, 1024, 704]⟩
abbrev S3x8x704 : Shape := ⟨3, ![3, 8, 704]⟩
abbrev S8x3x704 : Shape := ⟨3, ![8, 3, 704]⟩
abbrev S1x5632 : Shape := ⟨2, ![1, 5632]⟩
abbrev S1x8x704 : Shape := ⟨3, ![1, 8, 704]⟩
abbrev S8x1x704 : Shape := ⟨3, ![8, 1, 704]⟩
abbrev S4x704x1024 : Shape := ⟨3, ![4, 704, 1024]⟩
abbrev S1x1024 : Shape := ⟨2, ![1, 1024]⟩
abbrev S2x4x8192x704 : Shape := ⟨4, ![2, 4, 8192, 704]⟩
abbrev S512x1024 : Shape := ⟨2, ![512, 1024]⟩
abbrev S8x1024 : Shape := ⟨2, ![8, 1024]⟩
abbrev S1x1024x704 : Shape := ⟨3, ![1, 1024, 704]⟩
abbrev S1x3x704 : Shape := ⟨3, ![1, 3, 704]⟩
abbrev S1x1x704 : Shape := ⟨3, ![1, 1, 704]⟩
abbrev S1x704x1024 : Shape := ⟨3, ![1, 704, 1024]⟩
abbrev S2x1x512x704 : Shape := ⟨4, ![2, 1, 512, 704]⟩
abbrev S1024x704 : Shape := ⟨2, ![1024, 704]⟩
abbrev S512x704 : Shape := ⟨2, ![512, 704]⟩
abbrev S8x704 : Shape := ⟨2, ![8, 704]⟩
abbrev S1x1x512x704 : Shape := ⟨4, ![1, 1, 512, 704]⟩
abbrev S1x704 : Shape := ⟨2, ![1, 704]⟩
abbrev S64x8x704 : Shape := ⟨3, ![64, 8, 704]⟩
abbrev S65x8x704 : Shape := ⟨3, ![65, 8, 704]⟩
abbrev S704x1024 : Shape := ⟨2, ![704, 1024]⟩
abbrev S512 : Shape := ⟨1, ![512]⟩
abbrev S512x1 : Shape := ⟨2, ![512, 1]⟩

abbrev nBuf : Space → Nat
  | .hbm => 32
  | .vmem => 36
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S2816x1024, .f32⟩
  | .hbm, ⟨5, _⟩ => ⟨S8192x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S8192x1024, .bf16⟩
  | .hbm, ⟨12, _⟩ => ⟨S1024x8x704, .f32⟩
  | .hbm, ⟨13, _⟩ => ⟨S8x1024x704, .f32⟩
  | .hbm, ⟨14, _⟩ => ⟨S8x1024x704, .bf16⟩
  | .hbm, ⟨15, _⟩ => ⟨S3x8x704, .f32⟩
  | .hbm, ⟨16, _⟩ => ⟨S8x3x704, .f32⟩
  | .hbm, ⟨17, _⟩ => ⟨S1x5632, .f32⟩
  | .hbm, ⟨18, _⟩ => ⟨S1x8x704, .f32⟩
  | .hbm, ⟨19, _⟩ => ⟨S8x1x704, .f32⟩
  | .hbm, ⟨20, _⟩ => ⟨S2816x1024, .bf16⟩
  | .hbm, ⟨21, _⟩ => ⟨S4x704x1024, .bf16⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S2x4x8192x704, .f32⟩
  | .hbm, ⟨28, _⟩ => ⟨S2x4x8192x704, .bf16⟩
  | .hbm, ⟨29, _⟩ => ⟨S8192x1024, .f32⟩
  | .hbm, ⟨30, _⟩ => ⟨S8192x1024, .f32⟩
  | .hbm, ⟨31, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S8x1024, .bf16⟩
  | .local _ .vmem, ⟨3, _⟩ => ⟨S8x1024, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x3x704, .f32⟩
  | .local _ .vmem, ⟨9, _⟩ => ⟨S1x3x704, .f32⟩
  | .local _ .vmem, ⟨10, _⟩ => ⟨S1x3x704, .f32⟩
  | .local _ .vmem, ⟨11, _⟩ => ⟨S1x3x704, .f32⟩
  | .local _ .vmem, ⟨12, _⟩ => ⟨S1x1x704, .f32⟩
  | .local _ .vmem, ⟨13, _⟩ => ⟨S1x1x704, .f32⟩
  | .local _ .vmem, ⟨14, _⟩ => ⟨S1x1x704, .f32⟩
  | .local _ .vmem, ⟨15, _⟩ => ⟨S1x1x704, .f32⟩
  | .local _ .vmem, ⟨16, _⟩ => ⟨S1x704x1024, .bf16⟩
  | .local _ .vmem, ⟨17, _⟩ => ⟨S1x704x1024, .bf16⟩
  | .local _ .vmem, ⟨18, _⟩ => ⟨S512x1024, .f32⟩
  | .local _ .vmem, ⟨19, _⟩ => ⟨S512x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S2x1x512x704, .f32⟩
  | .local _ .vmem, ⟨26, _⟩ => ⟨S2x1x512x704, .f32⟩
  | .local _ .vmem, ⟨27, _⟩ => ⟨S2x1x512x704, .bf16⟩
  | .local _ .vmem, ⟨28, _⟩ => ⟨S2x1x512x704, .bf16⟩
  | .local _ .vmem, ⟨29, _⟩ => ⟨S512x1024, .f32⟩
  | .local _ .vmem, ⟨30, _⟩ => ⟨S512x1024, .f32⟩
  | .local _ .vmem, ⟨31, _⟩ => ⟨S512x1024, .f32⟩
  | .local _ .vmem, ⟨32, _⟩ => ⟨S512x1024, .f32⟩
  | .local _ .vmem, ⟨33, _⟩ => ⟨S512x1024, .bf16⟩
  | .local _ .vmem, ⟨34, _⟩ => ⟨S512x1024, .bf16⟩
  | .local _ .vmem, ⟨35, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16_0 : Ref sig .tc := ⟨.hbm, 27, rfl⟩
abbrev main_v16_1 : Ref sig .tc := ⟨.hbm, 28, rfl⟩
abbrev main_v16_2 : Ref sig .tc := ⟨.hbm, 29, rfl⟩
abbrev main_v16_3 : Ref sig .tc := ⟨.hbm, 30, rfl⟩
abbrev main_v16_4 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_scratch0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v139 : BitVec 1 := Scalar.cmpi .eq arg1 c3_i32
  let v140 : BitVec 32 := Scalar.extui v139
  let c0_i32_75 : BitVec 32 := 0#32
  let v141 : BitVec 1 := Scalar.cmpi .ne v140 c0_i32_75
  v141

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![v0.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![v0.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![v0.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![v0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x3x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x3x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x704x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S2x1x512x704 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S2x1x512x704 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]
-- ==== Reference3Ideal.lean ====
abbrev S8192x1024 : Shape := ⟨2, ![8192, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S8192x5632 : Shape := ⟨2, ![8192, 5632]⟩
abbrev S_ : Shape := ⟨0, ![]⟩
abbrev S2x5632 : Shape := ⟨2, ![2, 5632]⟩
abbrev S8194x5632 : Shape := ⟨2, ![8194, 5632]⟩
abbrev S1x5632 : Shape := ⟨2, ![1, 5632]⟩
abbrev S8192x2816 : Shape := ⟨2, ![8192, 2816]⟩
abbrev S8192 : Shape := ⟨1, ![8192]⟩
abbrev S8192x1 : Shape := ⟨2, ![8192, 1]⟩
abbrev S1x1024 : Shape := ⟨2, ![1, 1024]⟩
abbrev S8192x2x4x704 : Shape := ⟨4, ![8192, 2, 4, 704]⟩
abbrev S2x4x8192x704 : Shape := ⟨4, ![2, 4, 8192, 704]⟩

abbrev nBuf : Space → Nat
  | .hbm => 102
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S2816x1024, .f32⟩
  | .hbm, ⟨5, _⟩ => ⟨S8192x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S8192x5632, .f32⟩
  | .hbm, ⟨12, _⟩ => ⟨S_, .f32⟩
  | .hbm, ⟨13, _⟩ => ⟨S2x5632, .f32⟩
  | .hbm, ⟨14, _⟩ => ⟨S8194x5632, .f32⟩
  | .hbm, ⟨15, _⟩ => ⟨S8192x5632, .f32⟩
  | .hbm, ⟨16, _⟩ => ⟨S1x5632, .f32⟩
  | .hbm, ⟨17, _⟩ => ⟨S5632, .f32⟩
  | .hbm, ⟨18, _⟩ => ⟨S1x5632, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S1x5632, .f32⟩
  | .hbm, ⟨23, _⟩ => ⟨S5632, .f32⟩
  | .hbm, ⟨24, _⟩ => ⟨S1x5632, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S1x5632, .f32⟩
  | .hbm, ⟨30, _⟩ => ⟨S5632, .f32⟩
  | .hbm, ⟨31, _⟩ => ⟨S1x5632, .f32⟩
  | .hbm, ⟨32, _⟩ => ⟨S8192x5632, .f32⟩
  | .hbm, ⟨33, _⟩ => ⟨S8192x5632, .f32⟩
  | .hbm, ⟨34, _⟩ => ⟨S8192x5632, .f32⟩
  | .hbm, ⟨35, _⟩ => ⟨S1x5632, .f32⟩
  | .hbm, ⟨36, _⟩ => ⟨S8192x5632, .f32⟩
  | .hbm, ⟨37, _⟩ => ⟨S8192x5632, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S_, .f32⟩
  | .hbm, ⟨43, _⟩ => ⟨S8192x2816, .f32⟩
  | .hbm, ⟨44, _⟩ => ⟨S8192x2816, .f32⟩
  | .hbm, ⟨45, _⟩ => ⟨S_, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S8192x1, .f32⟩
  | .hbm, ⟨62, _⟩ => ⟨S8192x1024, .f32⟩
  | .hbm, ⟨63, _⟩ => ⟨S8192x1024, .f32⟩
  | .hbm, ⟨64, _⟩ => ⟨S1x1024, .f32⟩
  | .hbm, ⟨65, _⟩ => ⟨S8192x1024, .f32⟩
  | .hbm, ⟨66, _⟩ => ⟨S8192x1024, .f32⟩
  | .hbm, ⟨67, _⟩ => ⟨S1x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S_, .f32⟩
  | .hbm, ⟨73, _⟩ => ⟨S8192, .f32⟩
  | .hbm, ⟨74, _⟩ => ⟨S8192x1, .f32⟩
  | .hbm, ⟨75, _⟩ => ⟨S_, .f32⟩
  | .hbm, ⟨76, _⟩ => ⟨S8192x1, .f32⟩
  | .hbm, ⟨77, _⟩ => ⟨S8192x1, .f32⟩
  | .hbm, ⟨78, _⟩ => ⟨S_, .f32⟩
  | .hbm, ⟨79, _⟩ => ⟨S8192x1, .f32⟩
  | .hbm, ⟨80, _⟩ => ⟨S8192x1, .f32⟩
  | .hbm, ⟨81, _⟩ => ⟨S8192x1, .f32⟩
  | .hbm, ⟨82, _⟩ => ⟨S8192x1024, .f32⟩
  | .hbm, ⟨83, _⟩ => ⟨S8192x1024, .f32⟩
  | .hbm, ⟨84, _⟩ => ⟨S1x1024, .f32⟩
  | .hbm, ⟨85, _⟩ => ⟨S8192x1024, .f32⟩
  | .hbm, ⟨86, _⟩ => ⟨S8192x1024, .f32⟩
  | .hbm, ⟨87, _⟩ => ⟨S_, .f32⟩
  | .hbm, ⟨88, _⟩ => ⟨S1024, .f32⟩
  | .hbm, ⟨89, _⟩ => ⟨S1024, .f32⟩
  | .hbm, ⟨90, _⟩ => ⟨S1x1024, .f32⟩
  | .hbm, ⟨91, _⟩ => ⟨S8192x1024, .f32⟩
  | .hbm, ⟨92, _⟩ => ⟨S8192x1024, .f32⟩
  | .hbm, ⟨93, _⟩ => ⟨S1x1024, .f32⟩
  | .hbm, ⟨94, _⟩ => ⟨S8192x1024, .f32⟩
  | .hbm, ⟨95, _⟩ => ⟨S8192x1024, .f32⟩
  | .hbm, ⟨96, _⟩ => ⟨S8192x2x4x704, .f32⟩
  | .hbm, ⟨97, _⟩ => ⟨S2x4x8192x704, .f32⟩
  | .hbm, ⟨98, _⟩ => ⟨S8192x2x4x704, .f32⟩
  | .hbm, ⟨99, _⟩ => ⟨S2x4x8192x704, .f32⟩
  | .hbm, ⟨100, _⟩ => ⟨S2x4x8192x704, .bf16⟩
  | .hbm, ⟨101, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_0 : Ref sig .tc := ⟨.hbm, 52, rfl⟩
abbrev main_v32 : Ref sig .tc := ⟨.hbm, 53, rfl⟩
abbrev main_v33 : Ref sig .tc := ⟨.hbm, 54, rfl⟩
abbrev main_cst_1 : Ref sig .tc := ⟨.hbm, 55, rfl⟩
abbrev main_v34 : Ref sig .tc := ⟨.hbm, 56, rfl⟩
abbrev main_v35 : Ref sig .tc := ⟨.hbm, 57, rfl⟩
abbrev main_cst_2 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_3 : Ref sig .tc := ⟨.hbm, 72, rfl⟩
abbrev main_v49 : Ref sig .tc := ⟨.hbm, 73, rfl⟩
abbrev main_v50 : Ref sig .tc := ⟨.hbm, 74, rfl⟩
abbrev main_cst_4 : Ref sig .tc := ⟨.hbm, 75, rfl⟩
abbrev main_v51 : Ref sig .tc := ⟨.hbm, 76, rfl⟩
abbrev main_v52 : Ref sig .tc := ⟨.hbm, 77, rfl⟩
abbrev main_cst_5 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_6 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩

abbrev nD : Nat := 1
abbrev τ : Topo := Topo.v7x

variable {F : FTy → Type} [FloatOps F]
-- ==== Kernel4.lean ====
abbrev S1024x4096 : Shape := ⟨2, ![1024, 4096]⟩
abbrev S8192x4096 : Shape := ⟨2, ![8192, 4096]⟩
abbrev S8192x1024 : Shape := ⟨2, ![8192, 1024]⟩
abbrev S512x4096 : Shape := ⟨2, ![512, 4096]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S1024x4096, .f32⟩
  | .hbm, ⟨1, _⟩ => ⟨S8192x4096, .f32⟩
  | .hbm, ⟨2, _⟩ => ⟨S8192x4096, .bf16⟩
  | .hbm, ⟨3, _⟩ => ⟨S1024x4096, .bf16⟩
  | .hbm, ⟨4, _⟩ => ⟨S8192x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S1024x4096 : Shape := ⟨2, ![1024, 4096]⟩
abbrev S8192x4096 : Shape := ⟨2, ![8192, 4096]⟩
abbrev S_ : Shape := ⟨0, ![]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S8192x4096, .f32⟩
  | .hbm, ⟨2, _⟩ => ⟨S_, .f32⟩
  | .hbm, ⟨3, _⟩ => ⟨S8192x1024, .f32⟩
  | .hbm, ⟨4, _⟩ => ⟨S8192x4096, .f32⟩
  | .hbm, ⟨5, _⟩ => ⟨S8192x1024, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel5.lean ====
abbrev S8192x1024 : Shape := ⟨2, ![8192, 1024]⟩
abbrev S8192x4096 : Shape := ⟨2, ![8192, 4096]⟩
abbrev S8x1024x512 : Shape := ⟨3, ![8, 1024, 512]⟩
abbrev S4096x1024 : Shape := ⟨2, ![4096, 1024]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S8192x1024, .bf16⟩
  | .hbm, ⟨3, _⟩ => ⟨S8192x4096, .bf16⟩
  | .hbm, ⟨4, _⟩ => ⟨S8x1024x512, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S_, .f32⟩
  | .hbm, ⟨3, _⟩ => ⟨S1024x4096, .f32⟩
  | .hbm, ⟨4, _⟩ => ⟨S8192x4096, .f32⟩
  | .hbm, ⟨5, _⟩ => ⟨S4096x1024, .f32⟩
  | .hbm, ⟨6, _⟩ => ⟨S1024x4096, .f32⟩
  | .hbm, ⟨7, _⟩ => ⟨S1024x8x512, .f32⟩
  | .hbm, ⟨8, _⟩ => ⟨S8x1024x512, .f32⟩
  | .hbm, ⟨9, _⟩ => ⟨S8x1024x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S1024x2048 : Shape := ⟨2, ![1024, 2048]⟩
abbrev S8192x2048 : Shape := ⟨2, ![8192, 2048]⟩
abbrev S8192x1024 : Shape := ⟨2, ![8192, 1024]⟩
abbrev S512x2048 : Shape := ⟨2, ![512, 2048]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S1024x2048, .f32⟩
  | .hbm, ⟨1, _⟩ => ⟨S8192x2048, .f32⟩
  | .hbm, ⟨2, _⟩ => ⟨S8192x2048, .bf16⟩
  | .hbm, ⟨3, _⟩ => ⟨S1024x2048, .bf16⟩
  | .hbm, ⟨4, _⟩ => ⟨S8192x1024, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S512x1024, .f32⟩
  | .local _ .vmem, ⟨4, _⟩ => ⟨S512x1024, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S1024x2048 : Shape := ⟨2, ![1024, 2048]⟩
abbrev S8192x2048 : Shape := ⟨2, ![8192, 2048]⟩
abbrev S_ : Shape := ⟨0, ![]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S8192x2048, .f32⟩
  | .hbm, ⟨2, _⟩ => ⟨S_, .f32⟩
  | .hbm, ⟨3, _⟩ => ⟨S8192x1024, .f32⟩
  | .hbm, ⟨4, _⟩ => ⟨S8192x2048, .f32⟩
  | .hbm, ⟨5, _⟩ => ⟨S8192x1024, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel7.lean ====
abbrev S8192x1024 : Shape := ⟨2, ![8192, 1024]⟩
abbrev S8192x2048 : Shape := ⟨2, ![8192, 2048]⟩
abbrev S8x1024x256 : Shape := ⟨3, ![8, 1024, 256]⟩
abbrev S4096x1024 : Shape := ⟨2, ![4096, 1024]⟩
abbrev S4096x256 : Shape := ⟨2, ![4096, 256]⟩
abbrev S1x1024x256 : Shape := ⟨3, ![1, 1024, 256]⟩
abbrev S1024x256 : Shape := ⟨2, ![1024, 256]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x1024, .bf16⟩
  | .hbm, ⟨3, _⟩ => ⟨S8192x2048, .bf16⟩
  | .hbm, ⟨4, _⟩ => ⟨S8x1024x256, .bf16⟩
  | .local _ .vmem, ⟨0, _⟩ => ⟨S4096x1024, .bf16⟩
  | .local _ .vmem, ⟨1, _⟩ => ⟨S4096x1024, .bf16⟩
  | .local _ .vmem, ⟨2, _⟩ => ⟨S4096x256, .bf16⟩
  | .local _ .vmem, ⟨3, _⟩ => ⟨S4096x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1024x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S_, .f32⟩
  | .hbm, ⟨3, _⟩ => ⟨S1024x2048, .f32⟩
  | .hbm, ⟨4, _⟩ => ⟨S8192x2048, .f32⟩
  | .hbm, ⟨5, _⟩ => ⟨S2048x1024, .f32⟩
  | .hbm, ⟨6, _⟩ => ⟨S1024x2048, .f32⟩
  | .hbm, ⟨7, _⟩ => ⟨S1024x8x256, .f32⟩
  | .hbm, ⟨8, _⟩ => ⟨S8x1024x256, .f32⟩
  | .hbm, ⟨9, _⟩ => ⟨S8x1024x256, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S1024x1024 : Shape := ⟨2, ![1024, 1024]⟩
abbrev S8192x1024 : Shape := ⟨2, ![8192, 1024]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S8192x1024, .f32⟩
  | .hbm, ⟨2, _⟩ => ⟨S8192x1024, .bf16⟩
  | .hbm, ⟨3, _⟩ => ⟨S1024x1024, .bf16⟩
  | .hbm, ⟨4, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S1024x1024 : Shape := ⟨2, ![1024, 1024]⟩
abbrev S8192x1024 : Shape := ⟨2, ![8192, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S8192x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel9.lean ====
abbrev S8192x1024 : Shape := ⟨2, ![8192, 1024]⟩
abbrev S1x1024x1024 : Shape := ⟨3, ![1, 1024, 1024]⟩
abbrev S4096x1024 : Shape := ⟨2, ![4096, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1x1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S_ : Shape := ⟨0, ![]⟩
abbrev S1024x1024 : Shape := ⟨2, ![1024, 1024]⟩
abbrev S1024x1x1024 : Shape := ⟨3, ![1024, 1, 1024]⟩
abbrev S1x1024x1024 : Shape := ⟨3, ![1, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1024x1x1024, .f32⟩
  | .hbm, ⟨8, _⟩ => ⟨S1x1024x1024, .f32⟩
  | .hbm, ⟨9, _⟩ => ⟨S1x1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S8192x1024 : Shape := ⟨2, ![8192, 1024]⟩
abbrev S1024x4096 : Shape := ⟨2, ![1024, 4096]⟩
abbrev S1024x8x512 : Shape := ⟨3, ![1024, 8, 512]⟩
abbrev S8x1024x512 : Shape := ⟨3, ![8, 1024, 512]⟩
abbrev S_ : Shape := ⟨0, ![]⟩
abbrev S1x4096 : Shape := ⟨2, ![1, 4096]⟩
abbrev S8192x4096 : Shape := ⟨2, ![8192, 4096]⟩
abbrev S1024x1024 : Shape := ⟨2, ![1024, 1024]⟩
abbrev S1x1024x512 : Shape := ⟨3, ![1, 1024, 512]⟩
abbrev S1x512 : Shape := ⟨2, ![1, 512]⟩
abbrev S1024x512 : Shape := ⟨2, ![1024, 512]⟩

abbrev nBuf : Space → Nat
  | .hbm => 9
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x1024, .bf16⟩
  | .hbm, ⟨3, _⟩ => ⟨S1024x8x512, .f32⟩
  | .hbm, ⟨4, _⟩ => ⟨S8x1024x512, .f32⟩
  | .hbm, ⟨5, _⟩ => ⟨S8x1024x512, .bf16⟩
  | .hbm, ⟨6, _⟩ => ⟨S_, .f32⟩
  | .hbm, ⟨7, _⟩ => ⟨S1x4096, .f32⟩
  | .hbm, ⟨8, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference10Ideal.lean ====
abbrev S8192x1024 : Shape := ⟨2, ![8192, 1024]⟩
abbrev S1024x4096 : Shape := ⟨2, ![1024, 4096]⟩
abbrev S8192x4096 : Shape := ⟨2, ![8192, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel11.lean ====
abbrev S8192x1024 : Shape := ⟨2, ![8192, 1024]⟩
abbrev S1024x2048 : Shape := ⟨2, ![1024, 2048]⟩
abbrev S2048 : Shape := ⟨1, ![2048]⟩
abbrev S1024x8x256 : Shape := ⟨3, ![1024, 8, 256]⟩
abbrev S8x1024x256 : Shape := ⟨3, ![8, 1024, 256]⟩
abbrev S1x2048 : Shape := ⟨2, ![1, 2048]⟩
abbrev S8192x2048 : Shape := ⟨2, ![8192, 2048]⟩
abbrev S1024x1024 : Shape := ⟨2, ![1024, 1024]⟩
abbrev S1x1024x256 : Shape := ⟨3, ![1, 1024, 256]⟩
abbrev S1x256 : Shape := ⟨2, ![1, 256]⟩
abbrev S1024x256 : Shape := ⟨2, ![1024, 256]⟩

abbrev nBuf : Space → Nat
  | .hbm => 9
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S2048, .f32⟩
  | .hbm, ⟨3, _⟩ => ⟨S8192x1024, .bf16⟩
  | .hbm, ⟨4, _⟩ => ⟨S1024x8x256, .f32⟩
  | .hbm, ⟨5, _⟩ => ⟨S8x1024x256, .f32⟩
  | .hbm, ⟨6, _⟩ => ⟨S8x1024x256, .bf16⟩
  | .hbm, ⟨7, _⟩ => ⟨S1x2048, .f32⟩
  | .hbm, ⟨8, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x256, .f32⟩
  | .local _ .vmem, ⟨5, _⟩ => ⟨S1x256, .f32⟩
  | .local _ .vmem, ⟨6, _⟩ => ⟨S1024x256, .f32⟩
  | .local _ .vmem, ⟨7, _⟩ => ⟨S1024x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference11Ideal.lean ====
abbrev S8192x1024 : Shape := ⟨2, ![8192, 1024]⟩
abbrev S1024x2048 : Shape := ⟨2, ![1024, 2048]⟩
abbrev S2048 : Shape := ⟨1, ![2048]⟩
abbrev S8192x2048 : Shape := ⟨2, ![8192, 2048]⟩
abbrev S1x2048 : Shape := ⟨2, ![1, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S2048, .f32⟩
  | .hbm, ⟨3, _⟩ => ⟨S8192x2048, .f32⟩
  | .hbm, ⟨4, _⟩ => ⟨S1x2048, .f32⟩
  | .hbm, ⟨5, _⟩ => ⟨S8192x2048, .f32⟩
  | .hbm, ⟨6, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 20
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024, .f32⟩
  | .hbm, ⟨3, _⟩ => ⟨S8192x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S8192x1024, .bf16⟩
  | .hbm, ⟨10, _⟩ => ⟨S1024x1024, .bf16⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference12Ideal.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 59
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024, .f32⟩
  | .hbm, ⟨3, _⟩ => ⟨S8192x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S8192x1024, .f32⟩
  | .hbm, ⟨10, _⟩ => ⟨S1x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S1x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S1024, .f32⟩
  | .hbm, ⟨51, _⟩ => ⟨S1024, .f32⟩
  | .hbm, ⟨52, _⟩ => ⟨S1x1024, .f32⟩
  | .hbm, ⟨53, _⟩ => ⟨S8192x1024, .f32⟩
  | .hbm, ⟨54, _⟩ => ⟨S8192x1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== Proof.GatePay.lean ====
/- What the gate's backward kernel stores, read at one index: the payloads of one grid point over the point's blocks. -/
module

public import proofs.«01_k».proof.Proof.Gen.KernelIdeal.Skeleton
public import Idealize.ShloMosaic.Lib.Pointwise

@[expose] public section

set_option maxRecDepth 16384

noncomputable section

namespace Cert.KernelIdeal.Gate

open Cert.KernelIdeal Cert.KernelIdeal.Gen Idealize.ShloMosaic

/-- The accumulator is cleared with zeros. -/
theorem zero_at (j : S704x1024.Idx) : k0_pay4 (F := Ideal) j = 0 := by pointwise [k0_pay4]

/-- The last cast changes no value. -/
theorem cast_at (v : Vec Ideal S704x1024 .f32) (j : S704x1024.Idx) : k0_pay3 (F := Ideal) v j = v j := by pointwise [k0_pay3]

/-- One point adds, to the accumulator, the product of its 512 rows of `silu(a)·b` with its 512 rows of the cotangent. -/
theorem acc_at (y : Vec Ideal S512x1024 .bf16) (a b : Vec Ideal S1x1x512x704 .bf16) (acc : Vec Ideal S704x1024 .f32) (j : S704x1024.Idx) :
    k0_pay11 (F := Ideal) y a b acc j
      = acc j + ∑ k : Fin 512, (a (ix4 0 0 k (j 0)) * Ideal.logistic (a (ix4 0 0 k (j 0)))) * b (ix4 0 0 k (j 0)) * y (ix2 k (j 1)) := by
  pointwise [k0_pay11, k0_pay10, k0_pay9, k0_pay8, k0_pay7, k0_pay5]

/-- The gradient of `a` that one point stores. -/
theorem da_at (y : Vec Ideal S512x1024 .bf16) (w : Vec Ideal S1x704x1024 .bf16) (a b : Vec Ideal S1x1x512x704 .bf16) (x : S1x1x512x704.Idx) :
    k0_pay1 (F := Ideal) (k0_pay12 y w a b) x
      = (∑ l : Fin 1024, y (ix2 (x 2) l) * w (ix3 0 (x 3) l)) * b (ix4 0 0 (x 2) (x 3))
        * (Ideal.logistic (a (ix4 0 0 (x 2) (x 3))) + a (ix4 0 0 (x 2) (x 3)) * Ideal.logistic (a (ix4 0 0 (x 2) (x 3))) * (1 - Ideal.logistic (a (ix4 0 0 (x 2) (x 3))))) := by
  idx_vars x
  pointwise [k0_pay1, k0_pay12, k0_pay10, k0_pay9, k0_pay8, k0_pay7, k0_pay6, k0_pay5]

/-- The gradient of `b` that one point stores. -/
theorem db_at (y : Vec Ideal S512x1024 .bf16) (w : Vec Ideal S1x704x1024 .bf16) (a : Vec Ideal S1x1x512x704 .bf16) (x : S1x1x512x704.Idx) :
    k0_pay2 (F := Ideal) (k0_pay6 y w) (k0_pay10 a) x
      = (∑ l : Fin 1024, y (ix2 (x 2) l) * w (ix3 0 (x 3) l)) * (a (ix4 0 0 (x 2) (x 3)) * Ideal.logistic (a (ix4 0 0 (x 2) (x 3)))) := by
  idx_vars x
  pointwise [k0_pay2, k0_pay10, k0_pay9, k0_pay8, k0_pay7, k0_pay6, k0_pay5]

end Cert.KernelIdeal.Gate

end
-- ==== Proof.GateRef.lean ====
/- The reference's two results of the gate's backward pass, read at one index. -/
module

public import proofs.«01_k».proof.Proof.Gen.ReferenceIdeal.Read
public import Idealize.ShloMosaic.Lib.Pointwise

@[expose] public section

set_option maxRecDepth 16384

noncomputable section

namespace Cert.ReferenceIdeal.Gate

open Cert.ReferenceIdeal Cert.ReferenceIdeal.Gen Cert.ReferenceIdeal.Read Idealize.ShloMosaic

theorem row_lt (j : S2816x1024.Idx) : (j 0 : ℕ) < 5632 :=
  lt_trans (show (j 0 : ℕ) < 2816 from (j 0).isLt) (by decide)

theorem row_lt' (j : S2816x1024.Idx) : 2816 + (j 0 : ℕ) < 5632 := by
  have h : (j 0 : ℕ) < 2816 := (j 0).isLt
  omega

/-- The gradient of `w_down`. -/
theorem dw_at (u : FVec Ideal S8192x5632 .f32) (y : FVec Ideal S8192x1024 .f32) (j : S2816x1024.Idx) :
    val_main_v15 (F := Ideal) u y j
      = ∑ k : Fin 8192, (u (ix2 k ⟨j 0, row_lt j⟩) * Ideal.logistic (u (ix2 k ⟨j 0, row_lt j⟩)) * u (ix2 k ⟨2816 + j 0, row_lt' j⟩)) * y (ix2 k (j 1)) := by
  pointwise [val_main_v15, val_main_v6, val_main_v5, val_main_v3, val_main_v2_0, val_main_v2_2, val_main_call0_v4, val_main_call0_v3, val_main_call0_v2, val_main_call0_v1, val_main_call0_v0, val_main_call0_cst_0, val_main_call0_cst, val_main_v1, val_main_v0]
  exact Finset.sum_congr rfl fun k _ => mul_comm _ _

/-- The gradient of the gate's first half, `a`. -/
theorem da_at (u : FVec Ideal S8192x5632 .f32) (w : FVec Ideal S2816x1024 .f32) (y : FVec Ideal S8192x1024 .f32) (j : Fin 4) (k : Fin 8192) (r : Fin 704) :
    val_main_v14 (F := Ideal) u w y (ix4 0 j k r)
      = (∑ l : Fin 1024, y (ix2 k l) * w (ix2 ⟨j * 704 + r, by omega⟩ l)) * u (ix2 k ⟨2816 + (j * 704 + r), by omega⟩) * Ideal.logistic (u (ix2 k ⟨j * 704 + r, by omega⟩))
        + u (ix2 k ⟨j * 704 + r, by omega⟩) * ((∑ l : Fin 1024, y (ix2 k l) * w (ix2 ⟨j * 704 + r, by omega⟩ l)) * u (ix2 k ⟨2816 + (j * 704 + r), by omega⟩))
          * (Ideal.logistic (u (ix2 k ⟨j * 704 + r, by omega⟩)) * (1 - Ideal.logistic (u (ix2 k ⟨j * 704 + r, by omega⟩)))) := by
  pointwise [val_main_v14, val_main_v13, val_main_v12, val_main_v11, val_main_v10, val_main_call1_v2, val_main_call1_v1, val_main_call1_v0, val_main_v9, val_main_v8, val_main_v7, val_main_v2_1, val_main_call0_v7, val_main_call0_v6, val_main_call0_cst_1, val_main_v2_0, val_main_v2_2, val_main_call0_v4, val_main_call0_v3, val_main_call0_v2, val_main_call0_v1, val_main_call0_v0, val_main_call0_cst_0, val_main_call0_cst, val_main_v1, val_main_v0]
  rw [dif_pos (by omega)]
  rfl

/-- The gradient of the gate's second half, `b`. -/
theorem db_at (u : FVec Ideal S8192x5632 .f32) (w : FVec Ideal S2816x1024 .f32) (y : FVec Ideal S8192x1024 .f32) (j : Fin 4) (k : Fin 8192) (r : Fin 704) :
    val_main_v14 (F := Ideal) u w y (ix4 1 j k r)
      = (∑ l : Fin 1024, y (ix2 k l) * w (ix2 ⟨j * 704 + r, by omega⟩ l)) * (u (ix2 k ⟨j * 704 + r, by omega⟩) * Ideal.logistic (u (ix2 k ⟨j * 704 + r, by omega⟩))) := by
  pointwise [val_main_v14, val_main_v13, val_main_v12, val_main_v11, val_main_v10, val_main_call1_v2, val_main_call1_v1, val_main_call1_v0, val_main_v9, val_main_v8, val_main_v7, val_main_v2_1, val_main_call0_v7, val_main_call0_v6, val_main_call0_cst_1, val_main_v2_0, val_main_v2_2, val_main_call0_v4, val_main_call0_v3, val_main_call0_v2, val_main_call0_v1, val_main_call0_v0, val_main_call0_cst_0, val_main_call0_cst, val_main_v1, val_main_v0]
  rw [dif_neg (by omega)]
  have e : ∀ h, (⟨2816 + (j : ℕ) * 704 + r - 2816, h⟩ : Fin 2816) = ⟨j * 704 + r, by omega⟩ := fun h => Fin.ext (by simp only []; omega)
  have e' : ∀ h, (⟨2816 + (j : ℕ) * 704 + r - 2816, h⟩ : Fin 5632) = ⟨j * 704 + r, by omega⟩ := fun h => Fin.ext (by simp only []; omega)
  simp only [e, e']
  rw [mul_comm]
  rfl

end Cert.ReferenceIdeal.Gate

end
-- ==== Proof.GateAlg.lean ====
/- The one step of the gate's backward pass in which the kernel factors a product out of a sum. Over the extended reals this needs the factor to be finite. -/
module

public import Idealize.ShloMosaic.Lib.Pipeline.ValueKit

@[expose] public section

noncomputable section

namespace Cert.Gate

open Idealize.ShloMosaic

/-- A sum of products of finite numbers is finite. -/
theorem sum_mul_real {n : ℕ} (y w : Fin n → EReal) (hy : ∀ l, ∃ r : ℝ, y l = r) (hw : ∀ l, ∃ r : ℝ, w l = r) :
    ∃ r : ℝ, ∑ l, y l * w l = r := by
  choose yr hy using hy
  choose wr hw using hw
  refine ⟨∑ l, yr l * wr l, ?_⟩
  simp only [hy, hw, ← EReal.coe_mul]
  induction (Finset.univ : Finset (Fin n)) using Finset.cons_induction with
  | empty => simp
  | cons i s hi ih => simp only [Finset.sum_cons, ih, EReal.coe_add]

/-- The derivative of `silu`, factored (left) and as the chain rule gives it (right), times a finite cotangent. -/
theorem silu_grad (z b a : EReal) (hz : ∃ r : ℝ, z = r) (hb : ∃ r : ℝ, b = r) (ha : ∃ r : ℝ, a = r) :
    z * b * (Ideal.logistic a + a * Ideal.logistic a * (1 - Ideal.logistic a))
      = z * b * Ideal.logistic a + a * (z * b) * (Ideal.logistic a * (1 - Ideal.logistic a)) := by
  obtain ⟨z, rfl⟩ := hz
  obtain ⟨b, rfl⟩ := hb
  obtain ⟨a, rfl⟩ := ha
  simp only [Ideal.logistic_coe, ← EReal.coe_one, ← EReal.coe_mul, ← EReal.coe_sub, ← EReal.coe_add]
  congr 1
  ring

end Cert.Gate

end
-- ==== Proof.Finite.lean ====
/- The precondition `finite`, read element by element: every element of the three argument arrays is a real number. -/
module

public import proofs.«01_k».proof.Proof.Gen.Pre_finite
public import Idealize.ShloMosaic.Lib.ReduceAll
public import Idealize.ShloMosaic.Lib.Pointwise

@[expose] public section

set_option maxRecDepth 16384

noncomputable section

namespace Cert.Pre_finite.Value

open Cert.Pre_finite Cert.Pre_finite.Gen Idealize.ShloMosaic

/-- A value of `EReal` whose absolute value is less than `⊤` is the cast of a real number. -/
theorem exists_real {x : EReal} (h : max x (-x) < ⊤) : ∃ r : ℝ, x = (r : EReal) := by
  induction x using EReal.rec with
  | bot => simp at h
  | coe r => exact ⟨r, rfl⟩
  | top => simp at h

instance : Subsingleton S_.Idx := ⟨fun a b => funext fun i => i.elim0⟩

/-- One conjunct of the precondition: where `abs x < inf` is all ones, every element of `x` is a real number. -/
theorem real_of_all {s : Shape} {axes : List (Fin s.rank)} (x : FVec Ideal s .f32) (hb : S_.BroadcastsInDim s ![]) (h : s.ReducesTo axes S_) (hu : 0 < S_.numel)
    (e : Host.reduce IntOp.andi (cmpf .olt (Host.absf x) (broadcastInDim s ![] hb (constant S_ .f32 0x7F800000#32))) (constantI S_ 1 1#1) h hu (fun i => i.elim0) = 1#1)
    (i : s.Idx) : ∃ r : ℝ, (x i : EReal) = (r : EReal) := by
  have := Host.reduce_andi_all _ _ _ _ _ e i
  pointwise at this
  have hd : ∀ b : Bool, BitVec.ofBool b = 1#1 → b = true := by decide
  have hlt := of_decide_eq_true (hd _ this)
  rw [show Ideal.ofBits .f32 0x7F800000#32 = ⊤ from by simp [Ideal.ofBits, Ideal.ieee]] at hlt
  exact exists_real hlt

/-- The precondition, element by element. -/
theorem finite_at (x0 : FVec Ideal S8192x5632 .f32) (x1 : FVec Ideal S2816x1024 .f32) (x2 : FVec Ideal S8192x1024 .f32)
    (h : fn (F := Ideal) x0 x1 x2 = fun _ => 1#1) :
    (∀ i, ∃ r : ℝ, (x0 i : EReal) = (r : EReal)) ∧ (∀ i, ∃ r : ℝ, (x1 i : EReal) = (r : EReal)) ∧ (∀ i, ∃ r : ℝ, (x2 i : EReal) = (r : EReal)) := by
  have e := congrFun h (fun i => i.elim0)
  unfold fn at e
  dsimp only [andi] at e
  obtain ⟨e, e2⟩ := IntOp.andi_eq_one.1 e
  obtain ⟨e0, e1⟩ := IntOp.andi_eq_one.1 e
  exact ⟨real_of_all x0 _ _ _ e0, real_of_all x1 _ _ _ e1, real_of_all x2 _ _ _ e2⟩

end Cert.Pre_finite.Value

end
-- ==== Proof.GateValue.lean ====
/- The two result arrays of the gate's backward kernel after the run, element by element. -/
module

public import proofs.«01_k».proof.Proof.GatePay
public import proofs.«01_k».proof.Proof.GateRef
public import proofs.«01_k».proof.Proof.GateAlg
public import proofs.«01_k».proof.Proof.Finite
public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.KernelIdeal.Gate

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- Where each window's block sits at grid point `t`: shard `t / 16`, rows `512·(t % 16)` on. -/
theorem idx : ∀ t : Fin cfg0.N, win0_0.index t = ![t.val % 16, 0] ∧ win0_1.index t = ![0, t.val / 16, t.val % 16, 0] ∧ win0_2.index t = ![t.val / 16, 0, 0]
    ∧ win0_3.index t = ![0, t.val / 16, t.val % 16, 0] ∧ win0_4.index t = ![t.val / 16, 0] ∧ t.val < 64 :=
  (by decide +kernel : ∀ t : Fin grid0.N, _)

theorem flush4 : ∀ t : Fin cfg0.N, (cfg0.win 4).flush t = true → t.val % 16 = 16 - 1 :=
  (by decide +kernel : ∀ t : Fin grid0.N, (cfg0.win 4).flush t = true → t.val % 16 = 16 - 1)

/-- The three blocks that one point reads. -/
abbrev ctb (c : Dev nD) (t : Fin cfg0.N) : FVec Ideal S512x1024 .bf16 := iblk m c 0 t
abbrev ucb (c : Dev nD) (t : Fin cfg0.N) : FVec Ideal S2x1x512x704 .bf16 := iblk m c 1 t
abbrev wdb (c : Dev nD) (t : Fin cfg0.N) : FVec Ideal S1x704x1024 .bf16 := iblk m c 2 t

/-- Window 0 is the cotangent's 512 rows. -/
theorem ct_at (c : Dev nD) (t : Fin cfg0.N) (k : Fin 512) (l : Fin 1024) :
    ctb m c t (ix2 k l) = m ((c : Thread nD τ).loc main_arg2) (ix2 ⟨t % 16 * 512 + k, by omega⟩ l) := by
  blk_point [ctb, ucb, wdb, iblk, V, idx t]

/-- Window 1 is 512 rows of the two halves of `u`, 704 columns of each. -/
theorem ua_at (c : Dev nD) (t : Fin cfg0.N) (k : Fin 512) (r : Fin 704) :
    ucb m c t (ix4 0 0 k r) = m ((c : Thread nD τ).loc main_arg0)
      (ix2 ⟨t % 16 * 512 + k, by omega⟩ ⟨t / 16 * 704 + r, by have := (idx t).2.2.2.2.2; omega⟩) := by
  blk_point [ctb, ucb, wdb, iblk, V, idx t]

theorem ub_at (c : Dev nD) (t : Fin cfg0.N) (k : Fin 512) (r : Fin 704) :
    ucb m c t (ix4 1 0 k r) = m ((c : Thread nD τ).loc main_arg0)
      (ix2 ⟨t % 16 * 512 + k, by omega⟩ ⟨2816 + (t / 16 * 704 + r), by have := (idx t).2.2.2.2.2; omega⟩) := by
  blk_point [ctb, ucb, wdb, iblk, V, idx t]

/-- Window 2 is 704 rows of `w_down`. -/
theorem wd_at (c : Dev nD) (t : Fin cfg0.N) (r : Fin 704) (l : Fin 1024) :
    wdb m c t (ix3 0 r l) = m ((c : Thread nD τ).loc main_arg1)
      (ix2 ⟨t / 16 * 704 + r, by have := (idx t).2.2.2.2.2; omega⟩ l) := by
  blk_point [ctb, ucb, wdb, iblk, V, idx t]

/-- The last point of a run casts what the accumulator then holds into the block of the second result. -/
theorem out4 (c : Dev nD) (t : Fin cfg0.N) (h : t.val % 16 = 15) (j : S704x1024.Idx) :
    (outsAt0 m c t.val t.isLt).2.1 j = (outsAt0 m c t.val t.isLt).2.2 j := by
  rw [outsAt0_C m c t (by omega) h]; frame_out; rw [cast_at]

/-- THE SECOND RESULT is the reference's gradient of `w_down`: sixteen parts of 512 rows make the sum over 8192 rows. -/
theorem final4 (c : Dev nD) : (dats m 0 c).arrAt 4 (cfgs 0).N
    = Cert.ReferenceIdeal.Read.val_main_v15 (F := Ideal) (m ((c : Thread nD τ).loc main_arg0)) (m ((c : Thread nD τ).loc main_arg2)) := by
  refine (dats m 0 c).arrAt_eq_of_covers 4 _ (by decide +kernel) fun t hf y => ?_
  blk_simp
  rw [after0_4, out4 m c t (flush4 t hf), Pipeline.eq_sum_fin_of_reset_step_apply_of_flush (fun n h => (outsAt0 m c n h).2.2) 16 (fun _ => 0) _
    (fun t h j => by rw [outsAt0_A m c t h (by omega)]; frame_out; rw [acc_at, zero_at])
    (fun t h j => by
      by_cases h1 : t.val % 16 = 15
      · rw [outsAt0_C m c t h h1]; frame_out; rw [acc_at, read_unread_whole]
      · rw [outsAt0_B m c t h h1]; frame_out; rw [acc_at, read_unread_whole])
    t (flush4 t hf) _, zero_add, Cert.ReferenceIdeal.Gate.dw_at]
  refine Fin.sum_mul_add_congr fun s k hl => ?_
  pointwise []
  blk_point [iblk, V, idx t, idx ⟨_, Pipeline.run_point_lt_of_flush t (flush4 t hf) s⟩]

variable (fin : Cert.Pre_finite.fn (F := Ideal) (m ((0 : Dev nD).tc.loc main_arg0)) (m ((0 : Dev nD).tc.loc main_arg1)) (m ((0 : Dev nD).tc.loc main_arg2)) = fun _ => 1#1)

/-- The first result as the reference has it. -/
abbrev duc : FVec Ideal S2x4x8192x704 .bf16 :=
  Cert.ReferenceIdeal.Read.val_main_v14 (F := Ideal) (m ((0 : Dev nD).tc.loc main_arg0)) (m ((0 : Dev nD).tc.loc main_arg1)) (m ((0 : Dev nD).tc.loc main_arg2))

include fin in
/-- What point `t` stores of the gradient of `a` is the reference's. -/
theorem da_core (t : Fin cfg0.N) (k : Fin 512) (r : Fin 704) (q : Fin 4) (k' : Fin 8192) (hq : (q : ℕ) = t / 16) (hk : (k' : ℕ) = t % 16 * 512 + k) :
    (∑ l : Fin 1024, ctb m 0 t (ix2 k l) * wdb m 0 t (ix3 0 r l)) * ucb m 0 t (ix4 1 0 k r)
        * (Ideal.logistic (ucb m 0 t (ix4 0 0 k r)) + ucb m 0 t (ix4 0 0 k r) * Ideal.logistic (ucb m 0 t (ix4 0 0 k r)) * (1 - Ideal.logistic (ucb m 0 t (ix4 0 0 k r))))
      = duc m (ix4 0 q k' r) := by
  obtain ⟨fu, fw, fy⟩ := Cert.Pre_finite.Value.finite_at _ _ _ fin
  have ht := (idx t).2.2.2.2.2
  have hk' : k' = ⟨t % 16 * 512 + k, by omega⟩ := Fin.ext hk
  have hq' : q = ⟨t / 16, by omega⟩ := Fin.ext hq
  rw [hk', hq']
  rw [duc, Cert.ReferenceIdeal.Gate.da_at]
  simp only [ua_at, ub_at, ct_at, wd_at]

  rw [Cert.Gate.silu_grad _ _ _ (Cert.Gate.sum_mul_real _ _ (fun l => fy _) (fun l => fw _)) (fu _) (fu _)]

/-- What point `t` stores of the gradient of `b` is the reference's. -/
theorem db_core (t : Fin cfg0.N) (k : Fin 512) (r : Fin 704) (q : Fin 4) (k' : Fin 8192) (hq : (q : ℕ) = t / 16) (hk : (k' : ℕ) = t % 16 * 512 + k) :
    (∑ l : Fin 1024, ctb m 0 t (ix2 k l) * wdb m 0 t (ix3 0 r l))
        * (ucb m 0 t (ix4 0 0 k r) * Ideal.logistic (ucb m 0 t (ix4 0 0 k r)))
      = duc m (ix4 1 q k' r) := by
  have ht := (idx t).2.2.2.2.2
  have hk' : k' = ⟨t % 16 * 512 + k, by omega⟩ := Fin.ext hk
  have hq' : q = ⟨t / 16, by omega⟩ := Fin.ext hq
  rw [hk', hq']
  rw [duc, Cert.ReferenceIdeal.Gate.db_at]
  simp only [ua_at, ub_at, ct_at, wd_at]

include fin in
/-- Every point stores both halves of its block of the first result. -/
theorem out3 (t : Fin cfg0.N) (y : S2x1x512x704.Idx) (p : Fin 2) (q : Fin 4) (k' : Fin 8192) (r : Fin 704)
    (hp : (p : ℕ) = y 0) (hq : (q : ℕ) = t / 16) (hk : (k' : ℕ) = t % 16 * 512 + y 2) (hr : (r : ℕ) = y 3) :
    (outsAt0 m (0 : Dev nD) t.val t.isLt).1 y = duc m (ix4 p q k' r) := by
  have g : t.val % 16 = 0 ∨ (¬ t.val % 16 = 0 ∧ ¬ t.val % 16 = 15) ∨ t.val % 16 = 15 := by omega
  rcases g with g | g | g
  on_goal 1 => rw [outsAt0_A m _ t g (by omega)]
  on_goal 2 => rw [outsAt0_B m _ t g.1 g.2]
  on_goal 3 => rw [outsAt0_C m _ t (by omega) g]
  all_goals
    frame_out
    canon_tiles x f
    · obtain rfl : p = 1 := Fin.ext (by simp only [Fin.val_one]; omega)
      obtain rfl : r = x 3 := Fin.ext (by omega)
      rw [db_at]
      pointwise []
      exact db_core m t (x 2) (x 3) q k' hq (by omega)
    · obtain rfl : p = 0 := Fin.ext (by simp only [Fin.val_zero]; omega)
      obtain rfl : r = x 3 := Fin.ext (by omega)
      rw [da_at]
      pointwise []
      exact da_core m fin t (x 2) (x 3) q k' hq (by omega)

include fin in
/-- THE FIRST RESULT is the reference's gradient of `u`, laid out by halves and shards. -/
theorem final3 : (dats m 0 (0 : Dev nD)).arrAt 3 (cfgs 0).N = duc m := by
  refine (dats m 0 (0 : Dev nD)).arrAt_eq_of_covers 3 _ (by decide +kernel) fun t hf y => ?_
  blk_simp [idx t]
  rw [after0_3]
  refine (out3 m fin t y (y 0) ⟨t / 16, by have := (idx t).2.2.2.2.2; omega⟩ ⟨t % 16 * 512 + y 2, by have : (y 2 : ℕ) < 512 := (y 2).isLt; omega⟩ (y 3) rfl rfl rfl rfl).trans ?_
  refine congrArg (duc m) ?_

  blk_ext [idx t]

end Cert.KernelIdeal.Gate

end
-- ==== Proof.GateClaim.lean ====
/- The equation of the gate's backward kernel with the gradient of its reference. -/
module

public import proofs.«01_k».proof.Defs
public import proofs.«01_k».proof.Proof.GateValue
public import proofs.«01_k».proof.Proof.Gen.KernelIdeal.Value
public import proofs.«01_k».proof.Proof.Gen.ReferenceIdeal.Run
public import proofs.«01_k».proof.Proof.Gen.ReferenceIdeal.Read
public import Idealize.ShloMosaic.Lib.Quiescent

@[expose] public section

set_option maxRecDepth 16384

noncomputable section

namespace Cert.Gate

open Idealize.ShloMosaic Idealize.ShloMosaic.TcCoe Idealize.SL.Sem

attribute [local instance] Cert.KernelIdeal.Gen.facts Cert.ReferenceIdeal.Gen.facts Cert.Pre_finite.Gen.facts

/-- The reference runs, leaves its arguments, and has no semaphores. -/
theorem frame_ref : Cert.quiescent_ReferenceIdeal := fun m g _ =>
  (θ_run Cert.ReferenceIdeal.defs _ _).mono (fun r h => ⟨fun c => (h c).2.2, sem_eq_zero_of_no_sems (by decide) r.2⟩) (Cert.ReferenceIdeal.Value.run m g)

/-- At finite arguments both programs end with the same two arrays: the gradients of `u` and of `w_down`. -/
theorem algebraic : Cert.algebraic_KernelIdeal_ReferenceIdeal_pre_finite := by
  intro m g m' g' hpre hargs
  have hc : ∀ c : Dev Cert.KernelIdeal.nD, c = 0 := fun c => Subsingleton.elim _ _
  refine ⟨fun c => (Cert.KernelIdeal.Gen.dats m 0 c).arrAt 3 _, fun c => (Cert.KernelIdeal.Gen.dats m 0 c).arrAt 4 _,
    Cert.KernelIdeal.Value.run_blocks m g, (θ_run Cert.ReferenceIdeal.defs _ _).mono (fun r h c => ?_) (Cert.ReferenceIdeal.Value.run m' g')⟩
  obtain ⟨h0, h1, h2, h3, h4⟩ := h c
  obtain ⟨a0, a1, a2⟩ := hargs c
  have e := hc c
  subst e
  refine ⟨h0.trans ?_, h1.trans ?_, h2, h3, h4⟩
  · rw [Cert.ReferenceIdeal.Read.val_main_v14_eq, a0, a1, a2]
    exact (Cert.KernelIdeal.Gate.final3 m (hpre 0)).symm
  · rw [Cert.ReferenceIdeal.Read.val_main_v15_eq, a0, a2]
    exact (Cert.KernelIdeal.Gate.final4 m 0).symm

end Cert.Gate

end
-- ==== Proof.TapsBody.lean ====
/-
  The convolution block's backward call `ffn1_bwd_b`: its body, part by part.

  At grid point `i` (row block `i 0` of sixteen, shard `i 1` of eight) the body rebuilds the gradient of the block's
  projection from the gradient of its convolution, adds that gradient's product with the shard's weights to one scratch,
  its product with the rows to the shard's part of the other, and sends that part to HBM at the last row block; it also
  adds to the shard's four rows of the taps' gradient. Each printed part of the body is run once here, for any float
  values, with every buffer given by its values before and after.
-/
module

public import proofs.«01_k».proof.Proof.Gen.Kernel2Ideal.Frame
public import proofs.«01_k».proof.Proof.Gen.Kernel2Ideal.Skeleton
public import proofs.«01_k».proof.Proof.Gen.Kernel2Ideal.Points
public import Idealize.ShloMosaic.Lib.VecWindow
public import Idealize.ShloMosaic.Lib.WholeRead
public import Idealize.ShloMosaic.Lib.ViewIndex

@[expose] public section

set_option maxRecDepth 16384

noncomputable section

namespace Cert.Taps

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline library's, beside the counters a transfer's invariant takes its tokens from. -/
abbrev UC (nD : Nat) (τ : Topo) : Type := UR sig nD τ × Counters

local notation "𝕄" => MT nD τ sig Unit (Elt F) ℕ (UC nD τ) ℕ

/-- Memref `M` on core `c`, held whole at the values `X`. -/
abbrev at_ (c : Dev nD) {sp : Space} {S : Shape} {e : EltTy} (M : Memref sig .tc sp S e) (X : S.Idx → Elt F e) : sProp 𝕄 :=
  owns (c : Thread nD τ) M fullShare X

/-- The first grid point, as the body tests for it. -/
abbrev isFirst (i : grid0.Coords) : Prop :=
  Scalar.cmpi (w := 32) .ne (Scalar.extui (Scalar.andi (Scalar.cmpi .eq (BitVec.ofNat 32 (i 0).val) 0#32) (Scalar.cmpi .eq (BitVec.ofNat 32 (i 1).val) 0#32))) 0#32 = 1#1
/-- The first shard of a row block, as the body tests for it. -/
abbrev isHead (i : grid0.Coords) : Prop :=
  Scalar.cmpi (w := 32) .ne (Scalar.extui (Scalar.cmpi .eq (BitVec.ofNat 32 (i 1).val) 0#32)) 0#32 = 1#1

/-- Where shard `i 1` of an array of eight shards begins; and where its row `k` does. -/
abbrev so (i : grid0.Coords) (k : ℕ) : Fin 3 → ℕ := ![(i 1).val, k, 0]

theorem word_val (i : grid0.Coords) : (BitVec.ofNat 32 (i 1).val).toNat = (i 1).val := by
  have h : (i 1).val < 8 := (i 1).isLt
  rw [BitVec.toNat_ofNat]; exact Nat.mod_eq_of_lt (by omega)

theorem off1_eq (i : grid0.Coords) : k0_off1 i = so i 0 := by
  show ![(BitVec.ofNat 32 (i 1).val).toNat, 0, 0] = so i 0
  rw [word_val]
theorem off2_eq (i : grid0.Coords) : k0_off2 i = so i 0 := off1_eq i
theorem off3_eq (i : grid0.Coords) : k0_off3 i = so i 0 := off1_eq i
theorem off4_eq (i : grid0.Coords) : k0_off4 i = so i 0 := off1_eq i
theorem off5_eq (i : grid0.Coords) : k0_off5 i = so i 0 := off1_eq i
theorem off6_eq (i : grid0.Coords) : k0_off6 i = so i 1 := by
  show ![(BitVec.ofNat 32 (i 1).val).toNat, 1, 0] = so i 1
  rw [word_val]
theorem off7_eq (i : grid0.Coords) : k0_off7 i = so i 2 := by
  show ![(BitVec.ofNat 32 (i 1).val).toNat, 2, 0] = so i 2
  rw [word_val]
theorem off8_eq (i : grid0.Coords) : k0_off8 i = so i 3 := by
  show ![(BitVec.ofNat 32 (i 1).val).toNat, 3, 0] = so i 3
  rw [word_val]

theorem shard_inb (i : grid0.Coords) : ∀ a, so i 0 a + S1x1024x704.size a ≤ S8x1024x704.size a := by
  have h : (i 1).val < 8 := (i 1).isLt
  intro a; fin_cases a
  · show (i 1).val + 1 ≤ 8; omega
  · show 0 + 1024 ≤ 1024; omega
  · show 0 + 704 ≤ 704; omega
theorem row_inb (i : grid0.Coords) {k : ℕ} (hk : k < 8) : ∀ a, so i k a + S1x1x704.size a ≤ S8x8x704.size a := by
  have h : (i 1).val < 8 := (i 1).isLt
  intro a; fin_cases a
  · show (i 1).val + 1 ≤ 8; omega
  · show k + 1 ≤ 8; omega
  · show 0 + 704 ≤ 704; omega

/-- The shard of `W` the point works on; the array with that shard replaced. -/
abbrev shard {α : Type} (i : grid0.Coords) (W : S8x1024x704.Idx → α) : S1x1024x704.Idx → α :=
  VecWindow.window W (so i 0) S1x1024x704.size (shard_inb i)
abbrev putShard {α : Type} (i : grid0.Coords) (W : S8x1024x704.Idx → α) (w : S1x1024x704.Idx → α) : S8x1024x704.Idx → α :=
  VecWindow.put W (so i 0) S1x1024x704.size w
/-- Row `k` of the shard of `G` the point works on; the array with that row replaced. -/
abbrev row {α : Type} (i : grid0.Coords) (k : ℕ) (hk : k < 8) (G : S8x8x704.Idx → α) : S1x1x704.Idx → α :=
  VecWindow.window G (so i k) S1x1x704.size (row_inb i hk)
abbrev putRow {α : Type} (i : grid0.Coords) (k : ℕ) (G : S8x8x704.Idx → α) (w : S1x1x704.Idx → α) : S8x8x704.Idx → α :=
  VecWindow.put G (so i k) S1x1x704.size w
/-- The convolution's tap `k`. -/
abbrev tap {α : Type} (k : ℕ) (h : ∀ a, (![0, k, 0] : Fin 3 → ℕ) a + S1x1x704.size a ≤ S1x3x704.size a) (T : S1x3x704.Idx → α) : S1x1x704.Idx → α :=
  VecWindow.window T ![0, k, 0] S1x1x704.size h

variable (c : Dev nD) (i : grid0.Coords)
  (a2 : Memref sig .tc .vmem S1x512x704 .bf16) (h2 : a2.IsWhole) (a3 : Memref sig .tc .vmem S1x16x704 .bf16) (h3 : a3.IsWhole)
  (a4 : Memref sig .tc .vmem S1x512x704 .f32) (h4 : a4.IsWhole) (a5 : Memref sig .tc .vmem S512x1024 .bf16) (h5 : a5.IsWhole)
  (a6 : Memref sig .tc .vmem S1x3x704 .f32) (h6 : a6.IsWhole) (a7 : Memref sig .tc .vmem S1x1024x704 .bf16) (h7 : a7.IsWhole)
  (a8 : Memref sig .tc .vmem S512x1024 .f32) (h8 : a8.IsWhole) (a9 : Memref sig .tc .vmem S8x8x704 .f32) (h9 : a9.IsWhole)
  (a10 : Memref sig .tc .hbm S8x1024x704 .bf16) (h10 : a10.IsWhole) (a11 : Memref sig .tc .vmem S512x1024 .f32) (h11 : a11.IsWhole)
  (a12 : Memref sig .tc .vmem S8x1024x704 .f32) (h12 : a12.IsWhole) (a13 : Memref sig .tc .vmem S1024x704 .bf16) (h13 : a13.IsWhole)
  (sm : DmaSems sig S_)

/-- The first part: at the first point the taps' gradient starts at zero, at a row block's first shard the accumulator
    does; the block of the convolution's gradient and the rows after it are loaded. -/
theorem part1 (D : Vec F S1x512x704 .bf16) (H : Vec F S1x16x704 .bf16) (G : Vec F S8x8x704 .f32) (A : Vec F S512x1024 .f32)
    (K : _ → sProp 𝕄) :
    iprop(at_ c a2 D ∗ at_ c a3 H ∗ at_ c a9 G ∗ at_ c a11 A
      ∗ (iprop(at_ c a2 D ∗ at_ c a3 H ∗ at_ c a9 (if isFirst i then k0_pay3 else G) ∗ at_ c a11 (if isHead i then k0_pay4 else A))
          -∗ K ⟨BitVec.ofNat 32 (i 0).val, BitVec.ofNat 32 (i 1).val, k0_pay5 D, k0_pay7 i D H, k0_pay8 i D H, k0_pay9, k0_pay10 i D H⟩))
    ⊢ wp frame (wpE (defs₀ (F := F)) Variants.none c none) Set.univ
        (k0_part1 i a2 h2 a3 h3 a4 h4 a5 h5 a6 h6 a7 h7 a8 h8 a9 h9 a10 h10 a11 h11 a12 h12 a13 h13 sm) K := by
  rw [k0_part1_eq_skeleton]; unfold k0_part1_skel at_ owns
  iintro ⟨⟨%f2, %hf2, H2⟩, ⟨%f3, %hf3, H3⟩, ⟨%f9, %hf9, H9⟩, ⟨%f11, %hf11, H11⟩, Hk⟩
  obtain rfl := h2.eq_unread hf2; obtain rfl := h3.eq_unread hf3
  have e2 : View.readAt (Elt F) a2.view (Rect.unit ![0, 0, 0] ![1, 512, 704] inb_S1x512x704_S1x512x704_0_0_0).toLoadRect (h2.unread D) = D :=
    (View.readAt_full a2.view _ inb_S1x512x704_S1x512x704_0_0_0).trans (h2.read_unread D)
  have e3 : View.readAt (Elt F) a3.view (Rect.unit ![0, 0, 0] ![1, 16, 704] inb_S1x16x704_S1x16x704_0_0_0).toLoadRect (h3.unread H) = H :=
    (View.readAt_full a3.view _ inb_S1x16x704_S1x16x704_0_0_0).trans (h3.read_unread H)
  by_cases hc1 : isFirst i <;> by_cases hc2 : isHead i
  all_goals
    sl_exec (disch := first | sl_exact hc1 | sl_exact hc2)
    sl_step
    iapply Hk
    isplitl [H2]
    · iexists _; isplitr; · ipureintro; exact h2.read_unread _
      iexact H2
    isplitl [H3]
    · iexists _; isplitr; · ipureintro; exact h3.read_unread _
      iexact H3
    isplitl [H9]
    · iexists _; isplitr; swap; (· iexact H9); ipureintro
      first | rw [if_pos hc1, View.read_writes_full] | rw [if_neg hc1, hf9]
    · iexists _; isplitr; swap; (· iexact H11); ipureintro
      first | rw [if_pos hc2, View.read_writes_full] | rw [if_neg hc2, hf11]

/-- The second part: the projection's gradient (from the taps `T`) times the shard's weights is added to the accumulator,
    and at the first row block its product with the rows is the shard's part of the weights' gradient. -/
theorem part2 (v10 v30 : FVec F S512x704 .f32) (v35 : FVec F S65x8x704 .f32) (v37 : IVec S1x8x704 1) (v38 : FVec F S64x8x704 .f32)
    (X : Vec F S512x1024 .bf16) (T : Vec F S1x3x704 .f32) (w : Vec F S1x1024x704 .bf16) (A : Vec F S512x1024 .f32) (W : Vec F S8x1024x704 .f32)
    (K : _ → sProp 𝕄) :
    iprop(at_ c a5 X ∗ at_ c a6 T ∗ at_ c a7 w ∗ at_ c a11 A ∗ at_ c a12 W
      ∗ (∀ v73 : BitVec 1, iprop(at_ c a5 X ∗ at_ c a6 T ∗ at_ c a7 w
            ∗ at_ c a11 (k0_pay13 v10 v30 v35 v37 v38 (tap 2 inb_S1x3x704_S1x1x704_0_2_0 T) (tap 1 inb_S1x3x704_S1x1x704_0_1_0 T) (tap 0 inb_S1x3x704_S1x1x704_0_0_0 T) A w)
            ∗ at_ c a12 (if k0_cond3 i = 1#1 then putShard i W (k0_pay15 v10 v30 v35 v37 v38 (tap 2 inb_S1x3x704_S1x1x704_0_2_0 T) (tap 1 inb_S1x3x704_S1x1x704_0_1_0 T) (tap 0 inb_S1x3x704_S1x1x704_0_0_0 T) X) else W))
          -∗ K ⟨k0_pay11 v35 v37 v38, k0_pay14 v10 v30 v35 v37 v38 (tap 2 inb_S1x3x704_S1x1x704_0_2_0 T) (tap 1 inb_S1x3x704_S1x1x704_0_1_0 T) (tap 0 inb_S1x3x704_S1x1x704_0_0_0 T) X, v73⟩))
    ⊢ wp frame (wpE (defs₀ (F := F)) Variants.none c none) Set.univ
        (k0_part2 i a2 h2 a3 h3 a4 h4 a5 h5 a6 h6 a7 h7 a8 h8 a9 h9 a10 h10 a11 h11 a12 h12 a13 h13 sm
          (BitVec.ofNat 32 (i 0).val) (BitVec.ofNat 32 (i 1).val) v10 v30 v35 v37 v38) K := by
  rw [k0_part2_eq_skeleton]; unfold k0_part2_skel at_ owns
  iintro ⟨⟨%f5, %hf5, H5⟩, ⟨%f6, %hf6, H6⟩, ⟨%f7, %hf7, H7⟩, ⟨%f11, %hf11, H11⟩, ⟨%f12, %hf12, H12⟩, Hk⟩
  obtain rfl := h5.eq_unread hf5; obtain rfl := h6.eq_unread hf6; obtain rfl := h7.eq_unread hf7
  obtain rfl := h11.eq_unread hf11; obtain rfl := h12.eq_unread hf12
  have e5 : View.readAt (Elt F) a5.view (Rect.unit ![0, 0] ![512, 1024] inb_S512x1024_S512x1024_0_0).toLoadRect (h5.unread X) = X :=
    (View.readAt_full a5.view _ inb_S512x1024_S512x1024_0_0).trans (h5.read_unread X)
  have e7 : View.readAt (Elt F) a7.view (Rect.unit ![0, 0, 0] ![1, 1024, 704] inb_S1x1024x704_S1x1024x704_0_0_0).toLoadRect (h7.unread w) = w :=
    (View.readAt_full a7.view _ inb_S1x1024x704_S1x1024x704_0_0_0).trans (h7.read_unread w)
  have e11 : View.readAt (Elt F) a11.view (Rect.unit ![0, 0] ![512, 1024] inb_S512x1024_S512x1024_0_0).toLoadRect (h11.unread A) = A :=
    (View.readAt_full a11.view _ inb_S512x1024_S512x1024_0_0).trans (h11.read_unread A)
  have e60 : View.readAt (Elt F) a6.view (Rect.unit ![0, 0, 0] ![1, 1, 704] inb_S1x3x704_S1x1x704_0_0_0).toLoadRect (h6.unread T) = tap 0 inb_S1x3x704_S1x1x704_0_0_0 T :=
    funext fun y => h6.readAt_unread T _ y
  have e61 : View.readAt (Elt F) a6.view (Rect.unit ![0, 1, 0] ![1, 1, 704] inb_S1x3x704_S1x1x704_0_1_0).toLoadRect (h6.unread T) = tap 1 inb_S1x3x704_S1x1x704_0_1_0 T :=
    funext fun y => h6.readAt_unread T _ y
  have e62 : View.readAt (Elt F) a6.view (Rect.unit ![0, 2, 0] ![1, 1, 704] inb_S1x3x704_S1x1x704_0_2_0).toLoadRect (h6.unread T) = tap 2 inb_S1x3x704_S1x1x704_0_2_0 T :=
    funext fun y => h6.readAt_unread T _ y
  by_cases hc3 : k0_cond3 i = 1#1
  all_goals
    sl_exec (disch := first | sl_exact hc3)
    sl_step
    iapply Hk $$ %_
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H11]
    · iexists _; isplitr; swap; (· iexact H11); ipureintro
      rw [View.read_writes_full]
    · iexists _; isplitr; swap; (· iexact H12); ipureintro
      first
        | rw [if_pos hc3, View.read_writes_cons_put _ _ _ _ _ (off1_eq i), View.writes_nil, h12.read_unread]
        | rw [if_neg hc3, h12.read_unread]

/-- A store of a reshaped payload through a reshaped rectangle of a view leaves what was there with the payload put over
    the rectangle. -/
theorem read_write_rect {sp : Space} {κ : Kind} {s s' : Shape} {e : EltTy} (v : View sig κ sp s e) (f : v.ty.Contents (Elt F))
    {off off' size : Fin s.rank → ℕ} (inb : ∀ a, off a + size a ≤ s.size a) (hn : s'.numel = (Rect.unit off size inb).shape.numel)
    (w : s'.Idx → Elt F e) (h : off = off') :
    v.read (Elt F) (((v.slice (Rect.unit off size inb)).reshape s' hn).write (Elt F) f w Finset.univ)
      = VecWindow.put (v.read (Elt F) f) off' size (fun x => w (Shape.reshapeEquiv (s := s') (s' := (Rect.unit off size inb).shape) hn.symm x)) := by
  subst h
  funext y
  unfold VecWindow.put
  by_cases hy : ∀ a, off a ≤ (y a).val ∧ (y a).val < off a + size a
  · rw [dif_pos hy]
    have e1 : (Rect.unit off size inb).emb (Rect.unitLocal (s := s) (off := off) (size := size) y hy) = y := funext fun a => Fin.ext (by
      show off a + 1 * ((y a).val - off a) = (y a).val
      have := hy a; omega)
    have e2 : Shape.reshapeEquiv hn (Shape.reshapeEquiv hn.symm (Rect.unitLocal (s := s) (off := off) (size := size) y hy)) = (Rect.unitLocal (s := s) (off := off) (size := size) y hy : (Rect.unit off size inb).shape.Idx) := by
      rw [Shape.reshapeEquiv_reshapeEquiv, Shape.reshapeEquiv_self]
    have e3 := View.read_write_reshape (v := v.slice (Rect.unit off size inb)) hn f w (Shape.reshapeEquiv hn.symm (Rect.unitLocal (s := s) (off := off) (size := size) y hy))
    rw [e2] at e3
    refine Eq.trans ?_ e3
    exact congrArg (v.read (Elt F) _) e1.symm
  · rw [dif_neg hy, View.read_apply, View.read_apply, View.write_of_not_mem]
    intro hm
    obtain ⟨x, -, hx⟩ := Finset.mem_map.mp hm
    have e1 : (Rect.unit off size inb).emb (Shape.reshapeEquiv hn x) = y := v.emb.injective hx
    refine hy fun a => ?_
    have e2 : off a + 1 * ((Shape.reshapeEquiv hn x : (Rect.unit off size inb).shape.Idx) a).val = (y a).val := congrArg (fun z => (z a).val) e1
    have e3 : ((Shape.reshapeEquiv hn x : (Rect.unit off size inb).shape.Idx) a).val < size a := ((Shape.reshapeEquiv hn x : (Rect.unit off size inb).shape.Idx) a).isLt
    omega

/-- What the third part makes of the shard's first two rows of the taps' gradient. -/
abbrev rows01 (G : Vec F S8x8x704 .f32) (v30 v43 : FVec F S512x704 .f32) (U : Vec F S1x512x704 .f32) : Vec F S8x8x704 .f32 :=
  putRow i 1 (putRow i 0 G (k0_pay19 v43 U (row i 0 (by decide) G))) (k0_pay20 v30 U (row i 1 (by decide) G))
/-- The shard of the weights' gradient after the third part. -/
abbrev shard3 (W : Vec F S8x1024x704 .f32) (v69 : FVec F S1024x704 .f32) : Vec F S1x1024x704 .f32 :=
  if k0_cond4 i = 1#1 then k0_pay16 v69 (shard i W) else shard i W

theorem casts : S1024x704.ShapeCasts S1x1024x704 := by decide

/-- The third part: after the first row block the shard's part of the weights' gradient is added to; at the last one it
    is rounded, staged and sent to HBM; and the taps' gradient takes its first two rows. -/
theorem part3 (v10 v30 v43 : FVec F S512x704 .f32) (v69 : FVec F S1024x704 .f32) (v73 : BitVec 1)
    (U : Vec F S1x512x704 .f32) (G : Vec F S8x8x704 .f32) (B : Vec F S8x1024x704 .bf16) (W : Vec F S8x1024x704 .f32) (S : Vec F S1024x704 .bf16)
    (Ws : Waits sig Unit) (K : _ → sProp 𝕄) :
    iprop(at_ c a4 U ∗ at_ c a9 G ∗ at_ c a10 B ∗ at_ c a12 W ∗ at_ c a13 S ∗ semVal ((c : Thread nD τ), SemLoc.dma sm.sem) 0 ∗ owes (c : Thread nD τ) 0 Ws
      ∗ (∀ v109, iprop(⌜v109 = k0_pay21 v10 U (row i 2 (by decide) G)⌝ ∗ at_ c a4 U ∗ at_ c a9 (rows01 i G v30 v43 U)
            ∗ at_ c a10 (if k0_cond5 i = 1#1 then putShard i B (shapeCast S1x1024x704 (k0_pay17 (shard3 i W v69)) casts) else B)
            ∗ at_ c a12 (if k0_cond4 i = 1#1 then putShard i W (k0_pay16 v69 (shard i W)) else W)
            ∗ (∃ S', at_ c a13 S') ∗ semVal ((c : Thread nD τ), SemLoc.dma sm.sem) 0 ∗ (∃ Ws', owes (c : Thread nD τ) 0 Ws'))
          -∗ K v109))
    ⊢ wp frame (wpE (defs₀ (F := F)) Variants.none c none) Set.univ
        (k0_part3 i a2 h2 a3 h3 a4 h4 a5 h5 a6 h6 a7 h7 a8 h8 a9 h9 a10 h10 a11 h11 a12 h12 a13 h13 sm
          (BitVec.ofNat 32 (i 0).val) (BitVec.ofNat 32 (i 1).val) v10 v30 v43 v69 v73) K := by
  rw [k0_part3_eq_skeleton]; unfold k0_part3_skel at_ owns
  iintro ⟨⟨%f4, %hf4, H4⟩, ⟨%f9, %hf9, H9⟩, ⟨%f10, %hf10, H10⟩, ⟨%f12, %hf12, H12⟩, ⟨%f13, %hf13, H13⟩, Hs, HO, Hk⟩
  obtain rfl := h4.eq_unread hf4; obtain rfl := h9.eq_unread hf9; obtain rfl := h10.eq_unread hf10
  obtain rfl := h12.eq_unread hf12; obtain rfl := h13.eq_unread hf13
  have e4 : View.readAt (Elt F) a4.view (Rect.unit ![0, 0, 0] ![1, 512, 704] inb_S1x512x704_S1x512x704_0_0_0).toLoadRect (h4.unread U) = U :=
    (View.readAt_full a4.view _ inb_S1x512x704_S1x512x704_0_0_0).trans (h4.read_unread U)
  have r0 : View.readAt (Elt F) a9.view (Rect.unit (s := S8x8x704) (k0_off5 i) S1x1x704.size (k0_off5_inb i)).toLoadRect (h9.unread G) = row i 0 (by decide) G := by
    rw [View.readAt_unit a9.view _ _ (off5_eq i) (row_inb i (by decide)), h9.read_unread]
  have r1 : View.readAt (Elt F) a9.view (Rect.unit (s := S8x8x704) (k0_off6 i) S1x1x704.size (k0_off6_inb i)).toLoadRect (h9.unread G) = row i 1 (by decide) G := by
    rw [View.readAt_unit a9.view _ _ (off6_eq i) (row_inb i (by decide)), h9.read_unread]
  have r2 : View.readAt (Elt F) a9.view (Rect.unit (s := S8x8x704) (k0_off7 i) S1x1x704.size (k0_off7_inb i)).toLoadRect (h9.unread G) = row i 2 (by decide) G := by
    rw [View.readAt_unit a9.view _ _ (off7_eq i) (row_inb i (by decide)), h9.read_unread]
  have r4 : ∀ h : k0_cond4 i = 1#1, View.readAt (Elt F) a12.view (Rect.unit (s := S8x1024x704) (k0_off2 i) S1x1024x704.size (k0_off2_inb i h)).toLoadRect (h12.unread W) = shard i W := fun h => by
    rw [View.readAt_unit a12.view _ _ (off2_eq i) (shard_inb i), h12.read_unread]
  have r3 : ∀ h : k0_cond5 i = 1#1, View.readAt (Elt F) a12.view (Rect.unit (s := S8x1024x704) (k0_off3 i) S1x1024x704.size (k0_off3_inb i h)).toLoadRect (h12.unread W) = shard i W := fun h => by
    rw [View.readAt_unit a12.view _ _ (off3_eq i) (shard_inb i), h12.read_unread]
  have r34 : ∀ (h : k0_cond4 i = 1#1) (h' : k0_cond5 i = 1#1) (w : S1x1024x704.Idx → Elt F .f32),
      a12.view.readCov [⟨Rect.unit (s := S8x1024x704) (k0_off2 i) S1x1024x704.size (k0_off2_inb i h), w⟩] (Rect.unit (s := S8x1024x704) (k0_off3 i) S1x1024x704.size (k0_off3_inb i h')).toLoadRect = w := fun h h' w => by
    show View.readAt (Elt F) a12.view _ _ = _
    rw [View.readAt_unit a12.view _ _ (off3_eq i) (shard_inb i), View.read_writes_cons_put _ _ _ _ _ (off2_eq i), VecWindow.window_put_same]
  have w4 : ∀ (h : k0_cond4 i = 1#1) (w : S1x1024x704.Idx → Elt F .f32),
      View.read (Elt F) a12.view (a12.view.writes (Elt F) (h12.unread W) [⟨Rect.unit (s := S8x1024x704) (k0_off2 i) S1x1024x704.size (k0_off2_inb i h), w⟩]) = putShard i W w := fun h w => by
    rw [View.read_writes_cons_put _ _ _ _ _ (off2_eq i), View.writes_nil, h12.read_unread]
  by_cases hc4 : k0_cond4 i = 1#1 <;> by_cases hc5 : k0_cond5 i = 1#1
  all_goals
    sl_exec! (disch := first | sl_exact hc4 | sl_exact hc5)
    sl_step
    iapply Hk $$ %_
    isplitr
    · ipureintro
      first | rfl | exact congrArg (k0_pay21 v10 U) r2
    isplitl [H4]
    · iexists _; isplitr; · ipureintro; exact h4.read_unread _
      iexact H4
    isplitl [H9]
    · iexists _; isplitr; swap; (· iexact H9); ipureintro
      rw [View.read_writes_cons_put _ _ _ _ _ (off6_eq i), View.read_writes_cons_put _ _ _ _ _ (off5_eq i), View.writes_nil, h9.read_unread]
      first | done | rfl
    isplitl [H10]
    · iexists _; isplitr; swap; (· iexact H10); ipureintro
      first
        | rw [if_neg hc5, h10.read_unread]
        | rw [if_pos hc5]
          refine (read_write_rect a10.view (h10.unread B) (k0_off4_inb i hc5) squeezes_S1x1024x704_S1024x704.numel_eq _ (off4_eq i)).trans ?_
          rw [h10.read_unread]
          refine congrArg (fun z => putShard i B (shapeCast S1x1024x704 z casts)) ?_
          refine (View.read_writes_full a13.view _ inb_S1024x704_S1024x704_0_0 _ []).trans ?_
          refine congrArg k0_pay17 ?_
          first
            | exact ((r34 hc4 hc5 _).trans (congrArg (k0_pay16 v69) (r4 hc4))).trans (if_pos hc4).symm
            | exact (r34 hc4 hc5 _).trans (if_pos hc4).symm
            | exact (r3 hc5).trans (if_neg hc4).symm
            | exact (if_neg hc4).symm
            | exact (if_pos hc4).symm
            | rfl
    isplitl [H12]
    · iexists _; isplitr; swap; (· iexact H12); ipureintro
      first
        | exact ((w4 hc4 _).trans (congrArg (fun z => putShard i W (k0_pay16 v69 z)) (r4 hc4))).trans (if_pos hc4).symm
        | exact (w4 hc4 _).trans (if_pos hc4).symm
        | rw [if_neg hc4, h12.read_unread]
    isplitl [H13]
    · iexists _; iexists _; isplitr; swap; (· iexact H13); ipureintro
      rfl
    isplitl [Hs]; · iexact Hs
    iexists _; iexact HO

include h8 h9 h11 in
/-- The last part: the taps' gradient takes its third row `v109` and its fourth, and after a row block's last shard the
    accumulator is the block of the rows' gradient. -/
theorem tail (v10 : FVec F S512x704 .f32) (v109 : FVec F S1x704 .f32) (G : Vec F S8x8x704 .f32) (A : Vec F S512x1024 .f32) (O : Vec F S512x1024 .f32)
    (K : _ → sProp 𝕄) :
    iprop(at_ c a8 O ∗ at_ c a9 G ∗ at_ c a11 A
      ∗ (iprop(at_ c a8 (if k0_cond6 i = 1#1 then A else O) ∗ at_ c a9 (putRow i 3 (putRow i 2 G (k0_pay1 v109)) (k0_pay2 v10 (row i 3 (by decide) G))) ∗ at_ c a11 A)
          -∗ K ⟨⟩))
    ⊢ wp frame (wpE (defs₀ (F := F)) Variants.none c none) Set.univ
        (do
          let _v111 : Vec F S1x1x704 .f32 ← Prog.lift (.load a9 (Rect.unit (s := S8x8x704) (k0_off7 i) S1x1x704.size (k0_off7_inb i)).toLoadRect (View.loadsAt_vmem h_S1x1x704))
          Prog.lift (.store a9 (Rect.unit (s := S8x8x704) (k0_off7 i) S1x1x704.size (k0_off7_inb i)) (k0_pay1 v109) Finset.univ (View.stores_vmem_bits_univ h_S1x1x704 rfl) (.inl rfl))
          let v115 : Vec F S1x1x704 .f32 ← Prog.lift (.load a9 (Rect.unit (s := S8x8x704) (k0_off8 i) S1x1x704.size (k0_off8_inb i)).toLoadRect (View.loadsAt_vmem h_S1x1x704))
          let _v121 : Vec F S1x1x704 .f32 ← Prog.lift (.load a9 (Rect.unit (s := S8x8x704) (k0_off8 i) S1x1x704.size (k0_off8_inb i)).toLoadRect (View.loadsAt_vmem h_S1x1x704))
          Prog.lift (.store a9 (Rect.unit (s := S8x8x704) (k0_off8 i) S1x1x704.size (k0_off8_inb i)) (k0_pay2 v10 v115) Finset.univ (View.stores_vmem_bits_univ h_S1x1x704 rfl) (.inl rfl))
          if k0_h6 : k0_cond6 i = 1#1 then do
            let v127 : Vec F S512x1024 .f32 ← Prog.lift (.load a11 (Rect.unit (s := S512x1024) ![0, 0] S512x1024.size inb_S512x1024_S512x1024_0_0).toLoadRect (View.loadsAt_vmem h_S512x1024))
            let _v128 : Vec F S512x1024 .f32 ← Prog.lift (.load a8 (Rect.unit (s := S512x1024) ![0, 0] S512x1024.size inb_S512x1024_S512x1024_0_0).toLoadRect (View.loadsAt_vmem h_S512x1024))
            Prog.lift (.store a8 (Rect.unit (s := S512x1024) ![0, 0] S512x1024.size inb_S512x1024_S512x1024_0_0) v127 Finset.univ (View.stores_vmem_bits_univ h_S512x1024 rfl) (.inl rfl))
            pure ⟨⟩
          else do
            pure ⟨⟩
          pure ⟨⟩ : Prog (TpuEff nD τ sig (Elt F) Λ₀ .tc) PUnit) K := by
  unfold at_ owns
  iintro ⟨⟨%f8, %hf8, H8⟩, ⟨%f9, %hf9, H9⟩, ⟨%f11, %hf11, H11⟩, Hk⟩
  obtain rfl := h8.eq_unread hf8; obtain rfl := h9.eq_unread hf9; obtain rfl := h11.eq_unread hf11
  have e11 : View.readAt (Elt F) a11.view (Rect.unit ![0, 0] ![512, 1024] inb_S512x1024_S512x1024_0_0).toLoadRect (h11.unread A) = A :=
    (View.readAt_full a11.view _ inb_S512x1024_S512x1024_0_0).trans (h11.read_unread A)
  have r3 : View.readAt (Elt F) a9.view (Rect.unit (s := S8x8x704) (k0_off8 i) S1x1x704.size (k0_off8_inb i)).toLoadRect (h9.unread G) = row i 3 (by decide) G := by
    rw [View.readAt_unit a9.view _ _ (off8_eq i) (row_inb i (by decide)), h9.read_unread]
  by_cases hc6 : k0_cond6 i = 1#1
  all_goals
    sl_exec (disch := first | sl_exact hc6)
    sl_step
    iapply Hk
    isplitl [H8]
    · iexists _; isplitr; swap; (· iexact H8); ipureintro
      first
        | rw [if_pos hc6, View.read_writes_full]; first | done | rfl | exact e11
        | rw [if_neg hc6, h8.read_unread]
    isplitl [H9]
    · iexists _; isplitr; swap; (· iexact H9); ipureintro
      rw [View.read_writes_cons_put _ _ _ _ _ (off8_eq i), View.read_writes_cons_put _ _ _ _ _ (off7_eq i), View.writes_nil, h9.read_unread]
      first | done | rfl | rw [r3]
    · iexists _; isplitr; · ipureintro; exact h11.read_unread _
      iexact H11

end Cert.Taps

end
-- ==== Proof.TapsStep.lean ====
/-
  One grid point of `ffn1_bwd_b` as a step of what it carries: the accumulators of the rows' gradient and of the weights'
  gradient, the rows of the taps' gradient, and the weights' gradient sent to HBM. `step` is that step for any float
  values, and `body` says the printed body makes it.
-/
module

public import proofs.«01_k».proof.Proof.TapsBody

@[expose] public section

set_option maxRecDepth 16384

noncomputable section

namespace Cert.Taps

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UC nD τ) ℕ

/-- What the launch carries from one grid point to the next. -/
structure Carried (F : FTy → Type) [FloatOps F] where
  /-- The rows' gradient, summed over the shards so far. -/
  acc : Vec F S512x1024 .f32
  /-- The weights' gradient of every shard, summed over the row blocks so far. -/
  accw : Vec F S8x1024x704 .f32
  /-- The taps' gradient of every shard, summed over the row blocks so far. -/
  g : Vec F S8x8x704 .f32
  /-- The weights' gradient in HBM. -/
  out : Vec F S8x1024x704 .bf16

/-- The input blocks of a grid point: the gradient's rows, the rows after them, the convolution's input, the rows of
`h`, the taps and the weights. -/
structure Blocks (F : FTy → Type) [FloatOps F] where
  d : Vec F S1x512x704 .bf16
  nx : Vec F S1x16x704 .bf16
  u : Vec F S1x512x704 .f32
  h : Vec F S512x1024 .bf16
  t : Vec F S1x3x704 .f32
  w : Vec F S1x1024x704 .bf16

section
variable (i : grid0.Coords) (b : Blocks F)

/-- The rows' gradient after the point, from what the accumulator held. -/
def accOf (A : Vec F S512x1024 .f32) : Vec F S512x1024 .f32 :=
  k0_pay13 (k0_pay5 b.d) (k0_pay7 i b.d b.nx) (k0_pay8 i b.d b.nx) k0_pay9 (k0_pay10 i b.d b.nx)
    (tap 2 inb_S1x3x704_S1x1x704_0_2_0 b.t) (tap 1 inb_S1x3x704_S1x1x704_0_1_0 b.t) (tap 0 inb_S1x3x704_S1x1x704_0_0_0 b.t) A b.w

/-- The point's product for the weights' gradient, as it is stored first. -/
def prod3 : Vec F S1x1024x704 .f32 :=
  k0_pay15 (k0_pay5 b.d) (k0_pay7 i b.d b.nx) (k0_pay8 i b.d b.nx) k0_pay9 (k0_pay10 i b.d b.nx)
    (tap 2 inb_S1x3x704_S1x1x704_0_2_0 b.t) (tap 1 inb_S1x3x704_S1x1x704_0_1_0 b.t) (tap 0 inb_S1x3x704_S1x1x704_0_0_0 b.t) b.h

/-- The same product, as it is added. -/
def prod : FVec F S1024x704 .f32 :=
  k0_pay14 (k0_pay5 b.d) (k0_pay7 i b.d b.nx) (k0_pay8 i b.d b.nx) k0_pay9 (k0_pay10 i b.d b.nx)
    (tap 2 inb_S1x3x704_S1x1x704_0_2_0 b.t) (tap 1 inb_S1x3x704_S1x1x704_0_1_0 b.t) (tap 0 inb_S1x3x704_S1x1x704_0_0_0 b.t) b.h

/-- The weights' gradient with the first row block's product stored. -/
def wFirst (W : Vec F S8x1024x704 .f32) : Vec F S8x1024x704 .f32 := if k0_cond3 i = 1#1 then putShard i W (prod3 i b) else W

/-- The weights' gradient after the point. -/
def wOf (W : Vec F S8x1024x704 .f32) : Vec F S8x1024x704 .f32 :=
  if k0_cond4 i = 1#1 then putShard i (wFirst i b W) (k0_pay16 (prod i b) (shard i (wFirst i b W))) else wFirst i b W

/-- The weights' gradient in HBM after the point. -/
def outOf (W : Vec F S8x1024x704 .f32) (B : Vec F S8x1024x704 .bf16) : Vec F S8x1024x704 .bf16 :=
  if k0_cond5 i = 1#1 then putShard i B (shapeCast S1x1024x704 (k0_pay17 (shard3 i (wFirst i b W) (prod i b))) casts) else B

/-- The first two rows of the taps' gradient added to. -/
def gHalf (G : Vec F S8x8x704 .f32) : Vec F S8x8x704 .f32 :=
  rows01 i G (k0_pay7 i b.d b.nx) (k0_pay11 (k0_pay8 i b.d b.nx) k0_pay9 (k0_pay10 i b.d b.nx)) b.u

/-- The taps' gradient after the point, from rows that have been cleared where they had to be. -/
def gOf (G : Vec F S8x8x704 .f32) : Vec F S8x8x704 .f32 :=
  putRow i 3 (putRow i 2 (gHalf i b G) (k0_pay1 (k0_pay21 (k0_pay5 b.d) b.u (row i 2 (by decide) G)))) (k0_pay2 (k0_pay5 b.d) (row i 3 (by decide) (gHalf i b G)))

/-- One grid point. -/
def step (s : Carried F) : Carried F where
  acc := accOf i b (if isHead i then k0_pay4 else s.acc)
  accw := wOf i b s.accw
  g := gOf i b (if isFirst i then k0_pay3 else s.g)
  out := outOf i b s.accw s.out
end

variable (c : Dev nD) (i : grid0.Coords)
  (a2 : Memref sig .tc .vmem S1x512x704 .bf16) (h2 : a2.IsWhole) (a3 : Memref sig .tc .vmem S1x16x704 .bf16) (h3 : a3.IsWhole)
  (a4 : Memref sig .tc .vmem S1x512x704 .f32) (h4 : a4.IsWhole) (a5 : Memref sig .tc .vmem S512x1024 .bf16) (h5 : a5.IsWhole)
  (a6 : Memref sig .tc .vmem S1x3x704 .f32) (h6 : a6.IsWhole) (a7 : Memref sig .tc .vmem S1x1024x704 .bf16) (h7 : a7.IsWhole)
  (a8 : Memref sig .tc .vmem S512x1024 .f32) (h8 : a8.IsWhole) (a9 : Memref sig .tc .vmem S8x8x704 .f32) (h9 : a9.IsWhole)
  (a10 : Memref sig .tc .hbm S8x1024x704 .bf16) (h10 : a10.IsWhole) (a11 : Memref sig .tc .vmem S512x1024 .f32) (h11 : a11.IsWhole)
  (a12 : Memref sig .tc .vmem S8x1024x704 .f32) (h12 : a12.IsWhole) (a13 : Memref sig .tc .vmem S1024x704 .bf16) (h13 : a13.IsWhole)
  (sm : DmaSems sig S_)

/-- The printed body makes one step of what is carried; at the last shard of a row block it also leaves the rows'
gradient in its output's buffer. -/
theorem body (b : Blocks F) (s : Carried F) (O : Vec F S512x1024 .f32) (S : Vec F S1024x704 .bf16) (Ws : Waits sig Unit) (K : _ → sProp 𝕄) :
    iprop(at_ c a2 b.d ∗ at_ c a3 b.nx ∗ at_ c a4 b.u ∗ at_ c a5 b.h ∗ at_ c a6 b.t ∗ at_ c a7 b.w
      ∗ at_ c a8 O ∗ at_ c a9 s.g ∗ at_ c a10 s.out ∗ at_ c a11 s.acc ∗ at_ c a12 s.accw ∗ at_ c a13 S
      ∗ semVal ((c : Thread nD τ), SemLoc.dma sm.sem) 0 ∗ owes (c : Thread nD τ) 0 Ws
      ∗ (iprop(at_ c a2 b.d ∗ at_ c a3 b.nx ∗ at_ c a4 b.u ∗ at_ c a5 b.h ∗ at_ c a6 b.t ∗ at_ c a7 b.w
          ∗ at_ c a8 (if k0_cond6 i = 1#1 then (step i b s).acc else O) ∗ at_ c a9 (step i b s).g ∗ at_ c a10 (step i b s).out
          ∗ at_ c a11 (step i b s).acc ∗ at_ c a12 (step i b s).accw ∗ (∃ S', at_ c a13 S')
          ∗ semVal ((c : Thread nD τ), SemLoc.dma sm.sem) 0 ∗ ∃ Ws', owes (c : Thread nD τ) 0 Ws') -∗ K ⟨⟩))
    ⊢ wp frame (wpE (defs₀ (F := F)) Variants.none c none) Set.univ
        (cc0_ffn1_bwd_b i a2 h2 a3 h3 a4 h4 a5 h5 a6 h6 a7 h7 a8 h8 a9 h9 a10 h10 a11 h11 a12 h12 a13 h13 sm) K := by
  rw [cc0_ffn1_bwd_b_eq_skeleton]; unfold cc0_ffn1_bwd_b_skel
  iintro ⟨H2, H3, H4, H5, H6, H7, H8, H9, H10, H11, H12, H13, Hs, HO, Hk⟩
  rw [wp_bind]
  iapply (part1 c i a2 h2 a3 h3 a4 h4 a5 h5 a6 h6 a7 h7 a8 h8 a9 h9 a10 h10 a11 h11 a12 h12 a13 h13 sm b.d b.nx s.g s.acc)
  isplitl [H2]; · iexact H2
  isplitl [H3]; · iexact H3
  isplitl [H9]; · iexact H9
  isplitl [H11]; · iexact H11
  iintro ⟨H2, H3, H9, H11⟩
  dsimp only
  rw [wp_bind]
  iapply (part2 c i a2 h2 a3 h3 a4 h4 a5 h5 a6 h6 a7 h7 a8 h8 a9 h9 a10 h10 a11 h11 a12 h12 a13 h13 sm (k0_pay5 b.d) (k0_pay7 i b.d b.nx) (k0_pay8 i b.d b.nx) k0_pay9 (k0_pay10 i b.d b.nx) b.h b.t b.w (if isHead i then k0_pay4 else s.acc) s.accw)
  isplitl [H5]; · iexact H5
  isplitl [H6]; · iexact H6
  isplitl [H7]; · iexact H7
  isplitl [H11]; · iexact H11
  isplitl [H12]; · iexact H12
  iintro %v73 ⟨H5, H6, H7, H11, H12⟩
  dsimp only
  rw [wp_bind]
  iapply (part3 c i a2 h2 a3 h3 a4 h4 a5 h5 a6 h6 a7 h7 a8 h8 a9 h9 a10 h10 a11 h11 a12 h12 a13 h13 sm (k0_pay5 b.d) (k0_pay7 i b.d b.nx) (k0_pay11 (k0_pay8 i b.d b.nx) k0_pay9 (k0_pay10 i b.d b.nx)) (prod i b) v73 b.u (if isFirst i then k0_pay3 else s.g) s.out (wFirst i b s.accw) S Ws)
  isplitl [H4]; · iexact H4
  isplitl [H9]; · iexact H9
  isplitl [H10]; · iexact H10
  isplitl [H12]; · iexact H12
  isplitl [H13]; · iexact H13
  isplitl [Hs]; · iexact Hs
  isplitl [HO]; · iexact HO
  iintro %v109 ⟨%hv, H4, H9, H10, H12, H13, Hs, HO⟩
  subst hv
  iapply (tail c i a8 h8 a9 h9 a11 h11 (k0_pay5 b.d) (k0_pay21 (k0_pay5 b.d) b.u (row i 2 (of_decide_eq_true rfl) (if isFirst i then k0_pay3 else s.g))) (gHalf i b (if isFirst i then k0_pay3 else s.g)) (step i b s).acc O)
  isplitl [H8]; · iexact H8
  isplitl [H9]; · iexact H9
  isplitl [H11]; · iexact H11
  iintro ⟨H8, H9, H11⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [Hs]; · iexact Hs
  iexact HO

end Cert.Taps

end
-- ==== Proof.TapsPay.lean ====
/- What the taps' backward kernel computes at one grid point, read at one index of its blocks. -/
module

public import proofs.«01_k».proof.Proof.TapsStep
public import Idealize.ShloMosaic.Lib.Pointwise

@[expose] public section

set_option maxRecDepth 16384

noncomputable section

namespace Cert.Taps

open Cert.Kernel2Ideal Cert.Kernel2Ideal.Gen Idealize.ShloMosaic

/-- The gradient `k` rows further on: from the point's own rows, then from the rows after them, which are taken as zero
at the last row block. -/
def ahead (i : grid0.Coords) (d : Vec Ideal S1x512x704 .bf16) (nx : Vec Ideal S1x16x704 .bf16) (k : Fin 8) (r : Fin 512) (q : Fin 704) : EReal :=
  if h : (r : ℕ) + k < 512 then d (ix3 0 ⟨r + k, h⟩ q) else if (i 0 : ℕ) = 15 then 0 else nx (ix3 0 ⟨r + k - 512, by omega⟩ q)

theorem pay5_at (d : Vec Ideal S1x512x704 .bf16) (r : Fin 512) (q : Fin 704) : k0_pay5 (F := Ideal) d (ix2 r q) = d (ix3 0 r q) := by
  pointwise [k0_pay5]

theorem select_lt (a : Fin 8) (k : ℕ) (hk : k < 9) (x y : EReal) :
    Scalar.select (IntOp.cmpi .slt (BitVec.ofNat 32 a) (BitVec.ofNat 32 k)) x y = if (a : ℕ) < k then x else y := by
  have e : IntOp.cmpi .slt (BitVec.ofNat 32 a) (BitVec.ofNat 32 k) = BitVec.ofBool (decide ((a : ℕ) < k)) :=
    (by decide : ∀ (k : Fin 9) (a : Fin 8), IntOp.cmpi .slt (BitVec.ofNat 32 a) (BitVec.ofNat 32 k) = BitVec.ofBool (decide ((a : ℕ) < k))) ⟨k, hk⟩ a
  rw [e]
  by_cases h : (a : ℕ) < k
  · rw [if_pos h, decide_eq_true h]; rfl
  · rw [if_neg h, decide_eq_false h]; rfl

theorem select_last (i : grid0.Coords) (x y : EReal) :
    Scalar.select (Scalar.cmpi .eq (BitVec.ofNat 32 (i 0).val) 15#32) x y = if (i 0 : ℕ) = 15 then x else y := by
  have e : Scalar.cmpi .eq (BitVec.ofNat 32 (i 0).val) 15#32 = BitVec.ofBool (decide ((i 0 : ℕ) = 15)) :=
    (by decide : ∀ a : Fin 16, Scalar.cmpi .eq (BitVec.ofNat 32 a.val) 15#32 = BitVec.ofBool (decide ((a : ℕ) = 15))) (i 0)
  rw [e]
  by_cases h : (i 0 : ℕ) = 15
  · rw [if_pos h, decide_eq_true h]; rfl
  · rw [if_neg h, decide_eq_false h]; rfl

/-- Eight rows at a time, turned by `8 − k` with the wrapped ones taken from the next eight, is the array `k` rows on. -/
theorem turned (i : grid0.Coords) (d : Vec Ideal S1x512x704 .bf16) (nx : Vec Ideal S1x16x704 .bf16) (k : Fin 8) (hk : 0 < (k : ℕ)) (r : Fin 512) (q : Fin 704)
    (g1 : ∀ _ : (r : ℕ) / 8 < 64, (r : ℕ) / 8 * 8 + ((r : ℕ) % 8 + k) % 8 < 512) (g2 : ∀ _ : 1 + (r : ℕ) / 8 < 64, (1 + (r : ℕ) / 8) * 8 + ((r : ℕ) % 8 + k) % 8 < 512)
    (g3 : ((r : ℕ) % 8 + k) % 8 < 16) :
    (if (r : ℕ) % 8 < 8 - k then
        (if h : (r : ℕ) / 8 < 64 then d (ix3 0 ⟨(r : ℕ) / 8 * 8 + ((r : ℕ) % 8 + k) % 8, g1 h⟩ q)
          else if (i 0 : ℕ) = 15 then 0 else nx (ix3 0 ⟨((r : ℕ) % 8 + k) % 8, g3⟩ q))
      else
        (if h : 1 + (r : ℕ) / 8 < 64 then d (ix3 0 ⟨(1 + (r : ℕ) / 8) * 8 + ((r : ℕ) % 8 + k) % 8, g2 h⟩ q)
          else if (i 0 : ℕ) = 15 then 0 else nx (ix3 0 ⟨((r : ℕ) % 8 + k) % 8, g3⟩ q)))
      = ahead i d nx k r q := by
  have h8 : (r : ℕ) / 8 < 64 := by omega
  have hm : (r : ℕ) / 8 * 8 + (r : ℕ) % 8 = r := by omega
  unfold ahead
  by_cases h : (r : ℕ) % 8 < 8 - k
  · have e : ((r : ℕ) % 8 + k) % 8 = (r : ℕ) % 8 + k := Nat.mod_eq_of_lt (by omega)
    rw [if_pos h, dif_pos h8, dif_pos (by omega)]
    exact congrArg d (congrArg (fun z => ix3 0 z q) (Fin.ext (by show (r : ℕ) / 8 * 8 + ((r : ℕ) % 8 + k) % 8 = r + k; omega)))
  · have e : ((r : ℕ) % 8 + k) % 8 = (r : ℕ) % 8 + k - 8 := by omega
    rw [if_neg h]
    by_cases hl : 1 + (r : ℕ) / 8 < 64
    · rw [dif_pos hl, dif_pos (by omega)]
      exact congrArg d (congrArg (fun z => ix3 0 z q) (Fin.ext (by show (1 + (r : ℕ) / 8) * 8 + ((r : ℕ) % 8 + k) % 8 = r + k; omega)))
    · rw [dif_neg hl, dif_neg (by omega)]
      have e' : (⟨((r : ℕ) % 8 + k) % 8, g3⟩ : Fin 16) = ⟨r + k - 512, by omega⟩ := Fin.ext (by show ((r : ℕ) % 8 + k) % 8 = r + k - 512; omega)
      rw [e']

/-- The gradient one row further on. -/
theorem pay7_at (i : grid0.Coords) (d : Vec Ideal S1x512x704 .bf16) (nx : Vec Ideal S1x16x704 .bf16) (r : Fin 512) (q : Fin 704) :
    k0_pay7 (F := Ideal) i d nx (ix2 r q) = ahead i d nx 1 r q := by
  rw [← turned i d nx 1 (by decide) r q (by intro; simp only [Fin.val_one]; omega) (by intro; simp only [Fin.val_one]; omega) (by omega)]
  pointwise [k0_pay7, k0_pay6, k0_pay5]
  refine (select_lt ⟨(r : ℕ) % 8, by omega⟩ 7 (by decide) _ _).trans ?_
  simp only [select_last]
  rfl

/-- The gradient two rows further on. -/
theorem pay11_at (i : grid0.Coords) (d : Vec Ideal S1x512x704 .bf16) (nx : Vec Ideal S1x16x704 .bf16) (r : Fin 512) (q : Fin 704) :
    k0_pay11 (F := Ideal) (k0_pay8 i d nx) k0_pay9 (k0_pay10 i d nx) (ix2 r q) = ahead i d nx 2 r q := by
  rw [← turned i d nx 2 (by decide) r q (by intro; simp only [Fin.val_two]; omega) (by intro; simp only [Fin.val_two]; omega) (by omega)]
  pointwise [k0_pay11, k0_pay10, k0_pay9, k0_pay8, k0_pay6, k0_pay5]
  refine (select_lt ⟨(r : ℕ) % 8, by omega⟩ 6 (by decide) _ _).trans ?_
  simp only [select_last]
  rfl

/-! ## Windows of one shard, and of one row of a shard, read at an index -/

theorem shard_at {α : Type} (i : grid0.Coords) (W : S8x1024x704.Idx → α) (s : Fin 8) (hs : (s : ℕ) = i 1) (l : Fin 1024) (q : Fin 704) :
    shard i W (ix3 0 l q) = W (ix3 s l q) :=
  congrArg W (Shape.idx3_ext (show (i 1 : ℕ) + 1 * 0 = s by omega) (show 0 + 1 * (l : ℕ) = l by omega) (show 0 + 1 * (q : ℕ) = q by omega))

theorem row_at {α : Type} (i : grid0.Coords) (k : Fin 8) (hk : (k : ℕ) < 8) (G : S8x8x704.Idx → α) (s : Fin 8) (hs : (s : ℕ) = i 1) (q : Fin 704) :
    row i k hk G (ix3 0 0 q) = G (ix3 s k q) :=
  congrArg G (Shape.idx3_ext (show (i 1 : ℕ) + 1 * 0 = s by omega) (show (k : ℕ) + 1 * 0 = k by omega) (show 0 + 1 * (q : ℕ) = q by omega))

theorem tap_at {α : Type} (k : Fin 3) (h : ∀ a, (![0, (k : ℕ), 0] : Fin 3 → ℕ) a + S1x1x704.size a ≤ S1x3x704.size a) (T : S1x3x704.Idx → α) (q : Fin 704) :
    tap k h T (ix3 0 0 q) = T (ix3 0 k q) :=
  congrArg T (Shape.idx3_ext (show 0 + 1 * 0 = 0 by omega) (show (k : ℕ) + 1 * 0 = k by omega) (show 0 + 1 * (q : ℕ) = q by omega))

theorem putShard_at {α : Type} (i : grid0.Coords) (W : S8x1024x704.Idx → α) (w : S1x1024x704.Idx → α) (s : Fin 8) (l : Fin 1024) (q : Fin 704) :
    putShard i W w (ix3 s l q) = if (s : ℕ) = i 1 then w (ix3 0 l q) else W (ix3 s l q) := by
  unfold putShard VecWindow.put
  by_cases h : (s : ℕ) = i 1
  · have hm : ∀ a, so i 0 a ≤ (ix3 s l q : S8x1024x704.Idx) a ∧ ((ix3 s l q : S8x1024x704.Idx) a).val < so i 0 a + S1x1024x704.size a := by
      intro a
      match a with
      | ⟨0, _⟩ => exact ⟨show (i 1 : ℕ) ≤ s by omega, show (s : ℕ) < (i 1 : ℕ) + 1 by omega⟩
      | ⟨1, _⟩ => exact ⟨Nat.zero_le _, show (l : ℕ) < 0 + 1024 by omega⟩
      | ⟨2, _⟩ => exact ⟨Nat.zero_le _, show (q : ℕ) < 0 + 704 by omega⟩
    rw [if_pos h, dif_pos hm]
    refine congrArg w (funext fun a => Fin.ext ?_)
    match a with
    | ⟨0, _⟩ => exact (show (s : ℕ) - (i 1 : ℕ) = 0 by omega)
    | ⟨1, _⟩ => exact (show (l : ℕ) - 0 = l by omega)
    | ⟨2, _⟩ => exact (show (q : ℕ) - 0 = q by omega)
  · rw [if_neg h, dif_neg]
    intro hm
    have h0 : (i 1 : ℕ) ≤ s ∧ (s : ℕ) < (i 1 : ℕ) + 1 := hm 0
    omega

theorem putRow_at {α : Type} (i : grid0.Coords) (k : ℕ) (G : S8x8x704.Idx → α) (w : S1x1x704.Idx → α) (s : Fin 8) (j : Fin 8) (q : Fin 704) :
    putRow i k G w (ix3 s j q) = if (s : ℕ) = i 1 ∧ (j : ℕ) = k then w (ix3 0 0 q) else G (ix3 s j q) := by
  unfold putRow VecWindow.put
  by_cases h : (s : ℕ) = i 1 ∧ (j : ℕ) = k
  · have hm : ∀ a, so i k a ≤ (ix3 s j q : S8x8x704.Idx) a ∧ ((ix3 s j q : S8x8x704.Idx) a).val < so i k a + S1x1x704.size a := by
      intro a
      match a with
      | ⟨0, _⟩ => exact ⟨show (i 1 : ℕ) ≤ s by omega, show (s : ℕ) < (i 1 : ℕ) + 1 by omega⟩
      | ⟨1, _⟩ => exact ⟨show k ≤ (j : ℕ) by omega, show (j : ℕ) < k + 1 by omega⟩
      | ⟨2, _⟩ => exact ⟨Nat.zero_le _, show (q : ℕ) < 0 + 704 by omega⟩
    rw [if_pos h, dif_pos hm]
    refine congrArg w (funext fun a => Fin.ext ?_)
    match a with
    | ⟨0, _⟩ => exact (show (s : ℕ) - (i 1 : ℕ) = 0 by omega)
    | ⟨1, _⟩ => exact (show (j : ℕ) - k = 0 by omega)
    | ⟨2, _⟩ => exact (show (q : ℕ) - 0 = q by omega)
  · rw [if_neg h, dif_neg]
    intro hm
    have h0 : (i 1 : ℕ) ≤ s ∧ (s : ℕ) < (i 1 : ℕ) + 1 := hm 0
    have h1 : k ≤ (j : ℕ) ∧ (j : ℕ) < k + 1 := hm 1
    omega

/-! ## One point's work -/

variable (i : grid0.Coords) (b : Blocks Ideal)

/-- The gradient of the product `h · w_up`. -/
def du (r : Fin 512) (q : Fin 704) : EReal :=
  (b.t (ix3 0 2 q) * b.d (ix3 0 r q) + b.t (ix3 0 1 q) * ahead i b.d b.nx 1 r q) + b.t (ix3 0 0 q) * ahead i b.d b.nx 2 r q

theorem pay12_at (r : Fin 512) (q : Fin 704) :
    k0_pay12 (F := Ideal) (k0_pay5 b.d) (k0_pay7 i b.d b.nx) (k0_pay8 i b.d b.nx) k0_pay9 (k0_pay10 i b.d b.nx)
      (tap 2 inb_S1x3x704_S1x1x704_0_2_0 b.t) (tap 1 inb_S1x3x704_S1x1x704_0_1_0 b.t) (tap 0 inb_S1x3x704_S1x1x704_0_0_0 b.t) (ix2 r q) = du i b r q := by
  pointwise [k0_pay12]
  rw [pay5_at, pay7_at, pay11_at]
  have e2 := tap_at 2 inb_S1x3x704_S1x1x704_0_2_0 b.t q
  have e1 := tap_at 1 inb_S1x3x704_S1x1x704_0_1_0 b.t q
  have e0 := tap_at 0 inb_S1x3x704_S1x1x704_0_0_0 b.t q
  unfold du
  rw [← e2, ← e1, ← e0]
  rfl

/-- The accumulator of the rows' gradient takes up the point's product with the weights' shard. -/
theorem acc_at (A : Vec Ideal S512x1024 .f32) (r : Fin 512) (l : Fin 1024) :
    accOf i b A (ix2 r l) = A (ix2 r l) + ∑ q : Fin 704, du i b r q * b.w (ix3 0 l q) := by
  simp only [← pay12_at]
  pointwise [accOf, k0_pay13]

theorem prod_at (l : Fin 1024) (q : Fin 704) : prod i b (ix2 l q) = ∑ r : Fin 512, b.h (ix2 r l) * du i b r q := by
  simp only [← pay12_at]
  pointwise [prod, k0_pay14]

theorem prod3_at (l : Fin 1024) (q : Fin 704) : prod3 i b (ix3 0 l q) = ∑ r : Fin 512, b.h (ix2 r l) * du i b r q := by
  simp only [← pay12_at]
  pointwise [prod3, k0_pay15, k0_pay14]

theorem clear_acc_at (r : Fin 512) (l : Fin 1024) : k0_pay4 (F := Ideal) (ix2 r l) = 0 := by pointwise [k0_pay4]

theorem clear_g_at (s k : Fin 8) (q : Fin 704) : k0_pay3 (F := Ideal) (ix3 s k q) = 0 := by pointwise [k0_pay3]

/-- The weights' gradient takes up the point's product in the point's shard, from zero at the first row block. -/
theorem w_at (W : Vec Ideal S8x1024x704 .f32) (h3 : k0_cond3 i = 1#1 ↔ ¬k0_cond4 i = 1#1) (s : Fin 8) (l : Fin 1024) (q : Fin 704) :
    wOf i b W (ix3 s l q) = if (s : ℕ) = i 1 then (if k0_cond3 i = 1#1 then 0 else W (ix3 s l q)) + ∑ r : Fin 512, b.h (ix2 r l) * du i b r q else W (ix3 s l q) := by
  unfold wOf wFirst
  by_cases h : k0_cond3 i = 1#1
  · rw [if_neg (h3.mp h), if_pos h, putShard_at, prod3_at, if_pos h, zero_add]
  · have h4 : k0_cond4 i = 1#1 := by by_contra h4; exact h (h3.mpr h4)
    rw [if_pos h4, if_neg h, if_neg h, putShard_at]
    by_cases hs : (s : ℕ) = i 1
    · rw [if_pos hs, if_pos hs, ← prod_at]
      pointwise [k0_pay16]
      exact congrArg (· + prod i b (ix2 l q)) (shard_at i W s hs l q)
    · rw [if_neg hs, if_neg hs]

/-- At the last row block the point's shard of the weights' gradient goes to HBM. -/
theorem out_at (W : Vec Ideal S8x1024x704 .f32) (B : Vec Ideal S8x1024x704 .bf16) (h3 : k0_cond3 i = 1#1 ↔ ¬k0_cond4 i = 1#1) (h5 : k0_cond5 i = 1#1 → k0_cond4 i = 1#1)
    (s : Fin 8) (l : Fin 1024) (q : Fin 704) :
    outOf i b W B (ix3 s l q) = if k0_cond5 i = 1#1 ∧ (s : ℕ) = i 1 then wOf i b W (ix3 s l q) else B (ix3 s l q) := by
  unfold outOf
  by_cases h : k0_cond5 i = 1#1
  · have h4 := h5 h
    rw [if_pos h, putShard_at]
    by_cases hs : (s : ℕ) = i 1
    · rw [if_pos hs, if_pos ⟨h, hs⟩]
      unfold wOf shard3
      rw [if_pos h4, if_pos h4, putShard_at, if_pos hs]
      pointwise [k0_pay17]
    · rw [if_neg hs, if_neg (fun h => hs h.2)]
  · rw [if_neg h, if_neg (fun g => h g.1)]

/-- What the point adds to row `k` of its shard of the taps' gradient. -/
def tapSum (k : Fin 8) (q : Fin 704) : EReal :=
  if (k : ℕ) = 0 then ∑ r : Fin 512, ahead i b.d b.nx 2 r q * b.u (ix3 0 r q)
  else if (k : ℕ) = 1 then ∑ r : Fin 512, ahead i b.d b.nx 1 r q * b.u (ix3 0 r q)
  else if (k : ℕ) = 2 then ∑ r : Fin 512, b.d (ix3 0 r q) * b.u (ix3 0 r q)
  else if (k : ℕ) = 3 then ∑ r : Fin 512, b.d (ix3 0 r q)
  else 0

theorem pay19_at (v43 : FVec Ideal S512x704 .f32) (u : Vec Ideal S1x512x704 .f32) (z : Vec Ideal S1x1x704 .f32) (q : Fin 704) :
    k0_pay19 (F := Ideal) v43 u z (ix3 0 0 q) = z (ix3 0 0 q) + ∑ r : Fin 512, v43 (ix2 r q) * u (ix3 0 r q) := by
  pointwise [k0_pay19, k0_pay18]

theorem pay20_at (v30 : FVec Ideal S512x704 .f32) (u : Vec Ideal S1x512x704 .f32) (z : Vec Ideal S1x1x704 .f32) (q : Fin 704) :
    k0_pay20 (F := Ideal) v30 u z (ix3 0 0 q) = z (ix3 0 0 q) + ∑ r : Fin 512, v30 (ix2 r q) * u (ix3 0 r q) := by
  pointwise [k0_pay20, k0_pay18]

theorem pay21_at (v10 : FVec Ideal S512x704 .f32) (u : Vec Ideal S1x512x704 .f32) (z : Vec Ideal S1x1x704 .f32) (q : Fin 704) :
    k0_pay1 (F := Ideal) (k0_pay21 v10 u z) (ix3 0 0 q) = z (ix3 0 0 q) + ∑ r : Fin 512, v10 (ix2 r q) * u (ix3 0 r q) := by
  pointwise [k0_pay1, k0_pay21, k0_pay18]

theorem pay2_at (v10 : FVec Ideal S512x704 .f32) (z : Vec Ideal S1x1x704 .f32) (q : Fin 704) :
    k0_pay2 (F := Ideal) v10 z (ix3 0 0 q) = z (ix3 0 0 q) + ∑ r : Fin 512, v10 (ix2 r q) := by
  pointwise [k0_pay2]

/-- The taps' gradient takes up the point's sums in the point's shard. -/
theorem g_at (G : Vec Ideal S8x8x704 .f32) (s k : Fin 8) (q : Fin 704) :
    gOf i b G (ix3 s k q) = if (s : ℕ) = i 1 then G (ix3 s k q) + tapSum i b k q else G (ix3 s k q) := by
  unfold gOf gHalf rows01
  by_cases hs : (s : ℕ) = i 1
  · rw [if_pos hs]
    unfold tapSum
    simp only [putRow_at, hs, true_and]
    by_cases h3 : (k : ℕ) = 3
    · rw [if_pos h3, pay2_at, if_neg (by omega), if_neg (by omega), if_neg (by omega), if_pos h3]
      simp only [pay5_at]
      obtain rfl : k = 3 := Fin.ext h3
      refine congrArg (· + _) ((row_at i 3 (by decide) _ s hs q).trans ?_)
      simp only [putRow_at]
      rw [if_neg (by simp), if_neg (by simp)]
    rw [if_neg h3]
    by_cases h2 : (k : ℕ) = 2
    · rw [if_pos h2, pay21_at, if_neg (by omega), if_neg (by omega), if_pos h2]
      simp only [pay5_at]
      obtain rfl : k = 2 := Fin.ext h2
      exact congrArg (· + _) (row_at i 2 (by decide) _ s hs q)
    rw [if_neg h2]
    by_cases h1 : (k : ℕ) = 1
    · rw [if_pos h1, pay20_at, if_neg (by omega), if_pos h1]
      simp only [pay7_at]
      obtain rfl : k = 1 := Fin.ext h1
      exact congrArg (· + _) (row_at i 1 (by decide) _ s hs q)
    rw [if_neg h1]
    by_cases h0 : (k : ℕ) = 0
    · rw [if_pos h0, pay19_at, if_pos h0]
      simp only [pay11_at]
      obtain rfl : k = 0 := Fin.ext h0
      exact congrArg (· + _) (row_at i 0 (by decide) _ s hs q)
    rw [if_neg h0, if_neg h0, if_neg h1, if_neg h2, if_neg h3, add_zero]
  · rw [if_neg hs]
    simp only [putRow_at, hs, false_and, if_false]

end Cert.Taps

end
-- ==== Proof.TapsRef.lean ====
/- The three results of the convolution's backward reference, read at one index. -/
module

public import proofs.«01_k».proof.Proof.Gen.Reference2Ideal.Read
public import Idealize.ShloMosaic.Lib.Pointwise

@[expose] public section

set_option maxRecDepth 16384

noncomputable section

namespace Cert.Reference2Ideal.Taps

open Cert.Reference2Ideal Cert.Reference2Ideal.Gen Cert.Reference2Ideal.Read Idealize.ShloMosaic

variable (h : FVec Ideal S8192x1024 .f32) (w : FVec Ideal S1024x5632 .f32) (dw : FVec Ideal S3x5632 .f32) (ct : FVec Ideal S8192x5632 .f32)

/-- The convolution's input. -/
def inp (t : Fin 8192) (q : Fin 5632) : EReal := ∑ l : Fin 1024, h (ix2 t l) * w (ix2 l q)

/-- The cotangent `k` rows further on, zero past the end. -/
def later (k : ℕ) (t : Fin 8192) (q : Fin 5632) : EReal := if g : (t : ℕ) + k < 8192 then ct (ix2 ⟨t + k, g⟩ q) else 0

/-- The gradient of the convolution's input. -/
def du (t : Fin 8192) (q : Fin 5632) : EReal :=
  (dw (ix2 2 q) * ct (ix2 t q) + dw (ix2 1 q) * later ct 1 t q) + dw (ix2 0 q) * later ct 2 t q

theorem du_at (t : Fin 8192) (q : Fin 5632) : val_main_v64 (F := Ideal) dw ct (ix2 t q) = du dw ct t q := by
  pointwise [val_main_v64, val_main_v62, val_main_v51, val_main_v40, val_main_v50, val_main_v61, val_main_v36, val_main_v45, val_main_v56, val_main_v28,
    val_main_v35, val_main_v44, val_main_v55, val_main_v21, val_main_v14, val_main_v8, val_main_v20, val_main_v13, val_main_v7, val_main_v19, val_main_v12, val_main_v6,
    val_main_cst_7, val_main_cst_11, val_main_cst_15]
  unfold du later
  refine congrArg₂ (· + ·) (congrArg₂ (· + ·) (mul_comm _ _) ?_) ?_
  · by_cases g : (t : ℕ) + 1 < 8192
    · have e : ∀ g', (⟨2 + (t : ℕ) - 1, g'⟩ : Fin 8192) = ⟨t + 1, g⟩ := fun _ => Fin.ext (by simp only []; omega)
      rw [dif_pos (by omega), dif_pos g, e, mul_comm]
    · rw [dif_neg (by omega), dif_neg g, mul_zero]
  · by_cases g : (t : ℕ) + 2 < 8192
    · have e : ∀ g', (⟨2 + (t : ℕ), g'⟩ : Fin 8192) = ⟨t + 2, g⟩ := fun _ => Fin.ext (by simp only []; omega)
      rw [dif_pos (by omega), dif_pos g, e, mul_comm]
    · rw [dif_neg (by omega), dif_neg g, mul_zero]

/-- The gradient of the rows. -/
theorem dh_at (t : Fin 8192) (l : Fin 1024) : val_main_v67 (F := Ideal) w dw ct (ix2 t l) = ∑ q : Fin 5632, du dw ct t q * w (ix2 l q) := by
  simp only [← du_at]
  pointwise [val_main_v67]

/-- The gradient of the weights, laid out by shards. -/
theorem dwup_at (s : Fin 8) (l : Fin 1024) (q : Fin 704) :
    val_main_v75 (F := Ideal) h dw ct (ix3 s l q) = ∑ t : Fin 8192, h (ix2 t l) * du dw ct t ⟨s * 704 + q, by omega⟩ := by
  simp only [← du_at]
  pointwise [val_main_v75, val_main_v74, val_main_v73, val_main_v66, val_main_v65]
  exact Finset.sum_congr rfl fun t _ => mul_comm _ _

theorem sum_one (f : EReal) : ∑ _x : Fin 1, f = f := Fin.sum_univ_one _

theorem bias_at (q : Fin 5632) : val_main_v31 (F := Ideal) ct (ix1 q) = ∑ t : Fin 8192, ct (ix2 t q) := by
  pointwise [val_main_v31, val_main_v30, val_main_v29, val_main_cst_2, val_main_cst_3]
  exact sum_one _

theorem inp_at (t : Fin 8192) (q : Fin 5632) : val_main_v18 (F := Ideal) h w (ix2 t q) = inp h w t q := by
  pointwise [val_main_v18, val_main_v3, val_main_v2, val_main_v1, val_main_cst_0]
  unfold inp
  have e : ∀ g', (⟨2 + (t : ℕ) - 2, g'⟩ : Fin 8192) = t := fun _ => Fin.ext (by simp only []; omega)
  simp only [e]

theorem inp1_at (t : Fin 8192) (q : Fin 5632) :
    val_main_v11 (F := Ideal) h w (ix2 t q) = if g : (t : ℕ) < 1 then 0 else inp h w ⟨t - 1, by omega⟩ q := by
  pointwise [val_main_v11, val_main_v3, val_main_v2, val_main_v1, val_main_cst_0]
  unfold inp
  by_cases g : (t : ℕ) < 1
  · rw [dif_pos (by omega), dif_pos g]
  · have e : ∀ g', (⟨1 + (t : ℕ) - 2, g'⟩ : Fin 8192) = ⟨t - 1, by omega⟩ := fun _ => Fin.ext (by simp only []; omega)
    rw [dif_neg (by omega), dif_neg g]
    simp only [e]

theorem inp2_at (t : Fin 8192) (q : Fin 5632) :
    val_main_v5 (F := Ideal) h w (ix2 t q) = if g : (t : ℕ) < 2 then 0 else inp h w ⟨t - 2, by omega⟩ q := by
  pointwise [val_main_v5, val_main_v3, val_main_v2, val_main_v1, val_main_cst_0]
  rfl

/-- A sum of products of one sequence, moved `k` on, with another is the sum of products with the other moved `k` back. -/
theorem sum_shift {N : ℕ} (k : ℕ) (f g : Fin N → EReal) :
    ∑ t : Fin N, (if c : (t : ℕ) < k then 0 else f ⟨t - k, by omega⟩) * g t = ∑ t : Fin N, (if c : (t : ℕ) + k < N then g ⟨t + k, c⟩ else 0) * f t := by
  have hl : ∀ t : Fin N, (if c : (t : ℕ) < k then 0 else f ⟨t - k, by omega⟩) * g t = ∑ s : Fin N, if (t : ℕ) = s + k then f s * g t else 0 := by
    intro t
    by_cases c : (t : ℕ) < k
    · rw [dif_pos c, zero_mul]
      exact (Finset.sum_eq_zero fun s _ => if_neg (by omega)).symm
    · rw [dif_neg c, Finset.sum_eq_single_of_mem (⟨t - k, by omega⟩ : Fin N) (Finset.mem_univ _), if_pos (by simp only []; omega)]
      intro s _ hs
      exact if_neg fun e => hs (Fin.ext (by simp only []; omega))
  have hr : ∀ s : Fin N, (if c : (s : ℕ) + k < N then g ⟨s + k, c⟩ else 0) * f s = ∑ t : Fin N, if (t : ℕ) = s + k then f s * g t else 0 := by
    intro s
    by_cases c : (s : ℕ) + k < N
    · rw [dif_pos c, Finset.sum_eq_single_of_mem (⟨s + k, c⟩ : Fin N) (Finset.mem_univ _), if_pos rfl, mul_comm]
      intro t _ ht
      exact if_neg fun e => ht (Fin.ext e)
    · rw [dif_neg c, zero_mul]
      exact (Finset.sum_eq_zero fun t _ => if_neg (by omega)).symm
  rw [Finset.sum_congr rfl fun t _ => hl t, Finset.sum_congr rfl fun s _ => hr s]
  exact Finset.sum_comm

theorem shift1 (q : Fin 5632) :
    ∑ t : Fin 8192, (if g : (t : ℕ) < 1 then 0 else inp h w ⟨t - 1, by omega⟩ q) * ct (ix2 t q) = ∑ t : Fin 8192, later ct 1 t q * inp h w t q := by
  have e := sum_shift 1 (fun t => inp h w t q) (fun t => ct (ix2 t q))
  rw [e]
  unfold later
  rfl

theorem shift2 (q : Fin 5632) :
    ∑ t : Fin 8192, (if g : (t : ℕ) < 2 then 0 else inp h w ⟨t - 2, by omega⟩ q) * ct (ix2 t q) = ∑ t : Fin 8192, later ct 2 t q * inp h w t q := by
  have e := sum_shift 2 (fun t => inp h w t q) (fun t => ct (ix2 t q))
  rw [e]
  unfold later
  rfl

/-- Row `k` of the gradient of the taps: the taps' own gradients, then the bias's, then zeros. -/
def dtap (k : Fin 8) (q : Fin 5632) : EReal :=
  if (k : ℕ) = 0 then ∑ t : Fin 8192, later ct 2 t q * inp h w t q
  else if (k : ℕ) = 1 then ∑ t : Fin 8192, later ct 1 t q * inp h w t q
  else if (k : ℕ) = 2 then ∑ t : Fin 8192, ct (ix2 t q) * inp h w t q
  else if (k : ℕ) = 3 then ∑ t : Fin 8192, ct (ix2 t q)
  else 0

/-- Three padded rows, one more row and zeros, read at row `k`. -/
theorem ladder (k : Fin 8) (c : Prop) [Decidable c] (hc : c) (x y z b : EReal) :
    (if _ : (k : ℕ) < 3 then
        ((if _ : (2 ≤ (k : ℕ) ∧ (k : ℕ) - 2 < 1) ∧ c then x else 0) + if _ : (1 ≤ (k : ℕ) ∧ (k : ℕ) - 1 < 1) ∧ c then y else 0)
          + if _ : (k : ℕ) < 1 ∧ c then z else 0
      else if _ : (k : ℕ) - 3 < 1 then b else 0)
      = if (k : ℕ) = 0 then z else if (k : ℕ) = 1 then y else if (k : ℕ) = 2 then x else if (k : ℕ) = 3 then b else 0 := by
  fin_cases k <;> simp [hc]

/-- The gradient of the taps, laid out by shards. -/
theorem dtaps_at (s : Fin 8) (k : Fin 8) (q : Fin 704) :
    val_main_v72 (F := Ideal) h w ct (ix3 s k q) = dtap h w ct k ⟨s * 704 + q, by omega⟩ := by
  pointwise [val_main_v72, val_main_v71, val_main_v70, val_main_v60, val_main_v49, val_main_v39, val_main_v48, val_main_v59, val_main_v68, val_main_v69,
    val_main_v38, val_main_v47, val_main_v58, val_main_v37, val_main_v46, val_main_v57, val_main_v34, val_main_v43, val_main_v54, val_main_v33, val_main_v42, val_main_v53,
    val_main_v32, val_main_v41, val_main_v52, val_main_v28, val_main_cst_4, val_main_cst_5, val_main_cst_6, val_main_cst_8, val_main_cst_9, val_main_cst_10,
    val_main_cst_12, val_main_cst_13, val_main_cst_14, val_main_cst_16]
  simp only [sum_one, inp_at, inp1_at, inp2_at, bias_at]
  have hc : (s : ℕ) * 704 + q < 5632 := by omega
  refine (ladder k _ hc (∑ t : Fin 8192, inp h w t ⟨s * 704 + q, hc⟩ * ct (ix2 t ⟨s * 704 + q, hc⟩))
    (∑ t : Fin 8192, (if g : (t : ℕ) < 1 then 0 else inp h w ⟨t - 1, by omega⟩ ⟨s * 704 + q, hc⟩) * ct (ix2 t ⟨s * 704 + q, hc⟩))
    (∑ t : Fin 8192, (if g : (t : ℕ) < 2 then 0 else inp h w ⟨t - 2, by omega⟩ ⟨s * 704 + q, hc⟩) * ct (ix2 t ⟨s * 704 + q, hc⟩))
    (∑ t : Fin 8192, ct (ix2 t ⟨s * 704 + q, hc⟩))).trans ?_
  rw [shift1, shift2, Finset.sum_congr rfl fun t _ => mul_comm (inp h w t _) _]
  rfl

end Cert.Reference2Ideal.Taps

end
-- ==== Proof.TapsSeq.lean ====
/-
  What `ffn1_bwd_b` carries before each of its 128 grid points, for any float values: the steps of `TapsStep` from what
  the launch finds, over the blocks each point reads. The scratch buffers hold anything at first; what they hold matters
  to no later value, which `acc_step`, `accw_step` and `out_step` say point by point.
-/
module

public import proofs.«01_k».proof.Proof.TapsStep

@[expose] public section

set_option maxRecDepth 16384

noncomputable section

namespace Cert.Taps

open Cert.Kernel2Ideal Cert.Kernel2Ideal.Gen
open Idealize.ShloMosaic Idealize.ShloMosaic.TcCoe Idealize.ShloMosaic.Tactic
open Idealize.ShloMosaic.Pipeline (Dat Cfg Window BodyObligation cellOf)

variable {F : FTy → Type} [FloatOps F]
variable (m : (ℓ : Loc nD τ sig) → Buf (Elt F) ℓ)

/-! ## The body's conditions over the grid -/

theorem isFirst_zero : ∀ t : Fin grid0.N, t.val = 0 → isFirst (grid0.coords t) := by decide +kernel
theorem not_isFirst : ∀ t : Fin grid0.N, t.val ≠ 0 → ¬isFirst (grid0.coords t) := by decide +kernel
theorem isHead_iff : ∀ t : Fin grid0.N, isHead (grid0.coords t) ↔ t.val % 8 = 0 := by decide +kernel
theorem cond3_iff : ∀ t : Fin grid0.N, k0_cond3 (grid0.coords t) = 1#1 ↔ t.val < 8 := by decide +kernel
theorem cond4_iff : ∀ t : Fin grid0.N, k0_cond4 (grid0.coords t) = 1#1 ↔ 8 ≤ t.val := by decide +kernel
theorem cond5_iff : ∀ t : Fin grid0.N, k0_cond5 (grid0.coords t) = 1#1 ↔ 120 ≤ t.val := by decide +kernel
theorem cond6_iff : ∀ t : Fin grid0.N, k0_cond6 (grid0.coords t) = 1#1 ↔ t.val % 8 = 7 := by decide +kernel
theorem coord0 : ∀ t : Fin grid0.N, (grid0.coords t 0).val = t.val / 8 := by decide +kernel
theorem coord1 : ∀ t : Fin grid0.N, (grid0.coords t 1).val = t.val % 8 := by decide +kernel
theorem idle6 : ∀ t : Fin grid0.N, ¬k0_cond6 (grid0.coords t) = 1#1 → idle0 6 (grid0.coords t) = true := by decide +kernel
theorem live6 : ∀ t : Fin grid0.N, k0_cond6 (grid0.coords t) = 1#1 → idle0 6 (grid0.coords t) = false := by decide +kernel

/-! ## The sequence -/

/-- The blocks the pipeline reads at a grid point. -/
def blocksAt (c : Dev nD) (t : Fin cfg0.N) : Blocks F where
  d := iblk m c 0 t
  nx := iblk m c 1 t
  u := iblk m c 2 t
  h := iblk m c 3 t
  t := iblk m c 4 t
  w := iblk m c 5 t

/-- What is carried before the first point. -/
def start (c : Dev nD) : Carried F where
  acc := m ((c : Thread nD τ).loc cc0_scratch0)
  accw := m ((c : Thread nD τ).loc cc0_scratch1)
  g := k0_pay3
  out := V m c main_v12_2

/-- What is carried before point `n`. -/
def seq (c : Dev nD) : ℕ → Carried F
  | 0 => start m c
  | n + 1 => if h : n < cfg0.N then step (grid0.coords ⟨n, h⟩) (blocksAt m c ⟨n, h⟩) (seq c n) else seq c n

theorem seq_zero (c : Dev nD) : seq m c 0 = start m c := rfl

theorem seq_succ (c : Dev nD) (t : Fin cfg0.N) : seq m c (t.val + 1) = step (grid0.coords t) (blocksAt m c t) (seq m c t.val) := by
  show (if h : t.val < cfg0.N then _ else _) = _
  rw [dif_pos t.isLt]

/-! ## What the scratch buffers hold at first does not matter -/

/-- The shards of the weights' gradient that the first `n` points have stored. -/
def SameBelow (n : ℕ) (W W' : Vec F S8x1024x704 .f32) : Prop := ∀ y : S8x1024x704.Idx, (y 0).val < n → W y = W' y

theorem SameBelow.eq {n : ℕ} (hn : 8 ≤ n) {W W' : Vec F S8x1024x704 .f32} (h : SameBelow n W W') : W = W' :=
  funext fun y => h y (lt_of_lt_of_le (show (y 0).val < 8 from (y 0).isLt) hn)

theorem acc_step (c : Dev nD) (t : Fin cfg0.N) (A : Vec F S512x1024 .f32) (hA : t.val ≠ 0 → A = (seq m c t.val).acc) :
    accOf (grid0.coords t) (blocksAt m c t) (if isHead (grid0.coords t) then k0_pay4 else A) = (seq m c (t.val + 1)).acc := by
  rw [seq_succ]; unfold step; dsimp only
  by_cases hz : t.val = 0
  · have hh : isHead (grid0.coords t) := (isHead_iff t).mpr (by omega)
    simp only [if_pos hh]
  · rw [hA hz]

/-- The shard a point stores to, by its first index. -/
theorem mem_shard (i : grid0.Coords) (y : S8x1024x704.Idx) : (∀ a, so i 0 a ≤ y a ∧ (y a).val < so i 0 a + S1x1024x704.size a) ↔ (y 0).val = (i 1).val := by
  constructor
  · intro h; have h0 : (i 1).val ≤ (y 0).val ∧ (y 0).val < (i 1).val + 1 := h 0; omega
  · intro h a
    match a with
    | 0 => exact ⟨le_of_eq h.symm, by show (y 0).val < (i 1).val + 1; omega⟩
    | 1 => exact ⟨Nat.zero_le _, by show (y 1).val < 0 + 1024; have := (show (y 1).val < 1024 from (y 1).isLt); omega⟩
    | 2 => exact ⟨Nat.zero_le _, by show (y 2).val < 0 + 704; have := (show (y 2).val < 704 from (y 2).isLt); omega⟩

theorem accw_step (c : Dev nD) (t : Fin cfg0.N) (W : Vec F S8x1024x704 .f32) (hW : SameBelow t.val W (seq m c t.val).accw) :
    SameBelow (t.val + 1) (wOf (grid0.coords t) (blocksAt m c t) W) (seq m c (t.val + 1)).accw := by
  rw [seq_succ]; unfold step; dsimp only
  by_cases h8 : 8 ≤ t.val
  · rw [hW.eq h8]; exact fun _ _ => rfl
  · have h3 : k0_cond3 (grid0.coords t) = 1#1 := (cond3_iff t).mpr (by omega)
    have h4 : ¬k0_cond4 (grid0.coords t) = 1#1 := fun h => h8 ((cond4_iff t).mp h)
    intro y hy
    unfold wOf wFirst; rw [if_neg h4, if_neg h4, if_pos h3, if_pos h3]
    unfold putShard VecWindow.put
    by_cases hm : ∀ a, so (grid0.coords t) 0 a ≤ y a ∧ (y a).val < so (grid0.coords t) 0 a + S1x1024x704.size a
    · rw [dif_pos hm, dif_pos hm]
    · rw [dif_neg hm, dif_neg hm]
      refine hW y ?_
      have h1 : (y 0).val ≠ (grid0.coords t 1).val := fun h => hm ((mem_shard _ y).mpr h)
      rw [coord1] at h1; omega

theorem out_step (c : Dev nD) (t : Fin cfg0.N) (W : Vec F S8x1024x704 .f32) (hW : SameBelow t.val W (seq m c t.val).accw) :
    outOf (grid0.coords t) (blocksAt m c t) W (seq m c t.val).out = (seq m c (t.val + 1)).out := by
  rw [seq_succ]; unfold step; dsimp only
  by_cases h8 : 8 ≤ t.val
  · rw [hW.eq h8]
  · have h5 : ¬k0_cond5 (grid0.coords t) = 1#1 := fun h => h8 (by have := (cond5_iff t).mp h; omega)
    show outOf _ _ _ _ = outOf _ _ _ _
    unfold outOf; rw [if_neg h5, if_neg h5]

theorem g_step (c : Dev nD) (t : Fin cfg0.N) (G : Vec F S8x8x704 .f32) (hG : t.val ≠ 0 → G = (seq m c t.val).g) :
    gOf (grid0.coords t) (blocksAt m c t) (if isFirst (grid0.coords t) then k0_pay3 else G) = (seq m c (t.val + 1)).g := by
  rw [seq_succ]; unfold step; dsimp only
  by_cases hz : t.val = 0
  · have hh : isFirst (grid0.coords t) := isFirst_zero t hz
    simp only [if_pos hh]
  · rw [hG hz]

end Cert.Taps

end
-- ==== Proof.TapsBlocks.lean ====
/- The blocks that one grid point of the taps' backward kernel reads, as rows and shards of the four arguments. -/
module

public import proofs.«01_k».proof.Proof.TapsPay
public import proofs.«01_k».proof.Proof.TapsRef
public import proofs.«01_k».proof.Proof.TapsSeq
public import Idealize.ShloMosaic.Lib.Pipeline.ValueKit

@[expose] public section

set_option maxRecDepth 16384

noncomputable section

namespace Cert.Taps

open Idealize.ShloMosaic Idealize.ShloMosaic.TcCoe Idealize.SL.Sem
open Cert.Kernel2Ideal Cert.Kernel2Ideal.Gen

/-- Where each window's block sits at grid point `t`: row block `t / 8`, shard `t % 8`. -/
theorem idx : ∀ t : Fin cfg0.N, win0_0.index t = ![t.val % 8, t.val / 8, 0] ∧ win0_1.index t = ![t.val % 8, min (32 * (t.val / 8) + 32) 511, 0]
    ∧ win0_2.index t = ![t.val % 8, t.val / 8, 0] ∧ win0_3.index t = ![t.val / 8, 0] ∧ win0_4.index t = ![t.val % 8, 0, 0] ∧ win0_5.index t = ![t.val % 8, 0, 0]
    ∧ win0_6.index t = ![t.val / 8, 0] ∧ win0_7.index t = ![0, 0, 0] ∧ t.val < 128 :=
  (by decide +kernel : ∀ t : Fin grid0.N, _)

theorem lt128 (t : Fin cfg0.N) : t.val < 128 := (idx t).2.2.2.2.2.2.2.2

variable (m : (ℓ : Loc nD τ sig) → Buf (Elt Ideal) ℓ) (c : Dev nD)

/-- The four arguments. -/
abbrev argH : FVec Ideal S8192x1024 .f32 := m ((c : Thread nD τ).loc main_arg0)
abbrev argW : FVec Ideal S1024x5632 .f32 := m ((c : Thread nD τ).loc main_arg1)
abbrev argT : FVec Ideal S3x5632 .f32 := m ((c : Thread nD τ).loc main_arg2)
abbrev argC : FVec Ideal S8192x5632 .f32 := m ((c : Thread nD τ).loc main_arg3)

/-- The row of the arguments that row `r` of point `t`'s blocks is, and the channel that lane `q` is. -/
def rowOf (t : Fin cfg0.N) (r : Fin 512) : Fin 8192 := ⟨t.val / 8 * 512 + r, by have := lt128 t; omega⟩
def chanOf (t : Fin cfg0.N) (q : Fin 704) : Fin 5632 := ⟨t.val % 8 * 704 + q, by omega⟩

/-- The six blocks that one point reads. -/
abbrev dB (t : Fin cfg0.N) : FVec Ideal S1x512x704 .bf16 := iblk m c 0 t
abbrev nB (t : Fin cfg0.N) : FVec Ideal S1x16x704 .bf16 := iblk m c 1 t
abbrev uB (t : Fin cfg0.N) : FVec Ideal S1x512x704 .f32 := iblk m c 2 t
abbrev hB (t : Fin cfg0.N) : FVec Ideal S512x1024 .bf16 := iblk m c 3 t
abbrev tB (t : Fin cfg0.N) : FVec Ideal S1x3x704 .f32 := iblk m c 4 t
abbrev wB (t : Fin cfg0.N) : FVec Ideal S1x1024x704 .bf16 := iblk m c 5 t

theorem dB_at (t : Fin cfg0.N) (r : Fin 512) (q : Fin 704) : dB m c t (ix3 0 r q) = argC m c (ix2 (rowOf t r) (chanOf t q)) := by
  unfold rowOf chanOf
  blk_point [dB, iblk, V, idx t]

theorem nB_at (t : Fin cfg0.N) (ht : t.val / 8 < 15) (r : Fin 16) (q : Fin 704) :
    nB m c t (ix3 0 r q) = argC m c (ix2 ⟨t.val / 8 * 512 + 512 + r, by omega⟩ (chanOf t q)) := by
  unfold chanOf
  have hm : min (32 * (t.val / 8) + 32) 511 = 32 * (t.val / 8) + 32 := by omega
  have hi := (idx t).2.1
  rw [hm] at hi
  blk_point [nB, iblk, V, hi]

/-- The convolution's input as the launch finds it: `h · w_up`, by shards. -/
abbrev inpArr : FVec Ideal S8x8192x704 .f32 := V m c main_v2

theorem inpArr_at (s : Fin 8) (t : Fin 8192) (q : Fin 704) :
    inpArr m c (ix3 s t q) = Cert.Reference2Ideal.Taps.inp (argH m c) (argW m c) t ⟨s * 704 + q, by omega⟩ := by
  unfold Cert.Reference2Ideal.Taps.inp
  unfold inpArr V
  entry_read
  pointwise

theorem uB_at (t : Fin cfg0.N) (r : Fin 512) (q : Fin 704) :
    uB m c t (ix3 0 r q) = Cert.Reference2Ideal.Taps.inp (argH m c) (argW m c) (rowOf t r) (chanOf t q) := by
  have e : uB m c t (ix3 0 r q) = inpArr m c (ix3 ⟨t.val % 8, by omega⟩ (rowOf t r) q) := by
    unfold rowOf
    blk_point [uB, iblk, idx t]
  exact e.trans (inpArr_at m c _ _ _)

theorem hB_at (t : Fin cfg0.N) (r : Fin 512) (l : Fin 1024) : hB m c t (ix2 r l) = argH m c (ix2 (rowOf t r) l) := by
  unfold rowOf
  blk_point [hB, iblk, V, idx t]

theorem tB_at (t : Fin cfg0.N) (k : Fin 3) (q : Fin 704) : tB m c t (ix3 0 k q) = argT m c (ix2 k (chanOf t q)) := by
  unfold chanOf
  blk_point [tB, iblk, V, idx t]

theorem wB_at (t : Fin cfg0.N) (l : Fin 1024) (q : Fin 704) : wB m c t (ix3 0 l q) = argW m c (ix2 l (chanOf t q)) := by
  unfold chanOf
  blk_point [wB, iblk, V, idx t]

/-- The rows further on, within the point's blocks, are the rows further on of the cotangent. -/
theorem ahead_at (t : Fin cfg0.N) (k : Fin 8) (r : Fin 512) (q : Fin 704) :
    ahead (grid0.coords t) (dB m c t) (nB m c t) k r q = Cert.Reference2Ideal.Taps.later (argC m c) k (rowOf t r) (chanOf t q) := by
  have h0 := coord0 t
  have ht := lt128 t
  have hr : (rowOf t r : ℕ) = t.val / 8 * 512 + r := rfl
  unfold ahead Cert.Reference2Ideal.Taps.later
  by_cases h : (r : ℕ) + k < 512
  · rw [dif_pos h, dB_at, dif_pos (show (rowOf t r : ℕ) + k < 8192 by omega)]
    exact congrArg (argC m c) (congrArg (fun z => ix2 z (chanOf t q)) (Fin.ext (show t.val / 8 * 512 + ((r : ℕ) + k) = t.val / 8 * 512 + r + k by omega)))
  · rw [dif_neg h]
    by_cases hl : t.val / 8 = 15
    · rw [if_pos (h0.trans hl), dif_neg (show ¬(rowOf t r : ℕ) + k < 8192 by omega)]
    · rw [if_neg (fun e => hl (h0.symm.trans e)), nB_at m c t (by omega), dif_pos (show (rowOf t r : ℕ) + k < 8192 by omega)]
      exact congrArg (argC m c) (congrArg (fun z => ix2 z (chanOf t q))
        (Fin.ext (show t.val / 8 * 512 + 512 + ((r : ℕ) + k - 512) = t.val / 8 * 512 + r + k by omega)))

/-- The gradient that the point rebuilds is the reference's. -/
theorem du_at (t : Fin cfg0.N) (r : Fin 512) (q : Fin 704) :
    du (grid0.coords t) (blocksAt m c t) r q = Cert.Reference2Ideal.Taps.du (argT m c) (argC m c) (rowOf t r) (chanOf t q) := by
  have e1 := ahead_at m c t 1 r q
  have e2 := ahead_at m c t 2 r q
  have f0 := tB_at m c t 0 q
  have f1 := tB_at m c t 1 q
  have f2 := tB_at m c t 2 q
  have d0 := dB_at m c t r q
  unfold du Cert.Reference2Ideal.Taps.du
  show (tB m c t (ix3 0 2 q) * dB m c t (ix3 0 r q) + tB m c t (ix3 0 1 q) * ahead (grid0.coords t) (dB m c t) (nB m c t) 1 r q)
    + tB m c t (ix3 0 0 q) * ahead (grid0.coords t) (dB m c t) (nB m c t) 2 r q = _
  rw [e1, e2, f0, f1, f2, d0]
  rfl

end Cert.Taps

end
-- ==== Proof.TapsFrame.lean ====
/-
  The launch of `ffn1_bwd_b`, for any float values: the pipeline's proof data over the sequence of `TapsSeq`, the body
  obligation from `TapsStep.body`, and the run. `run_main` says what every result ends at: the two the pipeline writes
  back at what its proof data say, the one the body sends to HBM at the last of the sequence.
-/
module

public import proofs.«01_k».proof.Proof.TapsSeq
public import Idealize.ShloMosaic.Lib.Pipeline.FrameValue

@[expose] public section

set_option maxRecDepth 16384

noncomputable section

namespace Cert.Taps

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UC nD τ) ℕ

variable (m : (ℓ : Loc nD τ sig) → Buf (Elt F) ℓ) (ρ : Dev nD → PrngReg)

/-! ## The invariant -/

/-- The kernel's one semaphore of its own: the one its copies to HBM signal. -/
abbrev osem : Fin 1 → SemLoc sig := fun _ => SemLoc.dma cc0_scoped0.sem

theorem ownSemFacts : Pipeline.OwnSemFacts spec0 osem := by decide

/-- Before point `n`: the accumulators at contents that lead to the sequence's, the staging scratch at anything, the
weights' gradient in HBM at the sequence's, the semaphore at zero and the generator register at some state. -/
def Inv (c : Dev nD) (n : ℕ) : sProp 𝕄 :=
  iprop(∃ A W, ⌜(n ≠ 0 → A = (seq m c n).acc) ∧ SameBelow n W (seq m c n).accw⌝
    ∗ at_ c (Memref.whole cc0_scratch0) A ∗ at_ c (Memref.whole cc0_scratch1) W ∗ (∃ S, at_ c (Memref.whole cc0_scratch2) S)
    ∗ at_ c (Memref.whole main_v12_2) (seq m c n).out
    ∗ semVal ((c : Thread nD τ), SemLoc.dma cc0_scoped0.sem) 0 ∗ ∃ r, prngReg c r)

/-! ## The pipeline's proof data -/

/-- The proof data: the arrays as the region finds them; after the body at a point each input's buffer at its block, the
rows' gradient and the taps' gradient at the sequence's. -/
def dats (_ : Fin 1) (c : Dev nD) : Dat τ (Elt F) Unit ℕ (UC nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (seq m c (t.val + 1)).acc
    | ⟨7, _⟩ => (seq m c (t.val + 1)).g
  Φ t := Inv m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (seq m c (t.val + 1)).acc := by dsimp only [dats]
theorem after0_7 (c : Dev nD) (t : Fin cfg0.N) : (dats m 0 c).after 7 t = (seq m c (t.val + 1)).g := by dsimp only [dats]

theorem Phi_castSucc (c : Dev nD) (t : Fin cfg0.N) : (dats m 0 c).Φ t.castSucc = Inv m c t.val := by
  dsimp only [dats]; exact Pipeline.Dat.Φ_castSucc (fun n _ => Inv m c n) t

/-! Each input's current staging buffer holds its block at every point. -/

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)

/-- The taps' gradient's buffer holds what the point before left. -/
theorem before0_7 (c : Dev nD) (t : Fin cfg0.N) (ht : t.val ≠ 0) (d) : (dats m 0 c).before 7 t d = (seq m c t.val).g := by
  have hN : t.val < 128 := lt_of_lt_of_eq t.isLt (show cfg0.N = 128 from N_0)
  rw [(dats m 0 c).before_out_kept 7 rfl t ht (Bool.eq_false_iff.mpr fun h => by
      have := (flush0_7 _).mp h
      dsimp only at this; omega) (fun _ => rfl) (fun _ _ => rfl) d, after0_7]
  rw [show t.val - 1 + 1 = t.val by omega]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- The rows' gradient's window is left at the sequence's value where it is written, and as found elsewhere. -/
theorem leaves6 (c : Dev nD) (t : Fin cfg0.N) (d) :
    owns (c : Thread nD τ) (st0_6 t) fullShare (if k0_cond6 (grid0.coords t) = 1#1 then (seq m c (t.val + 1)).acc else (dats m 0 c).before 6 t d)
      ⊢ (dats m 0 c).leavesExact 6 t := by
  by_cases h6 : k0_cond6 (grid0.coords t) = 1#1
  · rw [if_pos h6, show (dats m 0 c).leavesExact 6 t = owns (c : Thread nD τ) (st0_6 t) fullShare ((dats m 0 c).after 6 t) from by
      unfold Dat.leavesExact; rw [show cfg0.idle 6 (cfg0.grid.coords t) = false from live6 t h6], after0_6]
  · rw [if_neg h6, Dat.leavesExact_idle (dats m 0 c) 6 t (idle6 t h6) (Bool.eq_false_iff.mpr fun h => h6 ((cond6_iff t).mpr ((flush0_6 t).mp h)))]
    iintro H; iexists _; iexact H

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [Phi_castSucc, show (dats m 0 c).Φ t.succ = Inv m c (t.val + 1) from rfl]
  rw [show (dats m 0 c).leavesExact 0 t = owns (c : Thread nD τ) (st0_0 t) fullShare (iblk m c 0 t) from by rw [← after0_0]]
  rw [show (dats m 0 c).leavesExact 1 t = owns (c : Thread nD τ) (st0_1 t) fullShare (iblk m c 1 t) from by rw [← after0_1]]
  rw [show (dats m 0 c).leavesExact 2 t = owns (c : Thread nD τ) (st0_2 t) fullShare (iblk m c 2 t) from by rw [← after0_2]]
  rw [show (dats m 0 c).leavesExact 3 t = owns (c : Thread nD τ) (st0_3 t) fullShare (iblk m c 3 t) from by rw [← after0_3]]
  rw [show (dats m 0 c).leavesExact 4 t = owns (c : Thread nD τ) (st0_4 t) fullShare (iblk m c 4 t) from by rw [← after0_4]]
  rw [show (dats m 0 c).leavesExact 5 t = owns (c : Thread nD τ) (st0_5 t) fullShare (iblk m c 5 t) from by rw [← after0_5]]
  rw [show (dats m 0 c).leavesExact 7 t = owns (c : Thread nD τ) (st0_7 t) fullShare (seq m c (t.val + 1)).g from by rw [← after0_7]]
  unfold Inv Pipeline.Dat.owesAt Pipeline.owesWithin
  iintro ⟨⟨%A, %W, %hAW, HA, HW, ⟨%S, HS⟩, HB, Hs, Hg⟩, ⟨%Ws, -, HO⟩, ⟨%d0, H0⟩, ⟨%d1, H1⟩, ⟨%d2, H2⟩, ⟨%d3, H3⟩, ⟨%d4, H4⟩, ⟨%d5, H5⟩, ⟨%d6, H6⟩, ⟨%d7, H7⟩⟩
  obtain ⟨hA, hW⟩ := hAW
  iapply (body c (grid0.coords t) _ _ _ _ _ _ _ _ _ _ _ _ _ _ _ _ _ _ _ _ _ _ _ _ cc0_scoped0 (blocksAt m c t)
    ⟨A, W, (dats m 0 c).before 7 t d7, (seq m c t.val).out⟩ ((dats m 0 c).before 6 t d6) S Ws)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HB]; · iexact HB
  isplitl [HA]; · iexact HA
  isplitl [HW]; · iexact HW
  isplitl [HS]; · iexact HS
  isplitl [Hs]; · iexact Hs
  isplitl [HO]; · iexact HO
  unfold step; dsimp only
  rw [acc_step m c t A hA, out_step m c t W hW, g_step m c t _ fun ht => before0_7 m c t ht d7]
  iintro ⟨H0, H1, H2, H3, H4, H5, H6, H7, HB, HA, HW, HS, Hs, ⟨%Ws', HO⟩⟩
  isplitl [HA HW HS HB Hs Hg]
  · iexists _; iexists _
    isplitr
    swap
    · isplitl [HA]; · iexact HA
      isplitl [HW]; · iexact HW
      isplitl [HS]; · iexact HS
      isplitl [HB]; · iexact HB
      isplitl [Hs]; · iexact Hs
      iexact Hg
    · ipureintro
      exact ⟨fun _ => rfl, accw_step m c t W hW⟩
  isplitl [HO]
  · iexists Ws'; isplitr
    · ipureintro; exact fun _ _ => Or.inl trivial
    · iexact HO
  isplitl [H0]; · iexact H0
  isplitl [H1]; · iexact H1
  isplitl [H2]; · iexact H2
  isplitl [H3]; · iexact H3
  isplitl [H4]; · iexact H4
  isplitl [H5]; · iexact H5
  isplitl [H6]; · iapply (leaves6 m c t d6); iexact H6
  iexact H7

/-- The body table's row at point `t`'s slots is the body as the schedule spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

/-- The one buffer outside the pipeline the kernel writes: the weights' gradient in HBM. -/
abbrev R : Finset (Ref sig .tc) := {main_v12_2}

/-- What it ends at. -/
def final (c : Dev nD) (b : Ref sig .tc) : Buf (Elt F) ((c : Thread nD τ).loc b) :=
  Function.update (V m c) main_v12_2 (seq m c 128).out b

theorem routed_eq (c : Dev nD) (G : (b : Ref sig .tc) → Buf (Elt F) ((c : Thread nD τ).loc b)) :
    (Pipeline.routed R c G : sProp 𝕄) = (((c : Thread nD τ).loc main_v12_2) ↦{fullShare} G main_v12_2) := by
  unfold Pipeline.routed; rw [BI.bigSep_eq_bigSepL_of_eq [main_v12_2] (by decide) (by decide)]
  simp only [BI.bigSepL_singleton]

theorem hin (c : Dev nD) : Pipeline.ΦDRG osem spec0 ∅ R (V m) (V m) c ⊢ (dats m 0 c).Φ 0 := by
  rw [Pipeline.ΦDRG_eq, scopedRest0_eq, routed_eq, Pipeline.ownSems0_eq_of_list c osem [0] (by decide) (by decide)]
  rw [show (dats m 0 c).Φ 0 = Inv m c 0 from rfl]
  unfold Inv at_
  simp only [BI.bigSepL_singleton, owns_whole]
  iintro ⟨⟨⟨%f0, H0⟩, ⟨%f1, H1⟩, ⟨%f2, H2⟩⟩, Hg, Hs, -, HB⟩
  iexists f0; iexists f1
  isplitr
  · ipureintro; exact ⟨fun h => absurd rfl h, fun y hy => absurd hy (Nat.not_lt_zero _)⟩
  isplitl [H0]; · iexact H0
  isplitl [H1]; · iexact H1
  isplitl [H2]; · iexists f2; iexact H2
  isplitl [HB]; · iexact HB
  isplitl [Hs]; · iexact Hs
  iexact Hg

theorem hout (c : Dev nD) : (dats m 0 c).Φ (Fin.last cfg0.N) ⊢ Pipeline.ΦDRG osem spec0 ∅ R (V m) (final m) c := by
  rw [Pipeline.ΦDRG_eq, scopedRest0_eq, routed_eq, Pipeline.ownSems0_eq_of_list c osem [0] (by decide) (by decide)]
  rw [show (dats m 0 c).Φ (Fin.last cfg0.N) = Inv m c 128 from by dsimp only [dats]; rw [Fin.val_last]; exact congrArg (Inv m c) N_0]
  unfold Inv at_ final
  simp only [BI.bigSepL_singleton, owns_whole, BI.bigSep_empty, Function.update_self]
  iintro ⟨%A, %W, -, H0, H1, ⟨%S, H2⟩, HB, Hs, Hg⟩
  isplitl [H0 H1 H2]
  · isplitl [H0]; · iexists _; iexact H0
    isplitl [H1]; · iexists _; iexact H1
    iexists _; iexact H2
  isplitl [Hg]; · iexact Hg
  isplitl [Hs]; · iexact Hs
  isplitr
  · iempintro
  iexact HB

set_option backward.isDefEq.respectTransparency.types false in
/-- The run: every array of the pipeline at what its proof data say, the weights' gradient in HBM at the last of the
sequence, every other buffer as the region found it, every semaphore at zero. -/
theorem run_main : θ_run defs (onTc (τ := τ) (main (F := F))) (s₀ m ρ)
    (fun r => Pipeline.FramePostRG cfgs (dats m) 0 R (V m) (final m) r ∧ r.2.sem = fun _ => 0) :=
  Pipeline.θ_run_frame_dmaRG_shared (Q' := _) cfgs (dats m) (0 : Fin 1) launch₀0 osem defs₀ Variants.none ownSemFacts ∅ R (by decide) (by decide) m ρ main
    (hbody := fun c => (body_obligation m c).loose) (hq := fun _ _ _ => rfl) (howed := fun _ _ => rfl) (V := V m)
    (hmain := Pipeline.hmain_prefix cfgs 0 defs₀ Variants.none m main hostOps0 hostOps0_sub hostOps0_fresh main_chain)
    (hA := A_eq m) (G := final m) (hin := hin m) (hout := hout m) (hQ' := fun _ h => h)

/-- The four arguments end as launched and every semaphore at zero. -/
theorem frame_any : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
      ⟨((h.1.1 c).2 main_arg0 (by decide)).trans (V_main_arg0 m c), ((h.1.1 c).2 main_arg1 (by decide)).trans (V_main_arg1 m c),
        ((h.1.1 c).2 main_arg2 (by decide)).trans (V_main_arg2 m c), ((h.1.1 c).2 main_arg3 (by decide)).trans (V_main_arg3 m c)⟩, h.2⟩) (run_main m ρ)

end Cert.Taps

end
-- ==== Proof.TapsValue.lean ====
/- The three result arrays of the taps' backward kernel after the run, element by element. -/
module

public import proofs.«01_k».proof.Proof.TapsBlocks
public import proofs.«01_k».proof.Proof.TapsFrame

@[expose] public section

set_option maxRecDepth 16384

noncomputable section

namespace Cert.Taps

open Idealize.ShloMosaic Idealize.ShloMosaic.TcCoe Idealize.SL.Sem
open Idealize.ShloMosaic.Pipeline (Dat)
open Cert.Kernel2Ideal Cert.Kernel2Ideal.Gen

/-! ## Two ways of summing over the grid -/

/-- A quantity that starts at the first of `J` consecutive steps with the first term and takes up one term a step. -/
theorem run_sum (f P : ℕ → EReal) (b : ℕ) (first : f (b + 1) = P 0) (J : ℕ) (upd : ∀ j, j + 1 < J → f (b + (j + 1) + 1) = f (b + (j + 1)) + P (j + 1)) :
    ∀ j, j < J → f (b + j + 1) = ∑ k ∈ Finset.range (j + 1), P k
  | 0, _ => by rw [Finset.sum_range_one]; exact first
  | j + 1, h => by rw [upd j h, Finset.sum_range_succ _ (j + 1), ← run_sum f P b first J upd j (by omega)]; rfl

/-- A quantity that takes up one term at every eighth step, `s` steps into the eight, and is kept at the others. -/
theorem strided (f P : ℕ → EReal) (s : ℕ) (hs : s < 8) (first : f (s + 1) = P 0)
    (upd : ∀ t, t < 128 → t % 8 = s → 8 ≤ t → f (t + 1) = f t + P (t / 8)) (keep : ∀ t, t < 128 → t % 8 ≠ s → f (t + 1) = f t) :
    ∀ r, r < 16 → ∀ j, j < 8 → 8 * r + s + 1 + j ≤ 128 → f (8 * r + s + 1 + j) = ∑ k ∈ Finset.range (r + 1), P k := by
  have later : ∀ r : ℕ, ∀ j, j < 8 → 8 * r + s + 1 + j ≤ 128 → f (8 * r + s + 1 + j) = f (8 * r + s + 1) := by
    intro r j
    induction j with
    | zero => intro _ _; rfl
    | succ j ih =>
      intro hj hb
      rw [← ih (by omega) (by omega)]
      exact keep (8 * r + s + 1 + j) (by omega) (by omega)
  intro r
  induction r with
  | zero =>
    intro _ j hj hb
    rw [later 0 j hj hb, Finset.sum_range_one]
    exact (congrArg f (by omega)).trans first
  | succ r ih =>
    intro hr j hj hb
    have h7 := ih (by omega) 7 (by omega) (by omega)
    have hu := upd (8 * (r + 1) + s) (by omega) (by omega) (by omega)
    rw [later (r + 1) j hj hb, hu, Finset.sum_range_succ, ← h7]
    have e1 : 8 * (r + 1) + s = 8 * r + s + 1 + 7 := by omega
    have e2 : (8 * (r + 1) + s) / 8 = r + 1 := by omega
    rw [e2, ← e1]

variable (m : (ℓ : Loc nD τ sig) → Buf (Elt Ideal) ℓ) (c : Dev nD)

/-! ## What is carried, read at one index -/

/-- The gradient of the convolution's input. -/
abbrev refDu (T : Fin 8192) (q : Fin 5632) : EReal := Cert.Reference2Ideal.Taps.du (argT m c) (argC m c) T q

/-- Channel `q` of shard `s`; row `r` of row block `b`. -/
def chan (s : Fin 8) (q : Fin 704) : Fin 5632 := ⟨s * 704 + q, by omega⟩
def rowIn (b : Fin 16) (r : Fin 512) : Fin 8192 := ⟨b * 512 + r, by omega⟩

theorem chanOf_eq (t : Fin cfg0.N) (s : Fin 8) (hs : t.val % 8 = s) (q : Fin 704) : chanOf t q = chan s q :=
  Fin.ext (show t.val % 8 * 704 + (q : ℕ) = s * 704 + q by rw [hs])
theorem rowOf_eq (t : Fin cfg0.N) (b : Fin 16) (hb : t.val / 8 = b) (r : Fin 512) : rowOf t r = rowIn b r :=
  Fin.ext (show t.val / 8 * 512 + (r : ℕ) = b * 512 + r by rw [hb])

theorem acc_next (t : Fin cfg0.N) (r : Fin 512) (l : Fin 1024) :
    (seq m c (t.val + 1)).acc (ix2 r l)
      = (if t.val % 8 = 0 then 0 else (seq m c t.val).acc (ix2 r l)) + ∑ q : Fin 704, refDu m c (rowOf t r) (chanOf t q) * argW m c (ix2 l (chanOf t q)) := by
  have e : ∀ q : Fin 704, du (grid0.coords t) (blocksAt m c t) r q * wB m c t (ix3 0 l q) = refDu m c (rowOf t r) (chanOf t q) * argW m c (ix2 l (chanOf t q)) := fun q => by
    rw [du_at, wB_at]
  rw [seq_succ]
  show accOf (grid0.coords t) (blocksAt m c t) _ (ix2 r l) = _
  rw [acc_at, ← Finset.sum_congr rfl fun q _ => e q]
  by_cases h : t.val % 8 = 0
  · rw [if_pos ((isHead_iff t).mpr h), if_pos h, clear_acc_at]; rfl
  · rw [if_neg (fun g => h ((isHead_iff t).mp g)), if_neg h]; rfl

theorem split34 (t : Fin cfg0.N) : k0_cond3 (grid0.coords t) = 1#1 ↔ ¬k0_cond4 (grid0.coords t) = 1#1 := by
  rw [cond3_iff, cond4_iff]; omega

theorem five_four (t : Fin cfg0.N) : k0_cond5 (grid0.coords t) = 1#1 → k0_cond4 (grid0.coords t) = 1#1 := by
  rw [cond5_iff, cond4_iff]; omega

theorem accw_next (t : Fin cfg0.N) (s : Fin 8) (l : Fin 1024) (q : Fin 704) :
    (seq m c (t.val + 1)).accw (ix3 s l q)
      = if t.val % 8 = s then (if t.val < 8 then 0 else (seq m c t.val).accw (ix3 s l q)) + ∑ r : Fin 512, argH m c (ix2 (rowOf t r) l) * refDu m c (rowOf t r) (chanOf t q)
        else (seq m c t.val).accw (ix3 s l q) := by
  have e : ∀ r : Fin 512, hB m c t (ix2 r l) * du (grid0.coords t) (blocksAt m c t) r q = argH m c (ix2 (rowOf t r) l) * refDu m c (rowOf t r) (chanOf t q) := fun r => by
    rw [du_at, hB_at]
  have h1 := coord1 t
  rw [seq_succ]
  show wOf (grid0.coords t) (blocksAt m c t) _ (ix3 s l q) = _
  rw [w_at _ _ _ (split34 t), ← Finset.sum_congr rfl fun r _ => e r, h1]
  by_cases hs : t.val % 8 = s
  · rw [if_pos hs.symm, if_pos hs]
    by_cases h : t.val < 8
    · rw [if_pos ((cond3_iff t).mpr h), if_pos h]; rfl
    · rw [if_neg (fun g => h ((cond3_iff t).mp g)), if_neg h]; rfl
  · rw [if_neg (fun g => hs g.symm), if_neg hs]

theorem out_next (t : Fin cfg0.N) (s : Fin 8) (l : Fin 1024) (q : Fin 704) :
    (seq m c (t.val + 1)).out (ix3 s l q) = if 120 ≤ t.val ∧ t.val % 8 = s then (seq m c (t.val + 1)).accw (ix3 s l q) else (seq m c t.val).out (ix3 s l q) := by
  have h1 := coord1 t
  rw [seq_succ]
  show outOf (grid0.coords t) (blocksAt m c t) _ _ (ix3 s l q) = if _ then wOf (grid0.coords t) (blocksAt m c t) _ (ix3 s l q) else _
  rw [out_at _ _ _ _ (split34 t) (five_four t)]
  by_cases h : 120 ≤ t.val ∧ t.val % 8 = s
  · rw [if_pos h, if_pos ⟨(cond5_iff t).mpr h.1, h.2.symm.trans h1.symm⟩]
  · rw [if_neg h, if_neg (fun g => h ⟨(cond5_iff t).mp g.1, (g.2.trans h1).symm⟩)]

/-- What one row block adds to a row of the taps' gradient. -/
def tapTerm (b : Fin 16) (k : Fin 8) (q : Fin 5632) : EReal :=
  if (k : ℕ) = 0 then ∑ r : Fin 512, Cert.Reference2Ideal.Taps.later (argC m c) 2 (rowIn b r) q * Cert.Reference2Ideal.Taps.inp (argH m c) (argW m c) (rowIn b r) q
  else if (k : ℕ) = 1 then ∑ r : Fin 512, Cert.Reference2Ideal.Taps.later (argC m c) 1 (rowIn b r) q * Cert.Reference2Ideal.Taps.inp (argH m c) (argW m c) (rowIn b r) q
  else if (k : ℕ) = 2 then ∑ r : Fin 512, argC m c (ix2 (rowIn b r) q) * Cert.Reference2Ideal.Taps.inp (argH m c) (argW m c) (rowIn b r) q
  else if (k : ℕ) = 3 then ∑ r : Fin 512, argC m c (ix2 (rowIn b r) q)
  else 0

theorem tapSum_at (t : Fin cfg0.N) (b : Fin 16) (hb : t.val / 8 = b) (s : Fin 8) (hs : t.val % 8 = s) (k : Fin 8) (q : Fin 704) :
    tapSum (grid0.coords t) (blocksAt m c t) k q = tapTerm m c b k (chan s q) := by
  have a1 : ∀ r, ahead (grid0.coords t) (dB m c t) (nB m c t) 1 r q = Cert.Reference2Ideal.Taps.later (argC m c) 1 (rowIn b r) (chan s q) := fun r => by
    rw [← rowOf_eq t b hb, ← chanOf_eq t s hs]; exact ahead_at m c t 1 r q
  have a2 : ∀ r, ahead (grid0.coords t) (dB m c t) (nB m c t) 2 r q = Cert.Reference2Ideal.Taps.later (argC m c) 2 (rowIn b r) (chan s q) := fun r => by
    rw [← rowOf_eq t b hb, ← chanOf_eq t s hs]; exact ahead_at m c t 2 r q
  have d0 : ∀ r, dB m c t (ix3 0 r q) = argC m c (ix2 (rowIn b r) (chan s q)) := fun r => by
    rw [← rowOf_eq t b hb, ← chanOf_eq t s hs]; exact dB_at m c t r q
  have u0 : ∀ r, uB m c t (ix3 0 r q) = Cert.Reference2Ideal.Taps.inp (argH m c) (argW m c) (rowIn b r) (chan s q) := fun r => by
    rw [← rowOf_eq t b hb, ← chanOf_eq t s hs]; exact uB_at m c t r q
  unfold tapTerm
  simp only [← a1, ← a2, ← d0, ← u0]
  rfl

theorem g_next (t : Fin cfg0.N) (b : Fin 16) (hb : t.val / 8 = b) (s k : Fin 8) (q : Fin 704) :
    (seq m c (t.val + 1)).g (ix3 s k q)
      = if t.val % 8 = s then (seq m c t.val).g (ix3 s k q) + tapTerm m c b k (chan s q) else (seq m c t.val).g (ix3 s k q) := by
  have h1 := coord1 t
  have hG : (if isFirst (grid0.coords t) then k0_pay3 (F := Ideal) else (seq m c t.val).g : Vec Ideal S8x8x704 .f32) = (seq m c t.val).g := by
    by_cases hz : t.val = 0
    · rw [if_pos (isFirst_zero t hz), hz]; rfl
    · rw [if_neg (not_isFirst t hz)]
  rw [seq_succ]
  show gOf (grid0.coords t) (blocksAt m c t) _ (ix3 s k q) = _
  rw [hG, g_at, h1]
  by_cases hs : t.val % 8 = s
  · rw [if_pos hs.symm, if_pos hs, tapSum_at m c t b hb s hs]
  · rw [if_neg (fun g => hs g.symm), if_neg hs]

/-! ## What is carried at the end -/

theorem pointAt (n : ℕ) (hn : n < 128) : ∃ t : Fin cfg0.N, t.val = n := ⟨⟨n, lt_of_lt_of_eq hn (show 128 = cfg0.N from N_0.symm)⟩, rfl⟩

/-- The rows' gradient once the eight shards of a row block are done. -/
theorem acc_end (t : Fin cfg0.N) (h7 : t.val % 8 = 7) (b : Fin 16) (hb : t.val / 8 = b) (r : Fin 512) (l : Fin 1024) :
    (seq m c (t.val + 1)).acc (ix2 r l) = ∑ q : Fin 5632, refDu m c (rowIn b r) q * argW m c (ix2 l q) := by
  have key := run_sum (fun n => (seq m c n).acc (ix2 r l))
    (fun j => if hj : j < 8 then ∑ q : Fin 704, refDu m c (rowIn b r) (chan ⟨j, hj⟩ q) * argW m c (ix2 l (chan ⟨j, hj⟩ q)) else 0) (8 * b)
    (by
      obtain ⟨t', ht'⟩ := pointAt (8 * b) (by omega)
      have e := acc_next m c t' r l
      rw [if_pos (by omega), zero_add, rowOf_eq t' b (by omega)] at e
      simp only [chanOf_eq t' 0 (by rw [ht']; show 8 * (b : ℕ) % 8 = 0; omega)] at e
      rw [← ht', dif_pos (by decide)]
      exact e) 8
    (fun j hj => by
      obtain ⟨t', ht'⟩ := pointAt (8 * b + (j + 1)) (by omega)
      have e := acc_next m c t' r l
      rw [if_neg (by omega), rowOf_eq t' b (by omega)] at e
      simp only [chanOf_eq t' ⟨j + 1, hj⟩ (by rw [ht']; show (8 * (b : ℕ) + (j + 1)) % 8 = j + 1; omega)] at e
      rw [← ht', dif_pos hj]
      exact e) 7 (by decide)
  have ht : t.val + 1 = 8 * b + 7 + 1 := by omega
  rw [ht]
  refine key.trans ?_
  rw [Finset.sum_range]
  simp only [Fin.is_lt, dif_pos]
  exact Fin.sum_mul_add_congr fun s q hl => by
    have e : chan s q = ⟨_, hl⟩ := rfl
    rw [← e]

/-- What one row block adds to the weights' gradient. -/
def wTerm (s : Fin 8) (l : Fin 1024) (q : Fin 704) (b : ℕ) : EReal :=
  if hb : b < 16 then ∑ r : Fin 512, argH m c (ix2 (rowIn ⟨b, hb⟩ r) l) * refDu m c (rowIn ⟨b, hb⟩ r) (chan s q) else 0

/-- The weights' gradient of a shard after the row blocks up to `b`. -/
theorem accw_after (s : Fin 8) (l : Fin 1024) (q : Fin 704) (b : ℕ) (hb : b < 16) :
    (seq m c (8 * b + s + 1)).accw (ix3 s l q) = ∑ k ∈ Finset.range (b + 1), wTerm m c s l q k := by
  refine strided (fun n => (seq m c n).accw (ix3 s l q)) (wTerm m c s l q) s s.isLt ?_ ?_ ?_ b hb 0 (by decide) (by omega)
  · obtain ⟨t', ht'⟩ := pointAt s (by omega)
    have e := accw_next m c t' s l q
    rw [if_pos (by omega), if_pos (by omega), zero_add] at e
    simp only [rowOf_eq t' 0 (by rw [ht']; show (s : ℕ) / 8 = 0; omega), chanOf_eq t' s (by omega)] at e
    rw [← ht', wTerm, dif_pos (by decide)]
    exact e
  · intro n hn h8 hle
    obtain ⟨t', rfl⟩ := pointAt n hn
    have e := accw_next m c t' s l q
    rw [if_pos (by omega), if_neg (by omega)] at e
    simp only [rowOf_eq t' ⟨t'.val / 8, by omega⟩ rfl, chanOf_eq t' s (by omega)] at e
    rw [wTerm, dif_pos (by omega)]
    exact e
  · intro n hn h8
    obtain ⟨t', rfl⟩ := pointAt n hn
    have e := accw_next m c t' s l q
    rw [if_neg h8] at e
    exact e

/-- What HBM holds of the weights' gradient at the end. -/
theorem out_end (s : Fin 8) (l : Fin 1024) (q : Fin 704) :
    (seq m c 128).out (ix3 s l q) = ∑ T : Fin 8192, argH m c (ix2 T l) * refDu m c T (chan s q) := by
  have stay : ∀ j, j < 8 → 120 + (s : ℕ) + 1 + j ≤ 128 → (seq m c (120 + s + 1 + j)).out (ix3 s l q) = (seq m c (120 + s + 1)).out (ix3 s l q) := by
    intro j
    induction j with
    | zero => intro _ _; rfl
    | succ j ih =>
      intro hj hb
      rw [← ih (by omega) (by omega)]
      obtain ⟨t', ht'⟩ := pointAt (120 + s + 1 + j) (by omega)
      have e := out_next m c t' s l q
      rw [if_neg (by omega)] at e
      rw [← ht']
      exact (congrArg (fun n => (seq m c n).out (ix3 s l q)) (by omega)).trans e
  have h0 : (seq m c 128).out (ix3 s l q) = (seq m c (120 + s + 1)).out (ix3 s l q) :=
    (congrArg (fun n => (seq m c n).out (ix3 s l q)) (by omega)).trans (stay (7 - s) (by omega) (by omega))
  obtain ⟨t', ht'⟩ := pointAt (120 + s) (by omega)
  have e := out_next m c t' s l q
  rw [if_pos (by omega), ht'] at e
  rw [h0, e]
  refine (accw_after m c s l q 15 (by decide)).trans ?_
  rw [Finset.sum_range]
  unfold wTerm
  simp only [Fin.is_lt, dif_pos]
  exact Fin.sum_mul_add_congr fun b r hl => by
    have e : rowIn b r = ⟨_, hl⟩ := rfl
    rw [← e]

/-- The taps' gradient at the end. -/
theorem g_end (s k : Fin 8) (q : Fin 704) :
    (seq m c 128).g (ix3 s k q) = Cert.Reference2Ideal.Taps.dtap (argH m c) (argW m c) (argC m c) k (chan s q) := by
  have early : ∀ n, n ≤ (s : ℕ) → (seq m c n).g (ix3 s k q) = 0 := by
    intro n
    induction n with
    | zero => intro _; exact clear_g_at s k q
    | succ n ih =>
      intro hn
      obtain ⟨t', rfl⟩ := pointAt n (by omega)
      have e := g_next m c t' ⟨t'.val / 8, by omega⟩ rfl s k q
      rw [if_neg (by omega)] at e
      exact e.trans (ih (by omega))
  have key := strided (fun n => (seq m c n).g (ix3 s k q)) (fun b => if hb : b < 16 then tapTerm m c ⟨b, hb⟩ k (chan s q) else 0) s s.isLt
    (by
      obtain ⟨t', ht'⟩ := pointAt s (by omega)
      have e := g_next m c t' 0 (by rw [ht']; show (s : ℕ) / 8 = 0; omega) s k q
      rw [if_pos (by omega), early t'.val (by omega), zero_add, ht'] at e
      rw [dif_pos (by decide)]
      exact e)
    (fun n hn h8 hle => by
      obtain ⟨t', rfl⟩ := pointAt n hn
      have e := g_next m c t' ⟨t'.val / 8, by omega⟩ rfl s k q
      rw [if_pos h8] at e
      rw [dif_pos (by omega)]
      exact e)
    (fun n hn h8 => by
      obtain ⟨t', rfl⟩ := pointAt n hn
      have e := g_next m c t' ⟨t'.val / 8, by omega⟩ rfl s k q
      rw [if_neg h8] at e
      exact e)
    15 (by decide) (7 - s) (by omega) (by omega)
  refine (congrArg (fun n => (seq m c n).g (ix3 s k q)) (by omega : 128 = 8 * 15 + (s : ℕ) + 1 + (7 - s))).trans (key.trans ?_)
  rw [Finset.sum_range]
  simp only [Fin.is_lt, dif_pos]
  unfold tapTerm Cert.Reference2Ideal.Taps.dtap
  have fold : ∀ f : Fin 8192 → EReal, ∑ b : Fin (15 + 1), ∑ r : Fin 512, f (rowIn b r) = ∑ T : Fin 8192, f T := fun f =>
    Fin.sum_mul_add_congr fun b r hl => rfl
  by_cases h0 : (k : ℕ) = 0
  · simp only [if_pos h0]
    exact fold fun T => Cert.Reference2Ideal.Taps.later (argC m c) 2 T (chan s q) * Cert.Reference2Ideal.Taps.inp (argH m c) (argW m c) T (chan s q)
  by_cases h1 : (k : ℕ) = 1
  · simp only [if_neg h0, if_pos h1]
    exact fold fun T => Cert.Reference2Ideal.Taps.later (argC m c) 1 T (chan s q) * Cert.Reference2Ideal.Taps.inp (argH m c) (argW m c) T (chan s q)
  by_cases h2 : (k : ℕ) = 2
  · simp only [if_neg h0, if_neg h1, if_pos h2]
    exact fold fun T => argC m c (ix2 T (chan s q)) * Cert.Reference2Ideal.Taps.inp (argH m c) (argW m c) T (chan s q)
  by_cases h3 : (k : ℕ) = 3
  · simp only [if_neg h0, if_neg h1, if_neg h2, if_pos h3]
    exact fold fun T => argC m c (ix2 T (chan s q))
  · simp only [if_neg h0, if_neg h1, if_neg h2, if_neg h3]
    exact Finset.sum_const_zero

/-! ## The three arrays -/

theorem flush6 : ∀ t : Fin cfg0.N, (cfg0.win 6).flush t = true → t.val % 8 = 7 :=
  (by decide +kernel : ∀ t : Fin grid0.N, (cfg0.win 6).flush t = true → t.val % 8 = 7)
theorem flush7 : ∀ t : Fin cfg0.N, (cfg0.win 7).flush t = true → t.val = 127 :=
  (by decide +kernel : ∀ t : Fin grid0.N, (cfg0.win 7).flush t = true → t.val = 127)

/-- The reference's three results. -/
abbrev refDh : FVec Ideal S8192x1024 .f32 := Cert.Reference2Ideal.Read.val_main_v67 (F := Ideal) (argW m c) (argT m c) (argC m c)
abbrev refDtaps : FVec Ideal S8x8x704 .f32 := Cert.Reference2Ideal.Read.val_main_v72 (F := Ideal) (argH m c) (argW m c) (argC m c)
abbrev refDw : FVec Ideal S8x1024x704 .bf16 := Cert.Reference2Ideal.Read.val_main_v75 (F := Ideal) (argH m c) (argT m c) (argC m c)

theorem acc_ref (t : Fin cfg0.N) (h7 : t.val % 8 = 7) (y : S512x1024.Idx) (T : Fin 8192) (l : Fin 1024) (hT : (T : ℕ) = t.val / 8 * 512 + y 0) (hl : (l : ℕ) = y 1) :
    (seq m c (t.val + 1)).acc y = refDh m c (ix2 T l) := by
  have ht := lt128 t
  obtain rfl : l = y 1 := Fin.ext hl
  have eT : T = rowIn ⟨t.val / 8, by omega⟩ (y 0) := Fin.ext hT
  rw [eT]
  refine (congrArg (seq m c (t.val + 1)).acc (eq_ix2 y)).trans ((acc_end m c t h7 ⟨t.val / 8, by omega⟩ rfl (y 0) (y 1)).trans ?_)
  exact (Cert.Reference2Ideal.Taps.dh_at (argW m c) (argT m c) (argC m c) _ _).symm

/-- THE FIRST RESULT is the reference's gradient of `h`. -/
theorem final6 : (dats m 0 c).arrAt 6 (cfgs 0).N = refDh m c := by
  refine (dats m 0 c).arrAt_eq_of_covers 6 _ (by decide +kernel) fun t hf y => ?_
  blk_simp [idx t]
  rw [after0_6]
  refine (acc_ref m c t (flush6 t hf) y ⟨t / 8 * 512 + y 0, by have := lt128 t; have : (y 0 : ℕ) < 512 := (y 0).isLt; omega⟩ (y 1) rfl rfl).trans ?_
  refine congrArg (refDh m c) ?_
  blk_ext [idx t]

theorem g_ref (y : S8x8x704.Idx) : (seq m c 128).g y = refDtaps m c y := by
  idx_vars y
  rw [g_end]
  exact (Cert.Reference2Ideal.Taps.dtaps_at (argH m c) (argW m c) (argC m c) _ _ _).symm

/-- THE SECOND RESULT is the reference's gradient of the taps and of the bias. -/
theorem final7 : (dats m 0 c).arrAt 7 (cfgs 0).N = refDtaps m c := by
  refine (dats m 0 c).arrAt_eq_of_covers 7 _ (by decide +kernel) fun t hf y => ?_
  blk_simp [idx t]
  rw [after0_7, flush7 t hf]
  refine (g_ref m c y).trans ?_
  refine congrArg (refDtaps m c) ?_
  blk_ext [idx t]

/-- THE THIRD RESULT is the reference's gradient of `w_up`. -/
theorem final_out : (seq m c 128).out = refDw m c := by
  funext y
  idx_vars y
  rw [out_end]
  exact (Cert.Reference2Ideal.Taps.dwup_at (argH m c) (argT m c) (argC m c) _ _ _).symm

end Cert.Taps

end
-- ==== Proof.TapsClaim.lean ====
/- The frames of the taps' backward kernel and of its reference, and the equation of the two. -/
module

public import proofs.«01_k».proof.Defs
public import proofs.«01_k».proof.Proof.TapsValue
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Reference2Ideal.Read
public import Idealize.ShloMosaic.Lib.Quiescent

@[expose] public section

set_option maxRecDepth 16384

noncomputable section

namespace Cert.Taps

open Idealize.ShloMosaic Idealize.ShloMosaic.TcCoe Idealize.SL.Sem

attribute [local instance] Cert.Kernel2.Gen.facts Cert.Kernel2Ideal.Gen.facts Cert.Reference2Ideal.Gen.facts

/-- The kernel runs, leaves its arguments and ends with every semaphore at zero. -/
theorem frame_ideal : Cert.quiescent_Kernel2Ideal := fun m g _ => frame_any (F := Ideal) m g

/-- The body table of the program at the machine's floats is the one of its ideal twin, read at those floats. -/
theorem bodies_eq : @Cert.Kernel2.defs₀ Bits _ _ = @Cert.Kernel2Ideal.defs₀ Bits _ _ := by
  refine congrArg Defs.onTc (funext fun l => funext fun x => ?_)
  match l, x with
  | 0, (t, s) => exact rfl

theorem defs_eq : @Cert.Kernel2.defs Bits _ _ = @Cert.Kernel2Ideal.defs Bits _ _ :=
  congrArg (Pipeline.defs (Cert.Kernel2.pcfgs (F := Bits))) bodies_eq

/-- So the same run is the frame at the machine's floats. -/
theorem frame_kernel : Cert.quiescent_Kernel2 := by
  intro m g _
  rw [defs_eq]
  exact frame_any (F := Bits) m g

/-- The reference runs, leaves its arguments, and has no semaphores. -/
theorem frame_ref : Cert.quiescent_Reference2Ideal := fun m g _ =>
  (θ_run Cert.Reference2Ideal.defs _ _).mono (fun r h => ⟨fun c => (h c).2.2.2, sem_eq_zero_of_no_sems (by decide) r.2⟩) (Cert.Reference2Ideal.Value.run m g)

/-- Both programs end with the same three arrays: the gradients of `h`, of the taps with the bias, and of `w_up`. -/
theorem algebraic : Cert.algebraic_Kernel2Ideal_Reference2Ideal := by
  intro m g m' g' hpre hargs
  refine ⟨fun c => refDh m c, fun c => refDtaps m c, fun c => refDw m c,
    (θ_run Cert.Kernel2Ideal.defs _ _).mono (fun r h c => ?_) (run_main (F := Ideal) m g),
    (θ_run Cert.Reference2Ideal.defs _ _).mono (fun r h c => ?_) (Cert.Reference2Ideal.Value.run m' g')⟩
  · exact ⟨((h.1.1 c).1 6).trans (final6 m c), ((h.1.1 c).1 7).trans (final7 m c), (h.1.written c (by decide)).trans (final_out m c),
      ((h.1.1 c).2 Cert.Kernel2Ideal.main_arg0 (by decide)).trans (Cert.Kernel2Ideal.Gen.V_main_arg0 m c),
      ((h.1.1 c).2 Cert.Kernel2Ideal.main_arg1 (by decide)).trans (Cert.Kernel2Ideal.Gen.V_main_arg1 m c),
      ((h.1.1 c).2 Cert.Kernel2Ideal.main_arg2 (by decide)).trans (Cert.Kernel2Ideal.Gen.V_main_arg2 m c),
      ((h.1.1 c).2 Cert.Kernel2Ideal.main_arg3 (by decide)).trans (Cert.Kernel2Ideal.Gen.V_main_arg3 m c)⟩
  · obtain ⟨h0, h1, h2, h3⟩ := h c
    obtain ⟨a0, a1, a2, a3⟩ := hargs c
    refine ⟨h0.trans ?_, h1.trans ?_, h2.trans ?_, h3⟩
    · rw [Cert.Reference2Ideal.Read.val_main_v67_eq, a1, a2, a3]
    · rw [Cert.Reference2Ideal.Read.val_main_v72_eq, a0, a1, a3]
    · rw [Cert.Reference2Ideal.Read.val_main_v75_eq, a0, a2, a3]

end Cert.Taps

end
-- ==== Proof.FwdNorm.lean ====
/- The norm, the residual and the modulation of one row, as both programs of the forward call write them. -/
module

public import Idealize.ShloMosaic.Lib.Pointwise

@[expose] public section

noncomputable section

namespace Cert.Fwd

open Idealize.ShloMosaic

/-- The reciprocal root of a row's mean square, with the small constant added. -/
def root (v : Fin 1024 → EReal) : EReal :=
  Ideal.rsqrt (Ideal.div (∑ l : Fin 1024, v l * v l) (Ideal.ofBits .f32 1149239296#32) + Ideal.ofBits .f32 897988541#32)

/-- The residual row: `x` plus the gate times the normed `y`. -/
def added (x g y p : Fin 1024 → EReal) (c : Fin 1024) : EReal := x c + g c * (y c * root y * p c)

/-- The next sub-layer's input row: the normed row, scaled and shifted. -/
def shifted (x g s h : Fin 1024 → EReal) (c : Fin 1024) : EReal := x c * root x * g c * (1 + s c) + h c

end Cert.Fwd

end
-- ==== Proof.FwdPay.lean ====
/- What the forward kernel computes at one grid point, read at one index of its blocks. -/
module

public import proofs.«01_k».proof.Proof.Gen.Kernel3Ideal.Skeleton
public import proofs.«01_k».proof.Proof.FwdNorm
public import Idealize.ShloMosaic.Lib.Pointwise

@[expose] public section

set_option maxRecDepth 16384

noncomputable section

namespace Cert.Kernel3Ideal.Fwd

open Cert.Kernel3Ideal Cert.Kernel3Ideal.Gen Idealize.ShloMosaic

/-- One shard's channels of `h·w_up`, at the point's own 512 rows. -/
def up (d : Vec Ideal S512x1024 .bf16) (w : Vec Ideal S1x1024x704 .bf16) (r : Fin 512) (q : Fin 704) : EReal := ∑ l : Fin 1024, d (ix2 r l) * w (ix3 0 l q)

/-- The same at the eight rows before them, taken as zero at the first row block. -/
def halo (i : grid0.Coords) (n : Vec Ideal S8x1024 .bf16) (w : Vec Ideal S1x1024x704 .bf16) (r : Fin 8) (q : Fin 704) : EReal :=
  if (i 0 : ℕ) = 0 then 0 else ∑ l : Fin 1024, n (ix2 r l) * w (ix3 0 l q)

/-- Rows `k` back: from the point's own rows `u`, or from the eight rows `v` before them. -/
def back (u : Fin 512 → EReal) (v : Fin 8 → EReal) (k : ℕ) (hk : k < 9) (r : Fin 512) : EReal :=
  if h : k ≤ (r : ℕ) then u ⟨r - k, by omega⟩ else v ⟨8 + r - k, by omega⟩

theorem select_first (i : grid0.Coords) (x y : EReal) :
    Scalar.select (Scalar.cmpi .eq (BitVec.ofNat 32 (i 0).val) 0#32) x y = if (i 0 : ℕ) = 0 then x else y := by
  have e : Scalar.cmpi .eq (BitVec.ofNat 32 (i 0).val) 0#32 = BitVec.ofBool (decide ((i 0 : ℕ) = 0)) :=
    (by decide : ∀ a : Fin 16, Scalar.cmpi .eq (BitVec.ofNat 32 a.val) 0#32 = BitVec.ofBool (decide ((a : ℕ) = 0))) (i 0)
  rw [e]
  by_cases h : (i 0 : ℕ) = 0
  · rw [if_pos h, decide_eq_true h]; rfl
  · rw [if_neg h, decide_eq_false h]; rfl

theorem select_lt (a : Fin 8) (k : ℕ) (hk : k < 9) (x y : EReal) :
    Scalar.select (IntOp.cmpi .slt (BitVec.ofNat 32 a) (BitVec.ofNat 32 k)) x y = if (a : ℕ) < k then x else y := by
  have e : IntOp.cmpi .slt (BitVec.ofNat 32 a) (BitVec.ofNat 32 k) = BitVec.ofBool (decide ((a : ℕ) < k)) :=
    (by decide : ∀ (k : Fin 9) (a : Fin 8), IntOp.cmpi .slt (BitVec.ofNat 32 a) (BitVec.ofNat 32 k) = BitVec.ofBool (decide ((a : ℕ) < k))) ⟨k, hk⟩ a
  rw [e]
  by_cases h : (a : ℕ) < k
  · rw [if_pos h, decide_eq_true h]; rfl
  · rw [if_neg h, decide_eq_false h]; rfl

/-- The product at the point's own rows. -/
theorem up_at (d : Vec Ideal S512x1024 .bf16) (w : Vec Ideal S1x1024x704 .bf16) (r : Fin 512) (q : Fin 704) :
    k0_pay10 (F := Ideal) d w (ix2 r q) = up d w r q := by
  pointwise [k0_pay10, k0_pay8]
  rfl

theorem up_at' (d : Vec Ideal S512x1024 .bf16) (w : Vec Ideal S1x1024x704 .bf16) (r : Fin 512) (q : Fin 704) :
    k0_pay20 (F := Ideal) (k0_pay8 d) w (ix2 r q) = up d w r q := by
  pointwise [k0_pay20, k0_pay8]
  rfl

/-- The product at the eight rows before them. -/
theorem halo_at (i : grid0.Coords) (n : Vec Ideal S8x1024 .bf16) (w : Vec Ideal S1x1024x704 .bf16) (r : Fin 8) (q : Fin 704) :
    k0_pay11 (F := Ideal) i n w (ix2 r q) = halo i n w r q := by
  pointwise [k0_pay11, k0_pay9]
  exact select_first i _ _

theorem halo_at' (i : grid0.Coords) (n : Vec Ideal S8x1024 .bf16) (w : Vec Ideal S1x1024x704 .bf16) (r : Fin 8) (q : Fin 704) :
    k0_pay21 (F := Ideal) (BitVec.ofNat 32 (i 0).val) (k0_pay9 n) 0#32 w (ix2 r q) = halo i n w r q := by
  pointwise [k0_pay21, k0_pay9]
  exact select_first i _ _

/-- Eight rows at a time, turned by `k` with the wrapped ones taken from the eight before, is the array `k` rows back. -/
theorem turned (u : Fin 512 → EReal) (v : Fin 8 → EReal) (k : ℕ) (hk : k < 9) (hk0 : 0 < k) (r : Fin 512)
    (g0 : ((r : ℕ) % 8 + 8 - k) % 8 < 8) (g1 : ¬ (r : ℕ) / 8 < 1 → ((r : ℕ) / 8 - 1) * 8 + ((r : ℕ) % 8 + 8 - k) % 8 < 512)
    (g2 : (r : ℕ) / 8 * 8 + ((r : ℕ) % 8 + 8 - k) % 8 < 512) :
    (if (r : ℕ) % 8 < k then
        (if h : (r : ℕ) / 8 < 1 then v ⟨((r : ℕ) % 8 + 8 - k) % 8, g0⟩ else u ⟨((r : ℕ) / 8 - 1) * 8 + ((r : ℕ) % 8 + 8 - k) % 8, g1 h⟩)
      else u ⟨(r : ℕ) / 8 * 8 + ((r : ℕ) % 8 + 8 - k) % 8, g2⟩) = back u v k hk r := by
  have hm : (r : ℕ) / 8 * 8 + (r : ℕ) % 8 = r := by omega
  unfold back
  by_cases h : (r : ℕ) % 8 < k
  · have e : ((r : ℕ) % 8 + 8 - k) % 8 = (r : ℕ) % 8 + 8 - k := Nat.mod_eq_of_lt (by omega)
    rw [if_pos h]
    by_cases hl : (r : ℕ) / 8 < 1
    · rw [dif_pos hl, dif_neg (by omega)]
      exact congrArg v (Fin.ext (show ((r : ℕ) % 8 + 8 - k) % 8 = 8 + r - k by omega))
    · rw [dif_neg hl, dif_pos (by omega)]
      exact congrArg u (Fin.ext (show ((r : ℕ) / 8 - 1) * 8 + ((r : ℕ) % 8 + 8 - k) % 8 = r - k by omega))
  · have e : ((r : ℕ) % 8 + 8 - k) % 8 = (r : ℕ) % 8 - k := by omega
    rw [if_neg h, dif_pos (by omega)]
    exact congrArg u (Fin.ext (show (r : ℕ) / 8 * 8 + ((r : ℕ) % 8 + 8 - k) % 8 = r - k by omega))

/-- The same with the choice of the wrapped rows as the kernel makes it. -/
theorem rolled (u : Fin 512 → EReal) (v : Fin 8 → EReal) (k : ℕ) (hk : k < 9) (hk0 : 0 < k) (r : Fin 512) (hr : (r : ℕ) % 8 < 8)
    (g0 : ((r : ℕ) % 8 + 8 - k) % 8 < 8) (g1 : ¬ (r : ℕ) / 8 < 1 → ((r : ℕ) / 8 - 1) * 8 + ((r : ℕ) % 8 + 8 - k) % 8 < 512)
    (g2 : (r : ℕ) / 8 * 8 + ((r : ℕ) % 8 + 8 - k) % 8 < 512) :
    Scalar.select (IntOp.cmpi .slt (BitVec.ofNat 32 ((r : ℕ) % 8)) (BitVec.ofNat 32 k))
        (if h : (r : ℕ) / 8 < 1 then v ⟨((r : ℕ) % 8 + 8 - k) % 8, g0⟩ else u ⟨((r : ℕ) / 8 - 1) * 8 + ((r : ℕ) % 8 + 8 - k) % 8, g1 h⟩)
        (u ⟨(r : ℕ) / 8 * 8 + ((r : ℕ) % 8 + 8 - k) % 8, g2⟩) = back u v k hk r :=
  (select_lt ⟨(r : ℕ) % 8, hr⟩ k hk _ _).trans (turned u v k hk hk0 r g0 g1 g2)

/-- One channel's convolution of the product, with the rows before the block. -/
def conv (i : grid0.Coords) (d : Vec Ideal S512x1024 .bf16) (n : Vec Ideal S8x1024 .bf16) (w : Vec Ideal S1x1024x704 .bf16) (t0 t1 t2 b : Vec Ideal S1x1x704 .f32)
    (r : Fin 512) (q : Fin 704) : EReal :=
  t0 (ix3 0 0 q) * back (fun r => up d w r q) (fun r => halo i n w r q) 2 (by decide) r
    + t1 (ix3 0 0 q) * back (fun r => up d w r q) (fun r => halo i n w r q) 1 (by decide) r + t2 (ix3 0 0 q) * up d w r q + b (ix3 0 0 q)

/-- The first half's convolution. -/
theorem half_at (i : grid0.Coords) (d : Vec Ideal S512x1024 .bf16) (n : Vec Ideal S8x1024 .bf16) (w : Vec Ideal S1x1024x704 .bf16) (t0 t1 t2 b : Vec Ideal S1x1x704 .f32)
    (r : Fin 512) (q : Fin 704) :
    k0_pay18 (F := Ideal) (k0_pay10 d w) (k0_pay11 i n w) (k0_pay13 t0) (k0_pay15 i d n w w) (k0_pay16 i d n w w) k0_pay17 t1 t2 b (ix2 r q)
      = conv i d n w t0 t1 t2 b r q := by
  unfold conv
  simp only [← up_at, ← halo_at]
  pointwise [k0_pay18, k0_pay17, k0_pay16, k0_pay15, k0_pay14, k0_pay13]
  refine congrArg₂ HAdd.hAdd (congrArg₂ HAdd.hAdd (congrArg₂ HAdd.hAdd (congrArg₂ HMul.hMul rfl ?_) (congrArg₂ HMul.hMul rfl ?_)) rfl) rfl
  · exact rolled (fun r => k0_pay10 (F := Ideal) d w (ix2 r q)) (fun r => k0_pay11 (F := Ideal) i n w (ix2 r q)) 2 _ (by decide) r (by omega) (by omega) (by omega) (by omega)
  · exact rolled (fun r => k0_pay10 (F := Ideal) d w (ix2 r q)) (fun r => k0_pay11 (F := Ideal) i n w (ix2 r q)) 1 _ (by decide) r (by omega) (by omega) (by omega) (by omega)

/-- The second half's convolution. -/
theorem half_at' (i : grid0.Coords) (d : Vec Ideal S512x1024 .bf16) (n : Vec Ideal S8x1024 .bf16) (w : Vec Ideal S1x1024x704 .bf16) (t0 t1 t2 b : Vec Ideal S1x1x704 .f32)
    (r : Fin 512) (q : Fin 704) :
    k0_pay1 (F := Ideal) (k0_pay20 (k0_pay8 d) w) (k0_pay23 (BitVec.ofNat 32 (i 0).val) (k0_pay9 n) (k0_pay20 (k0_pay8 d) w) 0#32 w t0) (k0_pay24 t1)
        (k0_pay25 (BitVec.ofNat 32 (i 0).val) (k0_pay9 n) (k0_pay20 (k0_pay8 d) w) 0#32 w) t2 b (ix2 r q)
      = conv i d n w t0 t1 t2 b r q := by
  unfold conv
  simp only [← up_at', ← halo_at']
  pointwise [k0_pay1, k0_pay23, k0_pay24, k0_pay25]
  refine congrArg₂ HAdd.hAdd (congrArg₂ HAdd.hAdd (congrArg₂ HAdd.hAdd (congrArg₂ HMul.hMul rfl ?_) (congrArg₂ HMul.hMul rfl ?_)) rfl) rfl
  · exact rolled (fun r => k0_pay20 (F := Ideal) (k0_pay8 d) w (ix2 r q)) (fun r => k0_pay21 (F := Ideal) (BitVec.ofNat 32 (i 0).val) (k0_pay9 n) 0#32 w (ix2 r q)) 2 _ (by decide) r (by omega) (by omega) (by omega) (by omega)
  · exact rolled (fun r => k0_pay20 (F := Ideal) (k0_pay8 d) w (ix2 r q)) (fun r => k0_pay21 (F := Ideal) (BitVec.ofNat 32 (i 0).val) (k0_pay9 n) 0#32 w (ix2 r q)) 1 _ (by decide) r (by omega) (by omega) (by omega) (by omega)

/-- The blocks stored of the product. -/
theorem store_up (d : Vec Ideal S512x1024 .bf16) (w : Vec Ideal S1x1024x704 .bf16) (x : S1x1x512x704.Idx) : k0_pay12 (F := Ideal) d w x = up d w (x 2) (x 3) := by
  have e : k0_pay12 (F := Ideal) d w x = k0_pay10 (F := Ideal) d w (ix2 (x 2) (x 3)) := by
    idx_vars x
    pointwise [k0_pay12]
  exact e.trans (up_at d w (x 2) (x 3))

theorem store_up' (d : Vec Ideal S512x1024 .bf16) (w : Vec Ideal S1x1024x704 .bf16) (x : S1x1x512x704.Idx) :
    k0_pay22 (F := Ideal) (k0_pay20 (k0_pay8 d) w) x = up d w (x 2) (x 3) := by
  have e : k0_pay22 (F := Ideal) (k0_pay20 (k0_pay8 d) w) x = k0_pay20 (F := Ideal) (k0_pay8 d) w (ix2 (x 2) (x 3)) := by
    idx_vars x
    pointwise [k0_pay22]
  exact e.trans (up_at' d w (x 2) (x 3))

/-- The blocks stored of the convolution. -/
theorem store_conv (i : grid0.Coords) (d : Vec Ideal S512x1024 .bf16) (n : Vec Ideal S8x1024 .bf16) (w : Vec Ideal S1x1024x704 .bf16) (t0 t1 t2 b : Vec Ideal S1x1x704 .f32)
    (x : S1x1x512x704.Idx) :
    k0_pay19 (F := Ideal) (k0_pay10 d w) (k0_pay11 i n w) (k0_pay13 t0) (k0_pay15 i d n w w) (k0_pay16 i d n w w) k0_pay17 t1 t2 b x
      = conv i d n w t0 t1 t2 b (x 2) (x 3) := by
  refine Eq.trans ?_ (half_at i d n w t0 t1 t2 b (x 2) (x 3))
  idx_vars x
  pointwise [k0_pay19]

theorem store_conv' (i : grid0.Coords) (d : Vec Ideal S512x1024 .bf16) (n : Vec Ideal S8x1024 .bf16) (w : Vec Ideal S1x1024x704 .bf16) (t0 t1 t2 b : Vec Ideal S1x1x704 .f32)
    (x : S1x1x512x704.Idx) :
    k0_pay2 (F := Ideal) (k0_pay20 (k0_pay8 d) w) (k0_pay23 (BitVec.ofNat 32 (i 0).val) (k0_pay9 n) (k0_pay20 (k0_pay8 d) w) 0#32 w t0) (k0_pay24 t1)
        (k0_pay25 (BitVec.ofNat 32 (i 0).val) (k0_pay9 n) (k0_pay20 (k0_pay8 d) w) 0#32 w) t2 b x
      = conv i d n w t0 t1 t2 b (x 2) (x 3) := by
  refine Eq.trans ?_ (half_at' i d n w t0 t1 t2 b (x 2) (x 3))
  idx_vars x
  pointwise [k0_pay2]

/-- The gate's product with one shard of `w_down`, added to the accumulator. -/
theorem acc_at (A : FVec Ideal S512x704 .f32) (u v : FVec Ideal S512x704 .f32) (t1 : FVec Ideal S1x704 .f32) (s : FVec Ideal S64x8x704 .f32) (t2 b : Vec Ideal S1x1x704 .f32)
    (acc : Vec Ideal S512x1024 .f32) (w : Vec Ideal S1x704x1024 .bf16) (j : S512x1024.Idx) :
    k0_pay3 (F := Ideal) A u v t1 s t2 b acc w j
      = acc j + ∑ q : Fin 704, (A (ix2 (j 0) q) * Ideal.logistic (A (ix2 (j 0) q))) * k0_pay1 (F := Ideal) u v t1 s t2 b (ix2 (j 0) q) * w (ix3 0 q (j 1)) := by
  idx_vars j
  pointwise [k0_pay3]

theorem zero_at (j : S512x1024.Idx) : k0_pay7 (F := Ideal) j = 0 := by pointwise [k0_pay7]

/-- The residual's block. -/
theorem added_at (y x : Vec Ideal S512x1024 .f32) (g p : Vec Ideal S1x1024 .f32) (r : Fin 512) (c : Fin 1024) :
    k0_pay5 (F := Ideal) y x g p (ix2 r c)
      = Cert.Fwd.added (fun l => x (ix2 r l)) (fun l => g (ix2 0 l)) (fun l => y (ix2 r l)) (fun l => p (ix2 0 l)) c := by
  pointwise [k0_pay5]
  rfl

/-- The next sub-layer's input block. -/
theorem shifted_at (y x : Vec Ideal S512x1024 .f32) (g p n s h : Vec Ideal S1x1024 .f32) (r : Fin 512) (c : Fin 1024) :
    k0_pay4 (F := Ideal) (k0_pay6 y x g p n) s h (ix2 r c)
      = Cert.Fwd.shifted (fun l => k0_pay5 (F := Ideal) y x g p (ix2 r l)) (fun l => n (ix2 0 l)) (fun l => s (ix2 0 l)) (fun l => h (ix2 0 l)) c := by
  pointwise [k0_pay4, k0_pay6]
  rfl

end Cert.Kernel3Ideal.Fwd

end
-- ==== Proof.FwdRef.lean ====
/- The five results of the forward reference, read at one index. -/
module

public import proofs.«01_k».proof.Proof.Gen.Reference3Ideal.Read
public import proofs.«01_k».proof.Proof.FwdNorm
public import Idealize.ShloMosaic.Lib.Pointwise

@[expose] public section

set_option maxRecDepth 16384

noncomputable section

namespace Cert.Reference3Ideal.Fwd

open Cert.Reference3Ideal Cert.Reference3Ideal.Gen Cert.Reference3Ideal.Read Idealize.ShloMosaic

variable (h : FVec Ideal S8192x1024 .f32) (w : FVec Ideal S1024x5632 .f32) (dw : FVec Ideal S3x5632 .f32) (b : FVec Ideal S5632 .f32) (wd : FVec Ideal S2816x1024 .f32)

/-- The convolution's input. -/
def inp (t : Fin 8192) (q : Fin 5632) : EReal := ∑ l : Fin 1024, h (ix2 t l) * w (ix2 l q)

/-- The convolution's input `k` rows before, zero before the start. -/
def before (k : ℕ) (t : Fin 8192) (q : Fin 5632) : EReal := if g : (t : ℕ) < k then 0 else inp h w ⟨t - k, by omega⟩ q

/-- The convolution. -/
def conv (t : Fin 8192) (q : Fin 5632) : EReal :=
  ((dw (ix2 0 q) * before h w 2 t q + dw (ix2 1 q) * before h w 1 t q) + dw (ix2 2 q) * inp h w t q) + b (ix1 q)

/-- The gated channel. -/
def gated (t : Fin 8192) (q : Fin 2816) : EReal :=
  (conv h w dw b t ⟨q, by omega⟩ * Ideal.logistic (conv h w dw b t ⟨q, by omega⟩)) * conv h w dw b t ⟨2816 + q, by omega⟩

theorem inp_at (t : Fin 8192) (q : Fin 5632) : val_main_v16 (F := Ideal) h w (ix2 t q) = inp h w t q := by
  pointwise [val_main_v16, val_main_v2, val_main_v1, val_main_v0, val_main_cst]
  unfold inp
  have e : ∀ g', (⟨2 + (t : ℕ) - 2, g'⟩ : Fin 8192) = t := fun _ => Fin.ext (by simp only []; omega)
  simp only [e]

theorem inp1_at (t : Fin 8192) (q : Fin 5632) : val_main_v9 (F := Ideal) h w (ix2 t q) = before h w 1 t q := by
  pointwise [val_main_v9, val_main_v2, val_main_v1, val_main_v0, val_main_cst]
  unfold before inp
  by_cases g : (t : ℕ) < 1
  · rw [dif_pos (by omega), dif_pos g]
  · have e : ∀ g', (⟨1 + (t : ℕ) - 2, g'⟩ : Fin 8192) = ⟨t - 1, by omega⟩ := fun _ => Fin.ext (by simp only []; omega)
    rw [dif_neg (by omega), dif_neg g]
    simp only [e]

theorem inp2_at (t : Fin 8192) (q : Fin 5632) : val_main_v3 (F := Ideal) h w (ix2 t q) = before h w 2 t q := by
  pointwise [val_main_v3, val_main_v2, val_main_v1, val_main_v0, val_main_cst]
  rfl

theorem conv_at (t : Fin 8192) (q : Fin 5632) : val_main_v25 (F := Ideal) h w dw b (ix2 t q) = conv h w dw b t q := by
  unfold conv
  rw [← inp_at, ← inp1_at, ← inp2_at]
  pointwise [val_main_v25, val_main_v24, val_main_v23, val_main_v22, val_main_v21, val_main_v20, val_main_v19, val_main_v18, val_main_v17, val_main_v15, val_main_v14,
    val_main_v13, val_main_v12, val_main_v11, val_main_v10, val_main_v8, val_main_v7, val_main_v6, val_main_v5, val_main_v4]
  simp only [mul_comm]

/-- The first result, laid out by halves and shards. -/
theorem u_at (p : Fin 2) (s : Fin 4) (t : Fin 8192) (q : Fin 704) :
    val_main_v70 (F := Ideal) h w (ix4 p s t q) = inp h w t ⟨p * 2816 + s * 704 + q, by omega⟩ := by
  pointwise [val_main_v70, val_main_v69, val_main_v0]
  rfl

/-- The second result, laid out by halves and shards. -/
theorem uc_at (p : Fin 2) (s : Fin 4) (t : Fin 8192) (q : Fin 704) :
    val_main_v73 (F := Ideal) h w dw b (ix4 p s t q) = conv h w dw b t ⟨p * 2816 + s * 704 + q, by omega⟩ := by
  rw [← conv_at]
  pointwise [val_main_v73, val_main_v72, val_main_v71]

theorem gated_at (t : Fin 8192) (q : Fin 2816) : val_main_v29 (F := Ideal) h w dw b (ix2 t q) = gated h w dw b t q := by
  unfold gated
  simp only [← conv_at]
  pointwise [val_main_v29, val_main_v28, val_main_call0_v5, val_main_call0_v4, val_main_call0_v3, val_main_call0_v2, val_main_call0_v1, val_main_call0_v0, val_main_call0_cst,
    val_main_call0_cst_0, val_main_v27, val_main_v26]
  rfl

/-- The third result. -/
theorem y_at (t : Fin 8192) (c : Fin 1024) : val_main_v30 (F := Ideal) h w dw b wd (ix2 t c) = ∑ q : Fin 2816, gated h w dw b t q * wd (ix2 q c) := by
  simp only [← gated_at]
  pointwise [val_main_v30]

variable (x : FVec Ideal S8192x1024 .f32) (gt pg ng sc sh : FVec Ideal S1024 .f32)

/-- The fourth result. -/
theorem xo_at (t : Fin 8192) (c : Fin 1024) : val_main_v47 (F := Ideal) h w dw b wd x gt pg (ix2 t c)
    = Cert.Fwd.added (fun l => x (ix2 t l)) (fun l => gt (ix1 l)) (fun l => val_main_v30 (F := Ideal) h w dw b wd (ix2 t l)) (fun l => pg (ix1 l)) c := by
  pointwise [val_main_v47, val_main_v46, val_main_v45, val_main_v44, val_main_v43, val_main_v42, val_main_v41, val_main_v40, val_main_v39, val_main_v38, val_main_v37,
    val_main_v36, val_main_v35, val_main_v34, val_main_v33, val_main_v32, val_main_v31, val_main_cst_0, val_main_cst_1, val_main_cst_2]
  rfl

/-- The fifth result. -/
theorem hn_at (t : Fin 8192) (c : Fin 1024) : val_main_v74 (F := Ideal) h w dw b wd x gt pg ng sc sh (ix2 t c)
    = Cert.Fwd.shifted (fun l => val_main_v47 (F := Ideal) h w dw b wd x gt pg (ix2 t l)) (fun l => ng (ix1 l)) (fun l => sc (ix1 l)) (fun l => sh (ix1 l)) c := by
  pointwise [val_main_v74, val_main_v68, val_main_v67, val_main_v66, val_main_v65, val_main_v64, val_main_v63, val_main_v62, val_main_v61, val_main_v60, val_main_v59,
    val_main_v58, val_main_v57, val_main_v56, val_main_v55, val_main_v54, val_main_v53, val_main_v52, val_main_v51, val_main_v50, val_main_v49, val_main_v48, val_main_cst_3,
    val_main_cst_4, val_main_cst_5, val_main_cst_6]
  rfl

end Cert.Reference3Ideal.Fwd

end
-- ==== Proof.FwdBlocks.lean ====
/- The blocks that one grid point of the forward kernel reads, as rows and shards of the arguments, and what it computes of them. -/
module

public import proofs.«01_k».proof.Proof.FwdPay
public import proofs.«01_k».proof.Proof.FwdRef
public import proofs.«01_k».proof.Proof.Gen.Kernel3Ideal.Frame
public import Idealize.ShloMosaic.Lib.Pipeline.ValueKit

@[expose] public section

set_option maxRecDepth 16384

noncomputable section

namespace Cert.Kernel3Ideal.Fwd

open Idealize.ShloMosaic Idealize.ShloMosaic.TcCoe Idealize.SL.Sem
open Cert.Kernel3Ideal Cert.Kernel3Ideal.Gen

/-- Where each window's block sits at grid point `t`: row block `t / 4`, shard `t % 4`. -/
theorem idx : ∀ t : Fin cfg0.N, win0_0.index t = ![t.val / 4, 0] ∧ win0_1.index t = ![64 * (t.val / 4) - 1, 0] ∧ win0_2.index t = ![t.val % 4, 0, 0]
    ∧ win0_3.index t = ![t.val % 4 + 4, 0, 0] ∧ win0_4.index t = ![t.val % 4, 0, 0] ∧ win0_5.index t = ![t.val % 4 + 4, 0, 0] ∧ win0_6.index t = ![t.val % 4, 0, 0]
    ∧ win0_7.index t = ![t.val % 4 + 4, 0, 0] ∧ win0_8.index t = ![t.val % 4, 0, 0] ∧ win0_9.index t = ![t.val / 4, 0] :=
  (by decide +kernel : ∀ t : Fin grid0.N, _)

/-- Where the rows that every point reads, and the blocks it stores, sit. -/
theorem idx' : ∀ t : Fin cfg0.N, win0_10.index t = ![0, 0] ∧ win0_11.index t = ![0, 0] ∧ win0_12.index t = ![0, 0] ∧ win0_13.index t = ![0, 0] ∧ win0_14.index t = ![0, 0]
    ∧ win0_15.index t = ![0, t.val % 4, t.val / 4, 0] ∧ win0_16.index t = ![0, t.val % 4, t.val / 4, 0] ∧ win0_17.index t = ![t.val / 4, 0] ∧ win0_18.index t = ![t.val / 4, 0]
    ∧ win0_19.index t = ![t.val / 4, 0] :=
  (by decide +kernel : ∀ t : Fin grid0.N, _)

theorem lt64 : ∀ t : Fin cfg0.N, t.val < 64 := (by decide +kernel : ∀ t : Fin grid0.N, t.val < 64)

theorem coord0 : ∀ t : Fin cfg0.N, (grid0.coords t 0).val = t.val / 4 := (by decide +kernel : ∀ t : Fin grid0.N, (grid0.coords t 0).val = t.val / 4)

variable (m : (ℓ : Loc nD τ sig) → Buf (Elt Ideal) ℓ) (c : Dev nD)

/-- The arguments. -/
abbrev argH : FVec Ideal S8192x1024 .f32 := m ((c : Thread nD τ).loc main_arg0)
abbrev argW : FVec Ideal S1024x5632 .f32 := m ((c : Thread nD τ).loc main_arg1)
abbrev argT : FVec Ideal S3x5632 .f32 := m ((c : Thread nD τ).loc main_arg2)
abbrev argB : FVec Ideal S5632 .f32 := m ((c : Thread nD τ).loc main_arg3)
abbrev argD : FVec Ideal S2816x1024 .f32 := m ((c : Thread nD τ).loc main_arg4)
abbrev argX : FVec Ideal S8192x1024 .f32 := m ((c : Thread nD τ).loc main_arg5)
abbrev argG : FVec Ideal S1024 .f32 := m ((c : Thread nD τ).loc main_arg6)
abbrev argP : FVec Ideal S1024 .f32 := m ((c : Thread nD τ).loc main_arg7)
abbrev argN : FVec Ideal S1024 .f32 := m ((c : Thread nD τ).loc main_arg8)
abbrev argS : FVec Ideal S1024 .f32 := m ((c : Thread nD τ).loc main_arg9)
abbrev argU : FVec Ideal S1024 .f32 := m ((c : Thread nD τ).loc main_arg10)

/-- The row that row `r` of point `t`'s blocks is, and the channels that lane `q` of its two shards is. -/
def rowOf (t : Fin cfg0.N) (r : Fin 512) : Fin 8192 := ⟨t.val / 4 * 512 + r, by have := lt64 t; omega⟩
def chanOf (t : Fin cfg0.N) (p : Fin 2) (q : Fin 704) : Fin 5632 := ⟨p * 2816 + t.val % 4 * 704 + q, by omega⟩

/-- The blocks that one point reads. -/
abbrev hB (t : Fin cfg0.N) : FVec Ideal S512x1024 .bf16 := iblk m c 0 t
abbrev nB (t : Fin cfg0.N) : FVec Ideal S8x1024 .bf16 := iblk m c 1 t
abbrev waB (t : Fin cfg0.N) : FVec Ideal S1x1024x704 .bf16 := iblk m c 2 t
abbrev wbB (t : Fin cfg0.N) : FVec Ideal S1x1024x704 .bf16 := iblk m c 3 t
abbrev taB (t : Fin cfg0.N) : FVec Ideal S1x3x704 .f32 := iblk m c 4 t
abbrev tbB (t : Fin cfg0.N) : FVec Ideal S1x3x704 .f32 := iblk m c 5 t
abbrev baB (t : Fin cfg0.N) : FVec Ideal S1x1x704 .f32 := iblk m c 6 t
abbrev bbB (t : Fin cfg0.N) : FVec Ideal S1x1x704 .f32 := iblk m c 7 t
abbrev dB (t : Fin cfg0.N) : FVec Ideal S1x704x1024 .bf16 := iblk m c 8 t
abbrev xB (t : Fin cfg0.N) : FVec Ideal S512x1024 .f32 := iblk m c 9 t
abbrev gB (t : Fin cfg0.N) : FVec Ideal S1x1024 .f32 := iblk m c 10 t
abbrev pB (t : Fin cfg0.N) : FVec Ideal S1x1024 .f32 := iblk m c 11 t
abbrev ngB (t : Fin cfg0.N) : FVec Ideal S1x1024 .f32 := iblk m c 12 t
abbrev scB (t : Fin cfg0.N) : FVec Ideal S1x1024 .f32 := iblk m c 13 t
abbrev shB (t : Fin cfg0.N) : FVec Ideal S1x1024 .f32 := iblk m c 14 t

theorem hB_at (t : Fin cfg0.N) (r : Fin 512) (l : Fin 1024) : hB m c t (ix2 r l) = argH m c (ix2 (rowOf t r) l) := by
  unfold rowOf
  blk_point [hB, iblk, V, idx t]

theorem nB_at (t : Fin cfg0.N) (ht : 0 < t.val / 4) (r : Fin 8) (l : Fin 1024) :
    nB m c t (ix2 r l) = argH m c (ix2 ⟨t.val / 4 * 512 - 8 + r, by have := lt64 t; omega⟩ l) := by
  have hi := (idx t).2.1
  have e : 64 * (t.val / 4) - 1 = t.val / 4 * 64 - 1 := by omega
  blk_point [nB, iblk, V, hi]

theorem waB_at (t : Fin cfg0.N) (l : Fin 1024) (q : Fin 704) : waB m c t (ix3 0 l q) = argW m c (ix2 l (chanOf t 0 q)) := by
  have e : ∀ g, chanOf t 0 q = ⟨t.val % 4 * 704 + q, g⟩ := fun _ => Fin.ext (show 0 * 2816 + t.val % 4 * 704 + (q : ℕ) = t.val % 4 * 704 + q by omega)
  rw [e (by omega)]
  blk_point [waB, iblk, V, idx t]

theorem wbB_at (t : Fin cfg0.N) (l : Fin 1024) (q : Fin 704) : wbB m c t (ix3 0 l q) = argW m c (ix2 l (chanOf t 1 q)) := by
  have e : ∀ g, chanOf t 1 q = ⟨(t.val % 4 + 4) * 704 + q, g⟩ := fun _ => Fin.ext (show 1 * 2816 + t.val % 4 * 704 + (q : ℕ) = (t.val % 4 + 4) * 704 + q by omega)
  rw [e (by omega)]
  blk_point [wbB, iblk, V, idx t]

theorem taB_at (t : Fin cfg0.N) (k : Fin 3) (q : Fin 704) : taB m c t (ix3 0 k q) = argT m c (ix2 k (chanOf t 0 q)) := by
  have e : ∀ g, chanOf t 0 q = ⟨t.val % 4 * 704 + q, g⟩ := fun _ => Fin.ext (show 0 * 2816 + t.val % 4 * 704 + (q : ℕ) = t.val % 4 * 704 + q by omega)
  rw [e (by omega)]
  blk_point [taB, iblk, V, idx t]

theorem tbB_at (t : Fin cfg0.N) (k : Fin 3) (q : Fin 704) : tbB m c t (ix3 0 k q) = argT m c (ix2 k (chanOf t 1 q)) := by
  have e : ∀ g, chanOf t 1 q = ⟨(t.val % 4 + 4) * 704 + q, g⟩ := fun _ => Fin.ext (show 1 * 2816 + t.val % 4 * 704 + (q : ℕ) = (t.val % 4 + 4) * 704 + q by omega)
  rw [e (by omega)]
  blk_point [tbB, iblk, V, idx t]

theorem baB_at (t : Fin cfg0.N) (q : Fin 704) : baB m c t (ix3 0 0 q) = argB m c (ix1 (chanOf t 0 q)) := by
  have e : ∀ g, chanOf t 0 q = ⟨t.val % 4 * 704 + q, g⟩ := fun _ => Fin.ext (show 0 * 2816 + t.val % 4 * 704 + (q : ℕ) = t.val % 4 * 704 + q by omega)
  rw [e (by omega)]
  blk_point [baB, iblk, V, idx t]

theorem bbB_at (t : Fin cfg0.N) (q : Fin 704) : bbB m c t (ix3 0 0 q) = argB m c (ix1 (chanOf t 1 q)) := by
  have e : ∀ g, chanOf t 1 q = ⟨(t.val % 4 + 4) * 704 + q, g⟩ := fun _ => Fin.ext (show 1 * 2816 + t.val % 4 * 704 + (q : ℕ) = (t.val % 4 + 4) * 704 + q by omega)
  rw [e (by omega)]
  blk_point [bbB, iblk, V, idx t]

theorem dB_at (t : Fin cfg0.N) (q : Fin 704) (l : Fin 1024) : dB m c t (ix3 0 q l) = argD m c (ix2 ⟨t.val % 4 * 704 + q, by omega⟩ l) := by
  blk_point [dB, iblk, V, idx t]

theorem xB_at (t : Fin cfg0.N) (r : Fin 512) (l : Fin 1024) : xB m c t (ix2 r l) = argX m c (ix2 (rowOf t r) l) := by
  unfold rowOf
  blk_point [xB, iblk, V, idx t]

theorem gB_at (t : Fin cfg0.N) (l : Fin 1024) : gB m c t (ix2 0 l) = argG m c (ix1 l) := by blk_point [gB, iblk, V, idx' t]
theorem pB_at (t : Fin cfg0.N) (l : Fin 1024) : pB m c t (ix2 0 l) = argP m c (ix1 l) := by blk_point [pB, iblk, V, idx' t]
theorem ngB_at (t : Fin cfg0.N) (l : Fin 1024) : ngB m c t (ix2 0 l) = argN m c (ix1 l) := by blk_point [ngB, iblk, V, idx' t]
theorem scB_at (t : Fin cfg0.N) (l : Fin 1024) : scB m c t (ix2 0 l) = argS m c (ix1 l) := by blk_point [scB, iblk, V, idx' t]
theorem shB_at (t : Fin cfg0.N) (l : Fin 1024) : shB m c t (ix2 0 l) = argU m c (ix1 l) := by blk_point [shB, iblk, V, idx' t]

/-- The product at the point's own rows is the reference's. -/
theorem up_ref (t : Fin cfg0.N) (w : Vec Ideal S1x1024x704 .bf16) (r : Fin 512) (q : Fin 704) (ch : Fin 5632) (hw : ∀ l, w (ix3 0 l q) = argW m c (ix2 l ch)) :
    up (hB m c t) w r q = Cert.Reference3Ideal.Fwd.inp (argH m c) (argW m c) (rowOf t r) ch :=
  Finset.sum_congr rfl fun l _ => congrArg₂ (· * ·) (hB_at m c t r l) (hw l)

/-- The product `k` rows back is the reference's. -/
theorem back_ref (t : Fin cfg0.N) (w : Vec Ideal S1x1024x704 .bf16) (k : ℕ) (hk : k < 9) (hk0 : 0 < k) (r : Fin 512) (q : Fin 704) (ch : Fin 5632)
    (hw : ∀ l, w (ix3 0 l q) = argW m c (ix2 l ch)) :
    back (fun r => up (hB m c t) w r q) (fun r => halo (grid0.coords t) (nB m c t) w r q) k hk r
      = Cert.Reference3Ideal.Fwd.before (argH m c) (argW m c) k (rowOf t r) ch := by
  have h0 := coord0 t
  have ht := lt64 t
  have hr : (rowOf t r : ℕ) = t.val / 4 * 512 + r := rfl
  unfold back Cert.Reference3Ideal.Fwd.before
  by_cases h : k ≤ (r : ℕ)
  · rw [dif_pos h, dif_neg (show ¬(rowOf t r : ℕ) < k by omega)]
    refine (up_ref m c t w _ q ch hw).trans (congrArg (fun z => Cert.Reference3Ideal.Fwd.inp (argH m c) (argW m c) z ch) (Fin.ext ?_))
    show t.val / 4 * 512 + ((r : ℕ) - k) = t.val / 4 * 512 + r - k
    omega
  · rw [dif_neg h]
    unfold halo
    beta_reduce
    by_cases hl : t.val / 4 = 0
    · rw [if_pos (h0.trans hl), dif_pos (show (rowOf t r : ℕ) < k by omega)]
    · rw [if_neg (fun e => hl (h0.symm.trans e)), dif_neg (show ¬(rowOf t r : ℕ) < k by omega)]
      refine (Finset.sum_congr rfl fun l _ => congrArg₂ (· * ·) (nB_at m c t (by omega) _ l) (hw l)).trans
        (congrArg (fun z => Cert.Reference3Ideal.Fwd.inp (argH m c) (argW m c) z ch) (Fin.ext (a := (⟨t.val / 4 * 512 - 8 + (8 + (r : ℕ) - k), by omega⟩ : Fin 8192)) ?_))
      show t.val / 4 * 512 - 8 + (8 + (r : ℕ) - k) = t.val / 4 * 512 + r - k
      omega

/-- The convolution of one channel is the reference's. -/
theorem conv_ref (t : Fin cfg0.N) (w : Vec Ideal S1x1024x704 .bf16) (t0 t1 t2 b : Vec Ideal S1x1x704 .f32) (r : Fin 512) (q : Fin 704) (ch : Fin 5632)
    (hw : ∀ l, w (ix3 0 l q) = argW m c (ix2 l ch)) (h0 : t0 (ix3 0 0 q) = argT m c (ix2 0 ch)) (h1 : t1 (ix3 0 0 q) = argT m c (ix2 1 ch))
    (h2 : t2 (ix3 0 0 q) = argT m c (ix2 2 ch)) (hb : b (ix3 0 0 q) = argB m c (ix1 ch)) :
    conv (grid0.coords t) (hB m c t) (nB m c t) w t0 t1 t2 b r q
      = Cert.Reference3Ideal.Fwd.conv (argH m c) (argW m c) (argT m c) (argB m c) (rowOf t r) ch := by
  unfold conv Cert.Reference3Ideal.Fwd.conv
  rw [back_ref m c t w 2 _ (by decide) r q ch hw, back_ref m c t w 1 _ (by decide) r q ch hw, up_ref m c t w r q ch hw, h0, h1, h2, hb]

end Cert.Kernel3Ideal.Fwd

end
-- ==== Proof.FwdValue.lean ====
/- The five result arrays of the forward kernel after the run, element by element. -/
module

public import proofs.«01_k».proof.Proof.FwdBlocks
public import Idealize.ShloMosaic.Lib.Pipeline.ValueKit
public import Idealize.ShloMosaic.Lib.Pipeline.ReadBack
public import Idealize.ShloMosaic.Lib.ViewIndex

@[expose] public section

set_option maxRecDepth 16384

noncomputable section

namespace Cert.Kernel3Ideal.Fwd

open Idealize.ShloMosaic Idealize.ShloMosaic.TcCoe Idealize.SL.Sem
open Idealize.ShloMosaic.Pipeline (Dat)
open Cert.Kernel3Ideal Cert.Kernel3Ideal.Gen

variable (m : (ℓ : Loc nD τ sig) → Buf (Elt Ideal) ℓ) (c : Dev nD)

/-! ## One tap of a shard's three -/

abbrev tap0 (T : FVec Ideal S1x3x704 .f32) : FVec Ideal S1x1x704 .f32 := View.ld (Val := Elt Ideal) (S := S1x3x704) (e' := .f32) T (Rect.unit ![0, 0, 0] ![1, 1, 704] inb_S1x3x704_S1x1x704_0_0_0)
abbrev tap1 (T : FVec Ideal S1x3x704 .f32) : FVec Ideal S1x1x704 .f32 := View.ld (Val := Elt Ideal) (S := S1x3x704) (e' := .f32) T (Rect.unit ![0, 1, 0] ![1, 1, 704] inb_S1x3x704_S1x1x704_0_1_0)
abbrev tap2 (T : FVec Ideal S1x3x704 .f32) : FVec Ideal S1x1x704 .f32 := View.ld (Val := Elt Ideal) (S := S1x3x704) (e' := .f32) T (Rect.unit ![0, 2, 0] ![1, 1, 704] inb_S1x3x704_S1x1x704_0_2_0)

theorem tap0_at (T : FVec Ideal S1x3x704 .f32) (q : Fin 704) : tap0 T (ix3 0 0 q) = T (ix3 0 0 q) :=
  congrArg T (Shape.idx3_ext (show 0 + 1 * 0 = 0 by omega) (show 0 + 1 * 0 = 0 by omega) (show 0 + 1 * (q : ℕ) = q by omega))
theorem tap1_at (T : FVec Ideal S1x3x704 .f32) (q : Fin 704) : tap1 T (ix3 0 0 q) = T (ix3 0 1 q) :=
  congrArg T (Shape.idx3_ext (show 0 + 1 * 0 = 0 by omega) (show 1 + 1 * 0 = 1 by omega) (show 0 + 1 * (q : ℕ) = q by omega))
theorem tap2_at (T : FVec Ideal S1x3x704 .f32) (q : Fin 704) : tap2 T (ix3 0 0 q) = T (ix3 0 2 q) :=
  congrArg T (Shape.idx3_ext (show 0 + 1 * 0 = 0 by omega) (show 2 + 1 * 0 = 2 by omega) (show 0 + 1 * (q : ℕ) = q by omega))

/-- The reference's convolution of the kernel's arguments. -/
abbrev convR (t : Fin 8192) (q : Fin 5632) : EReal := Cert.Reference3Ideal.Fwd.conv (argH m c) (argW m c) (argT m c) (argB m c) t q

/-- The two convolved halves of one point are the reference's. -/
theorem conv_a (t : Fin cfg0.N) (r : Fin 512) (q : Fin 704) :
    conv (grid0.coords t) (hB m c t) (nB m c t) (waB m c t) (tap0 (taB m c t)) (tap1 (taB m c t)) (tap2 (taB m c t)) (baB m c t) r q
      = convR m c (rowOf t r) (chanOf t 0 q) :=
  conv_ref m c t _ _ _ _ _ r q _ (fun l => waB_at m c t l q) ((tap0_at _ q).trans (taB_at m c t 0 q)) ((tap1_at _ q).trans (taB_at m c t 1 q))
    ((tap2_at _ q).trans (taB_at m c t 2 q)) (baB_at m c t q)

theorem conv_b (t : Fin cfg0.N) (r : Fin 512) (q : Fin 704) :
    conv (grid0.coords t) (hB m c t) (nB m c t) (wbB m c t) (tap0 (tbB m c t)) (tap1 (tbB m c t)) (tap2 (tbB m c t)) (bbB m c t) r q
      = convR m c (rowOf t r) (chanOf t 1 q) :=
  conv_ref m c t _ _ _ _ _ r q _ (fun l => wbB_at m c t l q) ((tap0_at _ q).trans (tbB_at m c t 0 q)) ((tap1_at _ q).trans (tbB_at m c t 1 q))
    ((tap2_at _ q).trans (tbB_at m c t 2 q)) (bbB_at m c t q)

/-! ## The two laid-out results -/

/-- Every point stores both halves of the product. -/
theorem out15 (t : Fin cfg0.N) (y : S2x1x512x704.Idx) (p : Fin 2) (r : Fin 512) (q : Fin 704)
    (hp : (p : ℕ) = y 0) (hr : (r : ℕ) = y 2) (hq : (q : ℕ) = y 3) :
    (outsAt0 m c t.val t.isLt).1 y = Cert.Reference3Ideal.Fwd.inp (argH m c) (argW m c) (rowOf t r) (chanOf t p q) := by
  have g : t.val % 4 = 0 ∨ (¬ t.val % 4 = 0 ∧ ¬ t.val % 4 = 3) ∨ t.val % 4 = 3 := by omega
  rcases g with g | g | g
  on_goal 1 => rw [outsAt0_A m _ t g (by omega)]
  on_goal 2 => rw [outsAt0_B m _ t g.1 g.2]
  on_goal 3 => rw [outsAt0_C m _ t (by omega) g]
  all_goals
    frame_out
    canon_tiles x f
    · obtain rfl : p = 1 := Fin.ext (by simp only [Fin.val_one]; omega)
      obtain rfl : r = x 2 := Fin.ext (by omega)
      obtain rfl : q = x 3 := Fin.ext (by omega)
      exact (store_up' _ _ x).trans (up_ref m c t _ _ _ _ fun l => wbB_at m c t l _)
    · obtain rfl : p = 0 := Fin.ext (by simp only [Fin.val_zero]; omega)
      obtain rfl : r = x 2 := Fin.ext (by omega)
      obtain rfl : q = x 3 := Fin.ext (by omega)
      exact (store_up _ _ x).trans (up_ref m c t _ _ _ _ fun l => waB_at m c t l _)

set_option maxHeartbeats 1600000 in
/-- Every point stores both halves of the convolution. -/
theorem out16 (t : Fin cfg0.N) (y : S2x1x512x704.Idx) (p : Fin 2) (r : Fin 512) (q : Fin 704)
    (hp : (p : ℕ) = y 0) (hr : (r : ℕ) = y 2) (hq : (q : ℕ) = y 3) :
    (outsAt0 m c t.val t.isLt).2.1 y = convR m c (rowOf t r) (chanOf t p q) := by
  have g : t.val % 4 = 0 ∨ (¬ t.val % 4 = 0 ∧ ¬ t.val % 4 = 3) ∨ t.val % 4 = 3 := by omega
  rcases g with g | g | g
  on_goal 1 => rw [outsAt0_A m _ t g (by omega)]
  on_goal 2 => rw [outsAt0_B m _ t g.1 g.2]
  on_goal 3 => rw [outsAt0_C m _ t (by omega) g]
  all_goals
    frame_out
    canon_tiles x f
    · obtain rfl : p = 1 := Fin.ext (by simp only [Fin.val_one]; omega)
      obtain rfl : r = x 2 := Fin.ext (by omega)
      obtain rfl : q = x 3 := Fin.ext (by omega)
      exact (store_conv' _ _ _ _ _ _ _ _ x).trans (conv_b m c t _ _)
    · obtain rfl : p = 0 := Fin.ext (by simp only [Fin.val_zero]; omega)
      obtain rfl : r = x 2 := Fin.ext (by omega)
      obtain rfl : q = x 3 := Fin.ext (by omega)
      exact (store_conv _ _ _ _ _ _ _ _ x).trans (conv_a m c t _ _)

/-- THE FIRST RESULT is the reference's `h·w_up`, by halves and shards. -/
theorem final15 : (dats m 0 c).arrAt 15 (cfgs 0).N = Cert.Reference3Ideal.Read.val_main_v70 (F := Ideal) (argH m c) (argW m c) := by
  refine (dats m 0 c).arrAt_eq_of_covers 15 _ (by decide +kernel) fun t hf y => ?_
  have ht := lt64 t
  blk_simp [idx' t]
  rw [after0_15]
  refine (out15 m c t y (y 0) (y 2) (y 3) rfl rfl rfl).trans ?_
  refine (Cert.Reference3Ideal.Fwd.u_at (argH m c) (argW m c) (y 0) ⟨t % 4, by omega⟩ (rowOf t (y 2)) (y 3)).symm.trans ?_
  refine congrArg (Cert.Reference3Ideal.Read.val_main_v70 (F := Ideal) (argH m c) (argW m c)) ?_
  unfold rowOf
  blk_ext [idx' t]

/-- THE SECOND RESULT is the reference's convolution, by halves and shards. -/
theorem final16 : (dats m 0 c).arrAt 16 (cfgs 0).N = Cert.Reference3Ideal.Read.val_main_v73 (F := Ideal) (argH m c) (argW m c) (argT m c) (argB m c) := by
  refine (dats m 0 c).arrAt_eq_of_covers 16 _ (by decide +kernel) fun t hf y => ?_
  have ht := lt64 t
  blk_simp [idx' t]
  rw [after0_16]
  refine (out16 m c t y (y 0) (y 2) (y 3) rfl rfl rfl).trans ?_
  refine (Cert.Reference3Ideal.Fwd.uc_at (argH m c) (argW m c) (argT m c) (argB m c) (y 0) ⟨t % 4, by omega⟩ (rowOf t (y 2)) (y 3)).symm.trans ?_
  refine congrArg (Cert.Reference3Ideal.Read.val_main_v73 (F := Ideal) (argH m c) (argW m c) (argT m c) (argB m c)) ?_
  unfold rowOf
  blk_ext [idx' t]

/-! ## The accumulated product, and the two results made of it -/

/-- The channel of the gate that lane `q` of point `t`'s shard is. -/
def gateOf (t : Fin cfg0.N) (q : Fin 704) : Fin 2816 := ⟨t.val % 4 * 704 + q, by omega⟩

/-- What point `t` adds to its 512 rows of the product with `w_down`: its shard's 704 channels. -/
def part (t : Fin cfg0.N) (j : S512x1024.Idx) : EReal :=
  ∑ q : Fin 704, Cert.Reference3Ideal.Fwd.gated (argH m c) (argW m c) (argT m c) (argB m c) (rowOf t (j 0)) (gateOf t q) * argD m c (ix2 (gateOf t q) (j 1))

/-- The accumulator after a point that found `acc` in it. -/
theorem step_at (t : Fin cfg0.N) (acc : Vec Ideal S512x1024 .f32) (j : S512x1024.Idx) :
    k0_pay3 (F := Ideal)
      (k0_pay18 (k0_pay10 (hB m c t) (waB m c t)) (k0_pay11 (grid0.coords t) (nB m c t) (waB m c t)) (k0_pay13 (tap0 (taB m c t)))
        (k0_pay15 (grid0.coords t) (hB m c t) (nB m c t) (waB m c t) (waB m c t)) (k0_pay16 (grid0.coords t) (hB m c t) (nB m c t) (waB m c t) (waB m c t)) k0_pay17
        (tap1 (taB m c t)) (tap2 (taB m c t)) (baB m c t))
      (k0_pay20 (k0_pay8 (hB m c t)) (wbB m c t))
      (k0_pay23 (BitVec.ofNat 32 (grid0.coords t 0).val) (k0_pay9 (nB m c t)) (k0_pay20 (k0_pay8 (hB m c t)) (wbB m c t)) 0#32 (wbB m c t) (tap0 (tbB m c t)))
      (k0_pay24 (tap1 (tbB m c t)))
      (k0_pay25 (BitVec.ofNat 32 (grid0.coords t 0).val) (k0_pay9 (nB m c t)) (k0_pay20 (k0_pay8 (hB m c t)) (wbB m c t)) 0#32 (wbB m c t))
      (tap2 (tbB m c t)) (bbB m c t) acc (dB m c t) j = acc j + part m c t j := by
  refine (acc_at _ _ _ _ _ _ _ _ _ j).trans (congrArg (acc j + ·) (Finset.sum_congr rfl fun q _ => ?_))
  have ea := (half_at (grid0.coords t) (hB m c t) (nB m c t) (waB m c t) (tap0 (taB m c t)) (tap1 (taB m c t)) (tap2 (taB m c t)) (baB m c t) (j 0) q).trans (conv_a m c t (j 0) q)
  have eb := (half_at' (grid0.coords t) (hB m c t) (nB m c t) (wbB m c t) (tap0 (tbB m c t)) (tap1 (tbB m c t)) (tap2 (tbB m c t)) (bbB m c t) (j 0) q).trans (conv_b m c t (j 0) q)
  have ca : chanOf t 0 q = ⟨gateOf t q, by have := (gateOf t q).isLt; omega⟩ := Fin.ext (show 0 * 2816 + t.val % 4 * 704 + (q : ℕ) = t.val % 4 * 704 + q by omega)
  have cb : chanOf t 1 q = ⟨2816 + gateOf t q, by have := (gateOf t q).isLt; omega⟩ :=
    Fin.ext (show 1 * 2816 + t.val % 4 * 704 + (q : ℕ) = 2816 + (t.val % 4 * 704 + q) by omega)
  rw [ca] at ea
  rw [cb] at eb
  exact congrArg₂ (· * ·) (congrArg₂ (· * ·) (congrArg (fun z => z * Ideal.logistic z) ea) eb) (dB_at m c t q (j 1))

set_option maxHeartbeats 1600000 in
/-- A row block's first point starts from zero. -/
theorem acc_first (t : Fin cfg0.N) (h : t.val % 4 = 0) (j : S512x1024.Idx) :
    (outsAt0 m c t.val t.isLt).2.2.2.2.2 j = 0 + part m c t j := by
  rw [outsAt0_A m c t h (by omega)]
  frame_out
  exact (step_at m c t _ j).trans (congrArg (· + part m c t j) (zero_at j))

set_option maxHeartbeats 1600000 in
/-- Every other point continues from the point before. -/
theorem acc_next (t : Fin cfg0.N) (h : ¬ t.val % 4 = 0) (j : S512x1024.Idx) :
    (outsAt0 m c t.val t.isLt).2.2.2.2.2 j
      = (outsAt0 m c (t.val - 1) (Nat.lt_of_le_of_lt (Nat.sub_le ..) t.isLt)).2.2.2.2.2 j + part m c t j := by
  by_cases h1 : t.val % 4 = 3
  · rw [outsAt0_C m c t h h1]
    frame_out
    rw [read_unread_whole]
    exact step_at m c t _ j
  · rw [outsAt0_B m c t h h1]
    frame_out
    rw [read_unread_whole]
    exact step_at m c t _ j

/-- After the last shard of a row block the accumulator holds the reference's product with `w_down`. -/
theorem acc_last (t : Fin cfg0.N) (h : t.val % 4 = 4 - 1) (r : Fin 512) (l : Fin 1024) :
    (outsAt0 m c t.val t.isLt).2.2.2.2.2 (ix2 r l)
      = Cert.Reference3Ideal.Read.val_main_v30 (F := Ideal) (argH m c) (argW m c) (argT m c) (argB m c) (argD m c) (ix2 (rowOf t r) l) := by
  rw [Pipeline.eq_sum_fin_of_reset_step_apply_of_flush (fun n h => (outsAt0 m c n h).2.2.2.2.2) 4 (fun _ => 0) (part m c)
    (acc_first m c) (acc_next m c) t h _, zero_add, Cert.Reference3Ideal.Fwd.y_at]
  unfold part
  refine Fin.sum_mul_add_congr fun s k hl => ?_
  have er : ∀ g, rowOf (⟨4 * (t.val / 4) + s.val, g⟩ : Fin cfg0.N) r = rowOf t r := fun _ => Fin.ext (show (4 * (t.val / 4) + s.val) / 4 * 512 + (r : ℕ) = t.val / 4 * 512 + r by omega)
  have eg : ∀ g, gateOf (⟨4 * (t.val / 4) + s.val, g⟩ : Fin cfg0.N) k = ⟨s.val * 704 + k.val, hl⟩ :=
    fun _ => Fin.ext (show (4 * (t.val / 4) + s.val) % 4 * 704 + (k : ℕ) = s.val * 704 + k by omega)
  exact congrArg₂ (fun a b => Cert.Reference3Ideal.Fwd.gated (argH m c) (argW m c) (argT m c) (argB m c) a b * argD m c (ix2 b l)) (er _) (eg _)

/-- The last point of a row block stores the accumulator, the residual made of it, and the next input made of that. -/
theorem outs (t : Fin cfg0.N) (h : t.val % 4 = 3) :
    (outsAt0 m c t.val t.isLt).2.2.1 = (outsAt0 m c t.val t.isLt).2.2.2.2.2
      ∧ (outsAt0 m c t.val t.isLt).2.2.2.1 = k0_pay5 (F := Ideal) (outsAt0 m c t.val t.isLt).2.2.2.2.2 (xB m c t) (gB m c t) (pB m c t)
      ∧ (outsAt0 m c t.val t.isLt).2.2.2.2.1 = k0_pay4 (F := Ideal) (k0_pay6 (outsAt0 m c t.val t.isLt).2.2.2.2.2 (xB m c t) (gB m c t) (pB m c t) (ngB m c t)) (scB m c t) (shB m c t) := by
  rw [outsAt0_C m _ t (by omega) h]
  refine ⟨?_, ?_, ?_⟩ <;> funext y <;> frame_out

theorem flush17 : ∀ t : Fin cfg0.N, (cfg0.win 17).flush t = true → t.val % 4 = 4 - 1 :=
  (by decide +kernel : ∀ t : Fin grid0.N, (cfg0.win 17).flush t = true → t.val % 4 = 4 - 1)
theorem flush18 : ∀ t : Fin cfg0.N, (cfg0.win 18).flush t = true → t.val % 4 = 4 - 1 :=
  (by decide +kernel : ∀ t : Fin grid0.N, (cfg0.win 18).flush t = true → t.val % 4 = 4 - 1)
theorem flush19 : ∀ t : Fin cfg0.N, (cfg0.win 19).flush t = true → t.val % 4 = 4 - 1 :=
  (by decide +kernel : ∀ t : Fin grid0.N, (cfg0.win 19).flush t = true → t.val % 4 = 4 - 1)

/-- The three results as the reference has them. -/
abbrev yR : FVec Ideal S8192x1024 .f32 := Cert.Reference3Ideal.Read.val_main_v30 (F := Ideal) (argH m c) (argW m c) (argT m c) (argB m c) (argD m c)
abbrev xR : FVec Ideal S8192x1024 .f32 :=
  Cert.Reference3Ideal.Read.val_main_v47 (F := Ideal) (argH m c) (argW m c) (argT m c) (argB m c) (argD m c) (argX m c) (argG m c) (argP m c)
abbrev nR : FVec Ideal S8192x1024 .bf16 :=
  Cert.Reference3Ideal.Read.val_main_v74 (F := Ideal) (argH m c) (argW m c) (argT m c) (argB m c) (argD m c) (argX m c) (argG m c) (argP m c) (argN m c) (argS m c) (argU m c)

/-- The residual's block is the reference's. -/
theorem res_at (t : Fin cfg0.N) (h : t.val % 4 = 4 - 1) (r : Fin 512) (l : Fin 1024) :
    k0_pay5 (F := Ideal) (outsAt0 m c t.val t.isLt).2.2.2.2.2 (xB m c t) (gB m c t) (pB m c t) (ix2 r l) = xR m c (ix2 (rowOf t r) l) := by
  refine (added_at _ _ _ _ r l).trans (Eq.trans ?_ (Cert.Reference3Ideal.Fwd.xo_at (argH m c) (argW m c) (argT m c) (argB m c) (argD m c) (argX m c) (argG m c) (argP m c) (rowOf t r) l).symm)
  have e1 : (fun l => xB m c t (ix2 r l)) = fun l => argX m c (ix2 (rowOf t r) l) := funext fun l => xB_at m c t r l
  have e2 : (fun l => gB m c t (ix2 0 l)) = fun l => argG m c (ix1 l) := funext fun l => gB_at m c t l
  have e3 : (fun l => pB m c t (ix2 0 l)) = fun l => argP m c (ix1 l) := funext fun l => pB_at m c t l
  have e4 : (fun l => (outsAt0 m c t.val t.isLt).2.2.2.2.2 (ix2 r l)) = fun l => yR m c (ix2 (rowOf t r) l) := funext fun l => acc_last m c t h r l
  rw [e1, e2, e3, e4]

/-- The next input's block is the reference's. -/
theorem next_at (t : Fin cfg0.N) (h : t.val % 4 = 4 - 1) (r : Fin 512) (l : Fin 1024) :
    k0_pay4 (F := Ideal) (k0_pay6 (outsAt0 m c t.val t.isLt).2.2.2.2.2 (xB m c t) (gB m c t) (pB m c t) (ngB m c t)) (scB m c t) (shB m c t) (ix2 r l) = nR m c (ix2 (rowOf t r) l) := by
  refine (shifted_at _ _ _ _ _ _ _ r l).trans (Eq.trans ?_ (Cert.Reference3Ideal.Fwd.hn_at (argH m c) (argW m c) (argT m c) (argB m c) (argD m c) (argX m c) (argG m c) (argP m c)
    (argN m c) (argS m c) (argU m c) (rowOf t r) l).symm)
  have e1 : (fun l => k0_pay5 (F := Ideal) (outsAt0 m c t.val t.isLt).2.2.2.2.2 (xB m c t) (gB m c t) (pB m c t) (ix2 r l)) = fun l => xR m c (ix2 (rowOf t r) l) :=
    funext fun l => res_at m c t h r l
  have e2 : (fun l => ngB m c t (ix2 0 l)) = fun l => argN m c (ix1 l) := funext fun l => ngB_at m c t l
  have e3 : (fun l => scB m c t (ix2 0 l)) = fun l => argS m c (ix1 l) := funext fun l => scB_at m c t l
  have e4 : (fun l => shB m c t (ix2 0 l)) = fun l => argU m c (ix1 l) := funext fun l => shB_at m c t l
  rw [e1, e2, e3, e4]

/-- THE THIRD RESULT is the reference's product with `w_down`. -/
theorem final17 : (dats m 0 c).arrAt 17 (cfgs 0).N = yR m c := by
  refine (dats m 0 c).arrAt_eq_of_covers 17 _ (by decide +kernel) fun t hf y => ?_
  blk_simp [idx' t]
  rw [after0_17, (outs m c t (flush17 t hf)).1]
  refine (congrArg _ (eq_ix2 y)).trans ((acc_last m c t (flush17 t hf) (y 0) (y 1)).trans (congrArg (yR m c) ?_))
  unfold rowOf
  blk_ext [idx' t]

/-- THE FOURTH RESULT is the reference's residual. -/
theorem final18 : (dats m 0 c).arrAt 18 (cfgs 0).N = xR m c := by
  refine (dats m 0 c).arrAt_eq_of_covers 18 _ (by decide +kernel) fun t hf y => ?_
  blk_simp [idx' t]
  rw [after0_18, (outs m c t (flush18 t hf)).2.1]
  refine (congrArg _ (eq_ix2 y)).trans ((res_at m c t (flush18 t hf) (y 0) (y 1)).trans (congrArg (xR m c) ?_))
  unfold rowOf
  blk_ext [idx' t]

/-- THE FIFTH RESULT is the reference's next input. -/
theorem final19 : (dats m 0 c).arrAt 19 (cfgs 0).N = nR m c := by
  refine (dats m 0 c).arrAt_eq_of_covers 19 _ (by decide +kernel) fun t hf y => ?_
  blk_simp [idx' t]
  rw [after0_19, (outs m c t (flush19 t hf)).2.2]
  refine (congrArg _ (eq_ix2 y)).trans ((next_at m c t (flush19 t hf) (y 0) (y 1)).trans (congrArg (nR m c) ?_))
  unfold rowOf
  blk_ext [idx' t]

end Cert.Kernel3Ideal.Fwd

end
-- ==== Proof.FwdClaim.lean ====
/- The equation of the forward kernel with its reference. -/
module

public import proofs.«01_k».proof.Defs
public import proofs.«01_k».proof.Proof.FwdValue
public import proofs.«01_k».proof.Proof.Gen.Reference3Ideal.Run
public import proofs.«01_k».proof.Proof.Gen.Reference3Ideal.Read
public import Idealize.ShloMosaic.Lib.Quiescent

@[expose] public section

set_option maxRecDepth 16384

noncomputable section

namespace Cert.Kernel3Ideal.Fwd

open Idealize.ShloMosaic Idealize.ShloMosaic.TcCoe Idealize.SL.Sem
open Cert.Kernel3Ideal Cert.Kernel3Ideal.Gen

variable (m : (ℓ : Loc nD τ sig) → Buf (Elt Ideal) ℓ)

/-- An argument that no window stages, and that the host lines before the call leave alone, ends as it was launched. -/
theorem untouched (r : PUnit × MemSt nD τ sig (Elt Ideal)) (h : Pipeline.FramePost cfgs (dats m) 0 (V m) r) (c : Dev nD) (b : Ref sig .tc)
    (hb : b ∈ Pipeline.restRefs sig (cfgs 0).spec)
    (hV : V m c b = m ((c : Thread nD τ).loc b)) : r.2.mem ((c : Thread nD τ).loc b) = m ((c : Thread nD τ).loc b) :=
  ((h c).2 b hb).trans hV

end Cert.Kernel3Ideal.Fwd

namespace Cert.Fwd

open Idealize.ShloMosaic Idealize.ShloMosaic.TcCoe Idealize.SL.Sem
open Cert.Kernel3Ideal.Gen (dats)

attribute [local instance] Cert.Kernel3Ideal.Gen.facts Cert.Reference3Ideal.Gen.facts

/-- The reference runs, leaves its arguments, and has no semaphores. -/
theorem frame_ref : Cert.quiescent_Reference3Ideal := fun m g _ =>
  (θ_run Cert.Reference3Ideal.defs _ _).mono (fun r h => ⟨fun c => (h c).2.2.2.2.2, sem_eq_zero_of_no_sems (by decide) r.2⟩) (Cert.Reference3Ideal.Value.run m g)

/-- Both programs end with the same five arrays: `h·w_up` and its convolution, each by halves and shards, the product with
    `w_down`, the residual, and the next sub-layer's input. -/
theorem algebraic : Cert.algebraic_Kernel3Ideal_Reference3Ideal := by
  intro m g m' g' hpre hargs
  have hc : ∀ c : Dev Cert.Kernel3Ideal.nD, c = 0 := fun c => Subsingleton.elim _ _
  refine ⟨fun c => (dats m 0 c).arrAt 15 _, fun c => (dats m 0 c).arrAt 16 _, fun c => (dats m 0 c).arrAt 17 _, fun c => (dats m 0 c).arrAt 18 _,
    fun c => (dats m 0 c).arrAt 19 _,
    (θ_run Cert.Kernel3Ideal.defs _ _).mono (fun r h c => ⟨(h c).1 15, (h c).1 16, (h c).1 17, (h c).1 18, (h c).1 19, ?_⟩) (Cert.Kernel3Ideal.Gen.run_main m g),
    (θ_run Cert.Reference3Ideal.defs _ _).mono (fun r h c => ?_) (Cert.Reference3Ideal.Value.run m' g')⟩
  · refine ⟨?_, ?_, ?_, ?_, ?_, ?_, ?_, ?_, ?_, ?_, ?_⟩
    on_goal 6 => exact ((h c).1 9).trans (((dats m 0 c).arrAt_in 9 rfl _).trans ((Cert.Kernel3Ideal.Gen.A_eq m c 9).trans (Cert.Kernel3Ideal.Gen.V_main_arg5 m c)))
    · exact Cert.Kernel3Ideal.Fwd.untouched m r h c _ (Pipeline.mem_restRefs_of _ (by decide) (by decide)) (Cert.Kernel3Ideal.Gen.V_main_arg0 m c)
    · exact Cert.Kernel3Ideal.Fwd.untouched m r h c _ (Pipeline.mem_restRefs_of _ (by decide) (by decide)) (Cert.Kernel3Ideal.Gen.V_main_arg1 m c)
    · exact Cert.Kernel3Ideal.Fwd.untouched m r h c _ (Pipeline.mem_restRefs_of _ (by decide) (by decide)) (Cert.Kernel3Ideal.Gen.V_main_arg2 m c)
    · exact Cert.Kernel3Ideal.Fwd.untouched m r h c _ (Pipeline.mem_restRefs_of _ (by decide) (by decide)) (Cert.Kernel3Ideal.Gen.V_main_arg3 m c)
    · exact Cert.Kernel3Ideal.Fwd.untouched m r h c _ (Pipeline.mem_restRefs_of _ (by decide) (by decide)) (Cert.Kernel3Ideal.Gen.V_main_arg4 m c)
    · exact Cert.Kernel3Ideal.Fwd.untouched m r h c _ (Pipeline.mem_restRefs_of _ (by decide) (by decide)) (Cert.Kernel3Ideal.Gen.V_main_arg6 m c)
    · exact Cert.Kernel3Ideal.Fwd.untouched m r h c _ (Pipeline.mem_restRefs_of _ (by decide) (by decide)) (Cert.Kernel3Ideal.Gen.V_main_arg7 m c)
    · exact Cert.Kernel3Ideal.Fwd.untouched m r h c _ (Pipeline.mem_restRefs_of _ (by decide) (by decide)) (Cert.Kernel3Ideal.Gen.V_main_arg8 m c)
    · exact Cert.Kernel3Ideal.Fwd.untouched m r h c _ (Pipeline.mem_restRefs_of _ (by decide) (by decide)) (Cert.Kernel3Ideal.Gen.V_main_arg9 m c)
    · exact Cert.Kernel3Ideal.Fwd.untouched m r h c _ (Pipeline.mem_restRefs_of _ (by decide) (by decide)) (Cert.Kernel3Ideal.Gen.V_main_arg10 m c)
  · obtain ⟨h0, h1, h2, h3, h4, hk⟩ := h c
    obtain ⟨a0, a1, a2, a3, a4, a5, a6, a7, a8, a9, a10⟩ := hargs c
    have e := hc c
    subst e
    refine ⟨h0.trans ?_, h1.trans ?_, h2.trans ?_, h3.trans ?_, h4.trans ?_, hk⟩
    · rw [Cert.Reference3Ideal.Read.val_main_v70_eq, a0, a1]
      exact (Cert.Kernel3Ideal.Fwd.final15 m 0).symm
    · rw [Cert.Reference3Ideal.Read.val_main_v73_eq, a0, a1, a2, a3]
      exact (Cert.Kernel3Ideal.Fwd.final16 m 0).symm
    · rw [Cert.Reference3Ideal.Read.val_main_v30_eq, a0, a1, a2, a3, a4]
      exact (Cert.Kernel3Ideal.Fwd.final17 m 0).symm
    · rw [Cert.Reference3Ideal.Read.val_main_v47_eq, a0, a1, a2, a3, a4, a5, a6, a7]
      exact (Cert.Kernel3Ideal.Fwd.final18 m 0).symm
    · rw [Cert.Reference3Ideal.Read.val_main_v74_eq, a0, a1, a2, a3, a4, a5, a6, a7, a8, a9, a10]
      exact (Cert.Kernel3Ideal.Fwd.final19 m 0).symm

end Cert.Fwd

end
-- ==== Proof.LeftGrad.lean ====
/- The gradients of the projections' inputs: the result array of each call after the run, element by element. -/
module

public import proofs.«01_k».proof.Proof.Gen.Kernel4Ideal.Frame
public import proofs.«01_k».proof.Proof.Gen.Reference4Ideal.Read
public import proofs.«01_k».proof.Proof.Gen.Kernel6Ideal.Frame
public import proofs.«01_k».proof.Proof.Gen.Reference6Ideal.Read
public import proofs.«01_k».proof.Proof.Gen.Kernel8Ideal.Frame
public import proofs.«01_k».proof.Proof.Gen.Reference8Ideal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

/-! ## The input projection of the HGRN2 mixer -/

namespace Cert.Kernel4Ideal

open Cert.Kernel4Ideal.Gen

variable (m : (ℓ : Loc nD τ sig) → Buf (Elt Ideal) ℓ) (c : Dev nD)

/-- Where each window's block sits at grid point `t`: rows `512·t` on, and the whole weight. -/
theorem idx : ∀ t : Fin cfg0.N, win0_0.index t = ![t.val, 0] ∧ win0_1.index t = ![0, 0] ∧ win0_2.index t = ![t.val, 0] := (by decide +kernel : ∀ t : Fin grid0.N, _)

theorem lt16 : ∀ t : Fin cfg0.N, t.val < 16 := (by decide +kernel : ∀ t : Fin grid0.N, t.val < 16)

/-- The row that row `r` of point `t`'s block is. -/
def rowOf (t : Fin cfg0.N) (r : Fin 512) : Fin 8192 := ⟨t.val * 512 + r, by have := lt16 t; omega⟩

/-- The arguments, and the blocks that one point reads of them. -/
abbrev argW : FVec Ideal S1024x4096 .f32 := m ((c : Thread nD τ).loc main_arg0)
abbrev argY : FVec Ideal S8192x4096 .f32 := m ((c : Thread nD τ).loc main_arg1)
abbrev yB (t : Fin cfg0.N) : FVec Ideal S512x4096 .bf16 := iblk m c 0 t
abbrev wB (t : Fin cfg0.N) : FVec Ideal S1024x4096 .bf16 := iblk m c 1 t

theorem yB_at (t : Fin cfg0.N) (r : Fin 512) (l : Fin 4096) : yB m c t (ix2 r l) = argY m c (ix2 (rowOf t r) l) := by
  unfold rowOf
  blk_point [yB, iblk, V, idx t]

theorem wB_at (t : Fin cfg0.N) (k : Fin 1024) (l : Fin 4096) : wB m c t (ix2 k l) = argW m c (ix2 k l) := by
  blk_point [wB, iblk, V, idx t]

/-- One point stores the product of its rows with the transposed weight. -/
theorem pay_at (y : Vec Ideal S512x4096 .bf16) (w : Vec Ideal S1024x4096 .bf16) (x : S512x1024.Idx) :
    k0_pay1 (F := Ideal) y w x = ∑ l : Fin 4096, y (ix2 (x 0) l) * w (ix2 (x 1) l) := by
  pointwise [k0_pay1]

/-- So does the reference, of all rows. -/
theorem ref_at (w : FVec Ideal S1024x4096 .f32) (y : FVec Ideal S8192x4096 .f32) (x : S8192x1024.Idx) :
    Cert.Reference4Ideal.Read.val_main_v2 (F := Ideal) w y x = ∑ l : Fin 4096, y (ix2 (x 0) l) * w (ix2 (x 1) l) := by
  pointwise [Cert.Reference4Ideal.Read.val_main_v2]

/-- THE RESULT is the reference's. -/
theorem final : (dats m 0 c).arrAt 2 (cfgs 0).N = Cert.Reference4Ideal.Read.val_main_v2 (F := Ideal) (argW m c) (argY m c) := by
  refine (dats m 0 c).arrAt_eq_of_covers 2 _ (by decide +kernel) fun t hf y => ?_
  blk_simp [idx t]
  rw [after0_2, out0_2]
  frame_out
  refine (pay_at (yB m c t) (wB m c t) y).trans ((Finset.sum_congr rfl fun l _ => congrArg₂ (· * ·) (yB_at m c t (y 0) l) (wB_at m c t (y 1) l)).trans
    ((ref_at (argW m c) (argY m c) (ix2 (rowOf t (y 0)) (y 1))).symm.trans
      (congrArg (Cert.Reference4Ideal.Read.val_main_v2 (F := Ideal) (argW m c) (argY m c)) ?_)))
  unfold rowOf
  blk_ext [idx t]

end Cert.Kernel4Ideal

/-! ## The input projection of the Conformer mixer -/

namespace Cert.Kernel6Ideal

open Cert.Kernel6Ideal.Gen

variable (m : (ℓ : Loc nD τ sig) → Buf (Elt Ideal) ℓ) (c : Dev nD)

/-- Where each window's block sits at grid point `t`: rows `512·t` on, and the whole weight. -/
theorem idx : ∀ t : Fin cfg0.N, win0_0.index t = ![t.val, 0] ∧ win0_1.index t = ![0, 0] ∧ win0_2.index t = ![t.val, 0] := (by decide +kernel : ∀ t : Fin grid0.N, _)

theorem lt16 : ∀ t : Fin cfg0.N, t.val < 16 := (by decide +kernel : ∀ t : Fin grid0.N, t.val < 16)

/-- The row that row `r` of point `t`'s block is. -/
def rowOf (t : Fin cfg0.N) (r : Fin 512) : Fin 8192 := ⟨t.val * 512 + r, by have := lt16 t; omega⟩

/-- The arguments, and the blocks that one point reads of them. -/
abbrev argW : FVec Ideal S1024x2048 .f32 := m ((c : Thread nD τ).loc main_arg0)
abbrev argY : FVec Ideal S8192x2048 .f32 := m ((c : Thread nD τ).loc main_arg1)
abbrev yB (t : Fin cfg0.N) : FVec Ideal S512x2048 .bf16 := iblk m c 0 t
abbrev wB (t : Fin cfg0.N) : FVec Ideal S1024x2048 .bf16 := iblk m c 1 t

theorem yB_at (t : Fin cfg0.N) (r : Fin 512) (l : Fin 2048) : yB m c t (ix2 r l) = argY m c (ix2 (rowOf t r) l) := by
  unfold rowOf
  blk_point [yB, iblk, V, idx t]

theorem wB_at (t : Fin cfg0.N) (k : Fin 1024) (l : Fin 2048) : wB m c t (ix2 k l) = argW m c (ix2 k l) := by
  blk_point [wB, iblk, V, idx t]

/-- One point stores the product of its rows with the transposed weight. -/
theorem pay_at (y : Vec Ideal S512x2048 .bf16) (w : Vec Ideal S1024x2048 .bf16) (x : S512x1024.Idx) :
    k0_pay1 (F := Ideal) y w x = ∑ l : Fin 2048, y (ix2 (x 0) l) * w (ix2 (x 1) l) := by
  pointwise [k0_pay1]

/-- So does the reference, of all rows. -/
theorem ref_at (w : FVec Ideal S1024x2048 .f32) (y : FVec Ideal S8192x2048 .f32) (x : S8192x1024.Idx) :
    Cert.Reference6Ideal.Read.val_main_v2 (F := Ideal) w y x = ∑ l : Fin 2048, y (ix2 (x 0) l) * w (ix2 (x 1) l) := by
  pointwise [Cert.Reference6Ideal.Read.val_main_v2]

/-- THE RESULT is the reference's. -/
theorem final : (dats m 0 c).arrAt 2 (cfgs 0).N = Cert.Reference6Ideal.Read.val_main_v2 (F := Ideal) (argW m c) (argY m c) := by
  refine (dats m 0 c).arrAt_eq_of_covers 2 _ (by decide +kernel) fun t hf y => ?_
  blk_simp [idx t]
  rw [after0_2, out0_2]
  frame_out
  refine (pay_at (yB m c t) (wB m c t) y).trans ((Finset.sum_congr rfl fun l _ => congrArg₂ (· * ·) (yB_at m c t (y 0) l) (wB_at m c t (y 1) l)).trans
    ((ref_at (argW m c) (argY m c) (ix2 (rowOf t (y 0)) (y 1))).symm.trans
      (congrArg (Cert.Reference6Ideal.Read.val_main_v2 (F := Ideal) (argW m c) (argY m c)) ?_)))
  unfold rowOf
  blk_ext [idx t]

end Cert.Kernel6Ideal

/-! ## The output projection of a mixer -/

namespace Cert.Kernel8Ideal

open Cert.Kernel8Ideal.Gen

variable (m : (ℓ : Loc nD τ sig) → Buf (Elt Ideal) ℓ) (c : Dev nD)

/-- Where each window's block sits at grid point `t`: rows `512·t` on, and the whole weight. -/
theorem idx : ∀ t : Fin cfg0.N, win0_0.index t = ![t.val, 0] ∧ win0_1.index t = ![0, 0] ∧ win0_2.index t = ![t.val, 0] := (by decide +kernel : ∀ t : Fin grid0.N, _)

theorem lt16 : ∀ t : Fin cfg0.N, t.val < 16 := (by decide +kernel : ∀ t : Fin grid0.N, t.val < 16)

/-- The row that row `r` of point `t`'s block is. -/
def rowOf (t : Fin cfg0.N) (r : Fin 512) : Fin 8192 := ⟨t.val * 512 + r, by have := lt16 t; omega⟩

/-- The arguments, and the blocks that one point reads of them. -/
abbrev argW : FVec Ideal S1024x1024 .f32 := m ((c : Thread nD τ).loc main_arg0)
abbrev argY : FVec Ideal S8192x1024 .f32 := m ((c : Thread nD τ).loc main_arg1)
abbrev yB (t : Fin cfg0.N) : FVec Ideal S512x1024 .bf16 := iblk m c 0 t
abbrev wB (t : Fin cfg0.N) : FVec Ideal S1024x1024 .bf16 := iblk m c 1 t

theorem yB_at (t : Fin cfg0.N) (r : Fin 512) (l : Fin 1024) : yB m c t (ix2 r l) = argY m c (ix2 (rowOf t r) l) := by
  unfold rowOf
  blk_point [yB, iblk, V, idx t]

theorem wB_at (t : Fin cfg0.N) (k : Fin 1024) (l : Fin 1024) : wB m c t (ix2 k l) = argW m c (ix2 k l) := by
  blk_point [wB, iblk, V, idx t]

/-- One point stores the product of its rows with the transposed weight. -/
theorem pay_at (y : Vec Ideal S512x1024 .bf16) (w : Vec Ideal S1024x1024 .bf16) (x : S512x1024.Idx) :
    k0_pay1 (F := Ideal) y w x = ∑ l : Fin 1024, y (ix2 (x 0) l) * w (ix2 (x 1) l) := by
  pointwise [k0_pay1]

/-- So does the reference, of all rows. -/
theorem ref_at (w : FVec Ideal S1024x1024 .f32) (y : FVec Ideal S8192x1024 .f32) (x : S8192x1024.Idx) :
    Cert.Reference8Ideal.Read.val_main_v2 (F := Ideal) w y x = ∑ l : Fin 1024, y (ix2 (x 0) l) * w (ix2 (x 1) l) := by
  pointwise [Cert.Reference8Ideal.Read.val_main_v2]

/-- THE RESULT is the reference's. -/
theorem final : (dats m 0 c).arrAt 2 (cfgs 0).N = Cert.Reference8Ideal.Read.val_main_v2 (F := Ideal) (argW m c) (argY m c) := by
  refine (dats m 0 c).arrAt_eq_of_covers 2 _ (by decide +kernel) fun t hf y => ?_
  blk_simp [idx t]
  rw [after0_2, out0_2]
  frame_out
  refine (pay_at (yB m c t) (wB m c t) y).trans ((Finset.sum_congr rfl fun l _ => congrArg₂ (· * ·) (yB_at m c t (y 0) l) (wB_at m c t (y 1) l)).trans
    ((ref_at (argW m c) (argY m c) (ix2 (rowOf t (y 0)) (y 1))).symm.trans
      (congrArg (Cert.Reference8Ideal.Read.val_main_v2 (F := Ideal) (argW m c) (argY m c)) ?_)))
  unfold rowOf
  blk_ext [idx t]

end Cert.Kernel8Ideal

end
-- ==== Proof.RightGrad.lean ====
/- The gradients of the projections' weights: the result array of each call after the run, element by element. -/
module

public import proofs.«01_k».proof.Proof.Gen.Kernel5Ideal.Frame
public import proofs.«01_k».proof.Proof.Gen.Reference5Ideal.Read
public import proofs.«01_k».proof.Proof.Gen.Kernel7Ideal.Frame
public import proofs.«01_k».proof.Proof.Gen.Reference7Ideal.Read
public import proofs.«01_k».proof.Proof.Gen.Kernel9Ideal.Frame
public import proofs.«01_k».proof.Proof.Gen.Reference9Ideal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

/-! ## The input projection of the HGRN2 mixer -/

namespace Cert.Kernel5Ideal

open Cert.Kernel5Ideal.Gen

variable (m : (ℓ : Loc nD τ sig) → Buf (Elt Ideal) ℓ) (c : Dev nD)

/-- Where each window's block sits at grid point `t`: rows `4096·(t % 2)` on, column block `t / 2`. -/
theorem idx : ∀ t : Fin cfg0.N, win0_0.index t = ![t.val % 2, 0] ∧ win0_1.index t = ![t.val % 2, t.val / 2] ∧ win0_2.index t = ![t.val / 2, 0, 0] :=
  (by decide +kernel : ∀ t : Fin grid0.N, _)

theorem lt_points : ∀ t : Fin cfg0.N, t.val < 16 := (by decide +kernel : ∀ t : Fin grid0.N, t.val < 16)

theorem flush2 : ∀ t : Fin cfg0.N, (cfg0.win 2).flush t = true → t.val % 2 = 2 - 1 :=
  (by decide +kernel : ∀ t : Fin grid0.N, (cfg0.win 2).flush t = true → t.val % 2 = 2 - 1)

/-- The row and the column of the arguments that row `l` and lane `q` of point `t`'s blocks are. -/
def rowOf (t : Fin cfg0.N) (l : Fin 4096) : Fin 8192 := ⟨t.val % 2 * 4096 + l, by omega⟩
def laneOf (t : Fin cfg0.N) (q : Fin 512) : Fin 4096 := ⟨t.val / 2 * 512 + q, by have := lt_points t; omega⟩

/-- The arguments, and the blocks that one point reads of them. -/
abbrev argX : FVec Ideal S8192x1024 .f32 := m ((c : Thread nD τ).loc main_arg0)
abbrev argY : FVec Ideal S8192x4096 .f32 := m ((c : Thread nD τ).loc main_arg1)
abbrev xB (t : Fin cfg0.N) : FVec Ideal S4096x1024 .bf16 := iblk m c 0 t
abbrev yB (t : Fin cfg0.N) : FVec Ideal S4096x512 .bf16 := iblk m c 1 t

theorem xB_at (t : Fin cfg0.N) (l : Fin 4096) (k : Fin 1024) : xB m c t (ix2 l k) = argX m c (ix2 (rowOf t l) k) := by
  unfold rowOf
  blk_point [xB, iblk, V, idx t]

theorem yB_at (t : Fin cfg0.N) (l : Fin 4096) (q : Fin 512) : yB m c t (ix2 l q) = argY m c (ix2 (rowOf t l) (laneOf t q)) := by
  unfold rowOf laneOf
  blk_point [yB, iblk, V, idx t]

/-- The accumulator is cleared with zeros. -/
theorem zero_at (j : S1024x512.Idx) : k0_pay1 (F := Ideal) j = 0 := by pointwise [k0_pay1]

/-- One point adds the product of its transposed rows with its rows of the cotangent. -/
theorem acc_at (acc : Vec Ideal S1024x512 .f32) (x : Vec Ideal S4096x1024 .bf16) (y : Vec Ideal S4096x512 .bf16) (j : S1024x512.Idx) :
    k0_pay2 (F := Ideal) acc x y j = acc j + ∑ l : Fin 4096, x (ix2 l (j 0)) * y (ix2 l (j 1)) := by
  pointwise [k0_pay2]

/-- The last cast changes no value. -/
theorem cast_at (v : Vec Ideal S1024x512 .f32) (x : S1x1024x512.Idx) : k0_pay3 (F := Ideal) v x = v (ix2 (x 1) (x 2)) := by
  idx_vars x
  pointwise [k0_pay3]

/-- The reference's gradient of the weight, by column blocks. -/
theorem ref_at (x : FVec Ideal S8192x1024 .f32) (y : FVec Ideal S8192x4096 .f32) (g : Fin 8) (k : Fin 1024) (q : Fin 512) :
    Cert.Reference5Ideal.Read.val_main_v6 (F := Ideal) x y (ix3 g k q) = ∑ l : Fin 8192, x (ix2 l k) * y (ix2 l ⟨g * 512 + q, by omega⟩) := by
  pointwise [Cert.Reference5Ideal.Read.val_main_v6, Cert.Reference5Ideal.Read.val_main_v5, Cert.Reference5Ideal.Read.val_main_v4, Cert.Reference5Ideal.Read.val_main_v3, Cert.Reference5Ideal.Read.val_main_v2]
  exact Finset.sum_congr rfl fun l _ => mul_comm _ _

/-- What point `t` adds. -/
def part (t : Fin cfg0.N) (j : S1024x512.Idx) : EReal := ∑ l : Fin 4096, argX m c (ix2 (rowOf t l) (j 0)) * argY m c (ix2 (rowOf t l) (laneOf t (j 1)))

theorem step_at (t : Fin cfg0.N) (acc : Vec Ideal S1024x512 .f32) (j : S1024x512.Idx) :
    k0_pay2 (F := Ideal) acc (xB m c t) (yB m c t) j = acc j + part m c t j :=
  (acc_at acc (xB m c t) (yB m c t) j).trans
    (congrArg (acc j + ·) (Finset.sum_congr rfl fun l _ => congrArg₂ (· * ·) (xB_at m c t l (j 0)) (yB_at m c t l (j 1))))

/-- A column block's first point starts from zero; the second continues. -/
theorem acc_first (t : Fin cfg0.N) (h : t.val % 2 = 0) (j : S1024x512.Idx) : (outsAt0 m c t.val t.isLt).2 j = 0 + part m c t j := by
  rw [outsAt0_A m c t h (by omega)]
  frame_out
  exact (step_at m c t _ j).trans (congrArg (· + part m c t j) (zero_at j))

theorem acc_next (t : Fin cfg0.N) (h : ¬ t.val % 2 = 0) (j : S1024x512.Idx) :
    (outsAt0 m c t.val t.isLt).2 j = (outsAt0 m c (t.val - 1) (Nat.lt_of_le_of_lt (Nat.sub_le ..) t.isLt)).2 j + part m c t j := by
  rw [outsAt0_B m c t h (by omega)]
  frame_out
  rw [read_unread_whole]
  exact step_at m c t _ j

/-- After the second point the accumulator holds the sum over all rows. -/
theorem acc_last (t : Fin cfg0.N) (h : t.val % 2 = 2 - 1) (j : S1024x512.Idx) :
    (outsAt0 m c t.val t.isLt).2 j = ∑ l : Fin 8192, argX m c (ix2 l (j 0)) * argY m c (ix2 l (laneOf t (j 1))) := by
  rw [Pipeline.eq_sum_fin_of_reset_step_apply_of_flush (fun n h => (outsAt0 m c n h).2) 2 (fun _ => 0) (part m c) (acc_first m c) (acc_next m c) t h _, zero_add]
  unfold part
  refine Fin.sum_mul_add_congr fun s k hl => ?_
  have er : ∀ g, rowOf (⟨2 * (t.val / 2) + s.val, g⟩ : Fin cfg0.N) k = ⟨s.val * 4096 + k.val, hl⟩ :=
    fun _ => Fin.ext (show (2 * (t.val / 2) + s.val) % 2 * 4096 + (k : ℕ) = s.val * 4096 + k by omega)
  have eq : ∀ g, laneOf (⟨2 * (t.val / 2) + s.val, g⟩ : Fin cfg0.N) (j 1) = laneOf t (j 1) :=
    fun _ => Fin.ext (show (2 * (t.val / 2) + s.val) / 2 * 512 + (j 1 : ℕ) = t.val / 2 * 512 + (j 1 : ℕ) by omega)
  exact congrArg₂ (fun a b => argX m c (ix2 a (j 0)) * argY m c (ix2 a b)) (er _) (eq _)

/-- The second point stores the accumulator. -/
theorem out_at (t : Fin cfg0.N) (h : t.val % 2 = 1) (x : S1x1024x512.Idx) :
    (outsAt0 m c t.val t.isLt).1 x = (outsAt0 m c t.val t.isLt).2 (ix2 (x 1) (x 2)) := by
  rw [outsAt0_B m c t (by omega) h]
  frame_out
  rw [cast_at]

/-- THE RESULT is the reference's. -/
theorem final : (dats m 0 c).arrAt 2 (cfgs 0).N = Cert.Reference5Ideal.Read.val_main_v6 (F := Ideal) (argX m c) (argY m c) := by
  refine (dats m 0 c).arrAt_eq_of_covers 2 _ (by decide +kernel) fun t hf y => ?_
  have ht := lt_points t
  blk_simp [idx t]
  rw [after0_2]
  refine (out_at m c t (flush2 t hf) y).trans ((acc_last m c t (flush2 t hf) (ix2 (y 1) (y 2))).trans
    ((ref_at (argX m c) (argY m c) ⟨t.val / 2, by omega⟩ (y 1) (y 2)).symm.trans
      (congrArg (Cert.Reference5Ideal.Read.val_main_v6 (F := Ideal) (argX m c) (argY m c)) ?_)))
  blk_ext [idx t]

end Cert.Kernel5Ideal

/-! ## The input projection of the Conformer mixer -/

namespace Cert.Kernel7Ideal

open Cert.Kernel7Ideal.Gen

variable (m : (ℓ : Loc nD τ sig) → Buf (Elt Ideal) ℓ) (c : Dev nD)

/-- Where each window's block sits at grid point `t`: rows `4096·(t % 2)` on, column block `t / 2`. -/
theorem idx : ∀ t : Fin cfg0.N, win0_0.index t = ![t.val % 2, 0] ∧ win0_1.index t = ![t.val % 2, t.val / 2] ∧ win0_2.index t = ![t.val / 2, 0, 0] :=
  (by decide +kernel : ∀ t : Fin grid0.N, _)

theorem lt_points : ∀ t : Fin cfg0.N, t.val < 16 := (by decide +kernel : ∀ t : Fin grid0.N, t.val < 16)

theorem flush2 : ∀ t : Fin cfg0.N, (cfg0.win 2).flush t = true → t.val % 2 = 2 - 1 :=
  (by decide +kernel : ∀ t : Fin grid0.N, (cfg0.win 2).flush t = true → t.val % 2 = 2 - 1)

/-- The row and the column of the arguments that row `l` and lane `q` of point `t`'s blocks are. -/
def rowOf (t : Fin cfg0.N) (l : Fin 4096) : Fin 8192 := ⟨t.val % 2 * 4096 + l, by omega⟩
def laneOf (t : Fin cfg0.N) (q : Fin 256) : Fin 2048 := ⟨t.val / 2 * 256 + q, by have := lt_points t; omega⟩

/-- The arguments, and the blocks that one point reads of them. -/
abbrev argX : FVec Ideal S8192x1024 .f32 := m ((c : Thread nD τ).loc main_arg0)
abbrev argY : FVec Ideal S8192x2048 .f32 := m ((c : Thread nD τ).loc main_arg1)
abbrev xB (t : Fin cfg0.N) : FVec Ideal S4096x1024 .bf16 := iblk m c 0 t
abbrev yB (t : Fin cfg0.N) : FVec Ideal S4096x256 .bf16 := iblk m c 1 t

theorem xB_at (t : Fin cfg0.N) (l : Fin 4096) (k : Fin 1024) : xB m c t (ix2 l k) = argX m c (ix2 (rowOf t l) k) := by
  unfold rowOf
  blk_point [xB, iblk, V, idx t]

theorem yB_at (t : Fin cfg0.N) (l : Fin 4096) (q : Fin 256) : yB m c t (ix2 l q) = argY m c (ix2 (rowOf t l) (laneOf t q)) := by
  unfold rowOf laneOf
  blk_point [yB, iblk, V, idx t]

/-- The accumulator is cleared with zeros. -/
theorem zero_at (j : S1024x256.Idx) : k0_pay1 (F := Ideal) j = 0 := by pointwise [k0_pay1]

/-- One point adds the product of its transposed rows with its rows of the cotangent. -/
theorem acc_at (acc : Vec Ideal S1024x256 .f32) (x : Vec Ideal S4096x1024 .bf16) (y : Vec Ideal S4096x256 .bf16) (j : S1024x256.Idx) :
    k0_pay2 (F := Ideal) acc x y j = acc j + ∑ l : Fin 4096, x (ix2 l (j 0)) * y (ix2 l (j 1)) := by
  pointwise [k0_pay2]

/-- The last cast changes no value. -/
theorem cast_at (v : Vec Ideal S1024x256 .f32) (x : S1x1024x256.Idx) : k0_pay3 (F := Ideal) v x = v (ix2 (x 1) (x 2)) := by
  idx_vars x
  pointwise [k0_pay3]

/-- The reference's gradient of the weight, by column blocks. -/
theorem ref_at (x : FVec Ideal S8192x1024 .f32) (y : FVec Ideal S8192x2048 .f32) (g : Fin 8) (k : Fin 1024) (q : Fin 256) :
    Cert.Reference7Ideal.Read.val_main_v6 (F := Ideal) x y (ix3 g k q) = ∑ l : Fin 8192, x (ix2 l k) * y (ix2 l ⟨g * 256 + q, by omega⟩) := by
  pointwise [Cert.Reference7Ideal.Read.val_main_v6, Cert.Reference7Ideal.Read.val_main_v5, Cert.Reference7Ideal.Read.val_main_v4, Cert.Reference7Ideal.Read.val_main_v3, Cert.Reference7Ideal.Read.val_main_v2]
  exact Finset.sum_congr rfl fun l _ => mul_comm _ _

/-- What point `t` adds. -/
def part (t : Fin cfg0.N) (j : S1024x256.Idx) : EReal := ∑ l : Fin 4096, argX m c (ix2 (rowOf t l) (j 0)) * argY m c (ix2 (rowOf t l) (laneOf t (j 1)))

theorem step_at (t : Fin cfg0.N) (acc : Vec Ideal S1024x256 .f32) (j : S1024x256.Idx) :
    k0_pay2 (F := Ideal) acc (xB m c t) (yB m c t) j = acc j + part m c t j :=
  (acc_at acc (xB m c t) (yB m c t) j).trans
    (congrArg (acc j + ·) (Finset.sum_congr rfl fun l _ => congrArg₂ (· * ·) (xB_at m c t l (j 0)) (yB_at m c t l (j 1))))

/-- A column block's first point starts from zero; the second continues. -/
theorem acc_first (t : Fin cfg0.N) (h : t.val % 2 = 0) (j : S1024x256.Idx) : (outsAt0 m c t.val t.isLt).2 j = 0 + part m c t j := by
  rw [outsAt0_A m c t h (by omega)]
  frame_out
  exact (step_at m c t _ j).trans (congrArg (· + part m c t j) (zero_at j))

theorem acc_next (t : Fin cfg0.N) (h : ¬ t.val % 2 = 0) (j : S1024x256.Idx) :
    (outsAt0 m c t.val t.isLt).2 j = (outsAt0 m c (t.val - 1) (Nat.lt_of_le_of_lt (Nat.sub_le ..) t.isLt)).2 j + part m c t j := by
  rw [outsAt0_B m c t h (by omega)]
  frame_out
  rw [read_unread_whole]
  exact step_at m c t _ j

/-- After the second point the accumulator holds the sum over all rows. -/
theorem acc_last (t : Fin cfg0.N) (h : t.val % 2 = 2 - 1) (j : S1024x256.Idx) :
    (outsAt0 m c t.val t.isLt).2 j = ∑ l : Fin 8192, argX m c (ix2 l (j 0)) * argY m c (ix2 l (laneOf t (j 1))) := by
  rw [Pipeline.eq_sum_fin_of_reset_step_apply_of_flush (fun n h => (outsAt0 m c n h).2) 2 (fun _ => 0) (part m c) (acc_first m c) (acc_next m c) t h _, zero_add]
  unfold part
  refine Fin.sum_mul_add_congr fun s k hl => ?_
  have er : ∀ g, rowOf (⟨2 * (t.val / 2) + s.val, g⟩ : Fin cfg0.N) k = ⟨s.val * 4096 + k.val, hl⟩ :=
    fun _ => Fin.ext (show (2 * (t.val / 2) + s.val) % 2 * 4096 + (k : ℕ) = s.val * 4096 + k by omega)
  have eq : ∀ g, laneOf (⟨2 * (t.val / 2) + s.val, g⟩ : Fin cfg0.N) (j 1) = laneOf t (j 1) :=
    fun _ => Fin.ext (show (2 * (t.val / 2) + s.val) / 2 * 256 + (j 1 : ℕ) = t.val / 2 * 256 + (j 1 : ℕ) by omega)
  exact congrArg₂ (fun a b => argX m c (ix2 a (j 0)) * argY m c (ix2 a b)) (er _) (eq _)

/-- The second point stores the accumulator. -/
theorem out_at (t : Fin cfg0.N) (h : t.val % 2 = 1) (x : S1x1024x256.Idx) :
    (outsAt0 m c t.val t.isLt).1 x = (outsAt0 m c t.val t.isLt).2 (ix2 (x 1) (x 2)) := by
  rw [outsAt0_B m c t (by omega) h]
  frame_out
  rw [cast_at]

/-- THE RESULT is the reference's. -/
theorem final : (dats m 0 c).arrAt 2 (cfgs 0).N = Cert.Reference7Ideal.Read.val_main_v6 (F := Ideal) (argX m c) (argY m c) := by
  refine (dats m 0 c).arrAt_eq_of_covers 2 _ (by decide +kernel) fun t hf y => ?_
  have ht := lt_points t
  blk_simp [idx t]
  rw [after0_2]
  refine (out_at m c t (flush2 t hf) y).trans ((acc_last m c t (flush2 t hf) (ix2 (y 1) (y 2))).trans
    ((ref_at (argX m c) (argY m c) ⟨t.val / 2, by omega⟩ (y 1) (y 2)).symm.trans
      (congrArg (Cert.Reference7Ideal.Read.val_main_v6 (F := Ideal) (argX m c) (argY m c)) ?_)))
  blk_ext [idx t]

end Cert.Kernel7Ideal

/-! ## The output projection of a mixer -/

namespace Cert.Kernel9Ideal

open Cert.Kernel9Ideal.Gen

variable (m : (ℓ : Loc nD τ sig) → Buf (Elt Ideal) ℓ) (c : Dev nD)

/-- Where each window's block sits at grid point `t`: rows `4096·(t % 2)` on, column block `t / 2`. -/
theorem idx : ∀ t : Fin cfg0.N, win0_0.index t = ![t.val % 2, 0] ∧ win0_1.index t = ![t.val % 2, t.val / 2] ∧ win0_2.index t = ![t.val / 2, 0, 0] :=
  (by decide +kernel : ∀ t : Fin grid0.N, _)

theorem lt_points : ∀ t : Fin cfg0.N, t.val < 2 := (by decide +kernel : ∀ t : Fin grid0.N, t.val < 2)

theorem flush2 : ∀ t : Fin cfg0.N, (cfg0.win 2).flush t = true → t.val % 2 = 2 - 1 :=
  (by decide +kernel : ∀ t : Fin grid0.N, (cfg0.win 2).flush t = true → t.val % 2 = 2 - 1)

/-- The row and the column of the arguments that row `l` and lane `q` of point `t`'s blocks are. -/
def rowOf (t : Fin cfg0.N) (l : Fin 4096) : Fin 8192 := ⟨t.val % 2 * 4096 + l, by omega⟩
def laneOf (t : Fin cfg0.N) (q : Fin 1024) : Fin 1024 := ⟨t.val / 2 * 1024 + q, by have := lt_points t; omega⟩

/-- The arguments, and the blocks that one point reads of them. -/
abbrev argX : FVec Ideal S8192x1024 .f32 := m ((c : Thread nD τ).loc main_arg0)
abbrev argY : FVec Ideal S8192x1024 .f32 := m ((c : Thread nD τ).loc main_arg1)
abbrev xB (t : Fin cfg0.N) : FVec Ideal S4096x1024 .bf16 := iblk m c 0 t
abbrev yB (t : Fin cfg0.N) : FVec Ideal S4096x1024 .bf16 := iblk m c 1 t

theorem xB_at (t : Fin cfg0.N) (l : Fin 4096) (k : Fin 1024) : xB m c t (ix2 l k) = argX m c (ix2 (rowOf t l) k) := by
  unfold rowOf
  blk_point [xB, iblk, V, idx t]

theorem yB_at (t : Fin cfg0.N) (l : Fin 4096) (q : Fin 1024) : yB m c t (ix2 l q) = argY m c (ix2 (rowOf t l) (laneOf t q)) := by
  unfold rowOf laneOf
  blk_point [yB, iblk, V, idx t]

/-- The accumulator is cleared with zeros. -/
theorem zero_at (j : S1024x1024.Idx) : k0_pay1 (F := Ideal) j = 0 := by pointwise [k0_pay1]

/-- One point adds the product of its transposed rows with its rows of the cotangent. -/
theorem acc_at (acc : Vec Ideal S1024x1024 .f32) (x : Vec Ideal S4096x1024 .bf16) (y : Vec Ideal S4096x1024 .bf16) (j : S1024x1024.Idx) :
    k0_pay2 (F := Ideal) acc x y j = acc j + ∑ l : Fin 4096, x (ix2 l (j 0)) * y (ix2 l (j 1)) := by
  pointwise [k0_pay2]

/-- The last cast changes no value. -/
theorem cast_at (v : Vec Ideal S1024x1024 .f32) (x : S1x1024x1024.Idx) : k0_pay3 (F := Ideal) v x = v (ix2 (x 1) (x 2)) := by
  idx_vars x
  pointwise [k0_pay3]

/-- The reference's gradient of the weight, by column blocks. -/
theorem ref_at (x : FVec Ideal S8192x1024 .f32) (y : FVec Ideal S8192x1024 .f32) (g : Fin 1) (k : Fin 1024) (q : Fin 1024) :
    Cert.Reference9Ideal.Read.val_main_v6 (F := Ideal) x y (ix3 g k q) = ∑ l : Fin 8192, x (ix2 l k) * y (ix2 l ⟨g * 1024 + q, by omega⟩) := by
  pointwise [Cert.Reference9Ideal.Read.val_main_v6, Cert.Reference9Ideal.Read.val_main_v5, Cert.Reference9Ideal.Read.val_main_v4, Cert.Reference9Ideal.Read.val_main_v3, Cert.Reference9Ideal.Read.val_main_v2]
  exact Finset.sum_congr rfl fun l _ => mul_comm _ _

/-- What point `t` adds. -/
def part (t : Fin cfg0.N) (j : S1024x1024.Idx) : EReal := ∑ l : Fin 4096, argX m c (ix2 (rowOf t l) (j 0)) * argY m c (ix2 (rowOf t l) (laneOf t (j 1)))

theorem step_at (t : Fin cfg0.N) (acc : Vec Ideal S1024x1024 .f32) (j : S1024x1024.Idx) :
    k0_pay2 (F := Ideal) acc (xB m c t) (yB m c t) j = acc j + part m c t j :=
  (acc_at acc (xB m c t) (yB m c t) j).trans
    (congrArg (acc j + ·) (Finset.sum_congr rfl fun l _ => congrArg₂ (· * ·) (xB_at m c t l (j 0)) (yB_at m c t l (j 1))))

/-- A column block's first point starts from zero; the second continues. -/
theorem acc_first (t : Fin cfg0.N) (h : t.val % 2 = 0) (j : S1024x1024.Idx) : (outsAt0 m c t.val t.isLt).2 j = 0 + part m c t j := by
  rw [outsAt0_A m c t h (by omega)]
  frame_out
  exact (step_at m c t _ j).trans (congrArg (· + part m c t j) (zero_at j))

theorem acc_next (t : Fin cfg0.N) (h : ¬ t.val % 2 = 0) (j : S1024x1024.Idx) :
    (outsAt0 m c t.val t.isLt).2 j = (outsAt0 m c (t.val - 1) (Nat.lt_of_le_of_lt (Nat.sub_le ..) t.isLt)).2 j + part m c t j := by
  rw [outsAt0_B m c t h (by omega)]
  frame_out
  rw [read_unread_whole]
  exact step_at m c t _ j

/-- After the second point the accumulator holds the sum over all rows. -/
theorem acc_last (t : Fin cfg0.N) (h : t.val % 2 = 2 - 1) (j : S1024x1024.Idx) :
    (outsAt0 m c t.val t.isLt).2 j = ∑ l : Fin 8192, argX m c (ix2 l (j 0)) * argY m c (ix2 l (laneOf t (j 1))) := by
  rw [Pipeline.eq_sum_fin_of_reset_step_apply_of_flush (fun n h => (outsAt0 m c n h).2) 2 (fun _ => 0) (part m c) (acc_first m c) (acc_next m c) t h _, zero_add]
  unfold part
  refine Fin.sum_mul_add_congr fun s k hl => ?_
  have er : ∀ g, rowOf (⟨2 * (t.val / 2) + s.val, g⟩ : Fin cfg0.N) k = ⟨s.val * 4096 + k.val, hl⟩ :=
    fun _ => Fin.ext (show (2 * (t.val / 2) + s.val) % 2 * 4096 + (k : ℕ) = s.val * 4096 + k by omega)
  have eq : ∀ g, laneOf (⟨2 * (t.val / 2) + s.val, g⟩ : Fin cfg0.N) (j 1) = laneOf t (j 1) :=
    fun _ => Fin.ext (show (2 * (t.val / 2) + s.val) / 2 * 1024 + (j 1 : ℕ) = t.val / 2 * 1024 + (j 1 : ℕ) by omega)
  exact congrArg₂ (fun a b => argX m c (ix2 a (j 0)) * argY m c (ix2 a b)) (er _) (eq _)

/-- The second point stores the accumulator. -/
theorem out_at (t : Fin cfg0.N) (h : t.val % 2 = 1) (x : S1x1024x1024.Idx) :
    (outsAt0 m c t.val t.isLt).1 x = (outsAt0 m c t.val t.isLt).2 (ix2 (x 1) (x 2)) := by
  rw [outsAt0_B m c t (by omega) h]
  frame_out
  rw [cast_at]

/-- THE RESULT is the reference's. -/
theorem final : (dats m 0 c).arrAt 2 (cfgs 0).N = Cert.Reference9Ideal.Read.val_main_v6 (F := Ideal) (argX m c) (argY m c) := by
  refine (dats m 0 c).arrAt_eq_of_covers 2 _ (by decide +kernel) fun t hf y => ?_
  have ht := lt_points t
  blk_simp [idx t]
  rw [after0_2]
  refine (out_at m c t (flush2 t hf) y).trans ((acc_last m c t (flush2 t hf) (ix2 (y 1) (y 2))).trans
    ((ref_at (argX m c) (argY m c) ⟨t.val / 2, by omega⟩ (y 1) (y 2)).symm.trans
      (congrArg (Cert.Reference9Ideal.Read.val_main_v6 (F := Ideal) (argX m c) (argY m c)) ?_)))
  blk_ext [idx t]

end Cert.Kernel9Ideal

end
-- ==== Proof.Project.lean ====
/- The projections of the mixers' inputs: the result array of each call after the run, element by element. -/
module

public import proofs.«01_k».proof.Proof.Gen.Kernel10Ideal.Frame
public import proofs.«01_k».proof.Proof.Gen.Reference10Ideal.Read
public import proofs.«01_k».proof.Proof.Gen.Kernel11Ideal.Frame
public import proofs.«01_k».proof.Proof.Gen.Reference11Ideal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

/-! ## The input projection of the HGRN2 mixer -/

namespace Cert.Kernel10Ideal

open Cert.Kernel10Ideal.Gen

variable (m : (ℓ : Loc nD τ sig) → Buf (Elt Ideal) ℓ) (c : Dev nD)

/-- Where each window's block sits at grid point `t`: rows `1024·(t / 8)` on, column block `t % 8`. -/
theorem idx : ∀ t : Fin cfg0.N, win0_0.index t = ![t.val / 8, 0] ∧ win0_1.index t = ![t.val % 8, 0, 0] ∧ win0_2.index t = ![0, t.val % 8] ∧ win0_3.index t = ![t.val / 8, t.val % 8] :=
  (by decide +kernel : ∀ t : Fin grid0.N, _)

theorem lt64 : ∀ t : Fin cfg0.N, t.val < 64 := (by decide +kernel : ∀ t : Fin grid0.N, t.val < 64)

/-- The row and the column that row `r` and lane `q` of point `t`'s block are. -/
def rowOf (t : Fin cfg0.N) (r : Fin 1024) : Fin 8192 := ⟨t.val / 8 * 1024 + r, by have := lt64 t; omega⟩
def laneOf (t : Fin cfg0.N) (q : Fin 512) : Fin 4096 := ⟨t.val % 8 * 512 + q, by omega⟩

/-- The arguments, and the blocks that one point reads. -/
abbrev argX : FVec Ideal S8192x1024 .f32 := m ((c : Thread nD τ).loc main_arg0)
abbrev argW : FVec Ideal S1024x4096 .f32 := m ((c : Thread nD τ).loc main_arg1)
abbrev xB (t : Fin cfg0.N) : FVec Ideal S1024x1024 .bf16 := iblk m c 0 t
abbrev wB (t : Fin cfg0.N) : FVec Ideal S1x1024x512 .bf16 := iblk m c 1 t
abbrev bB (t : Fin cfg0.N) : FVec Ideal S1x512 .f32 := iblk m c 2 t

theorem xB_at (t : Fin cfg0.N) (r l : Fin 1024) : xB m c t (ix2 r l) = argX m c (ix2 (rowOf t r) l) := by
  unfold rowOf
  blk_point [xB, iblk, V, idx t]

theorem wB_at (t : Fin cfg0.N) (l : Fin 1024) (q : Fin 512) : wB m c t (ix3 0 l q) = argW m c (ix2 l (laneOf t q)) := by
  unfold laneOf
  blk_point [wB, iblk, V, idx t]

theorem bB_at (t : Fin cfg0.N) (q : Fin 512) : bB m c t (ix2 0 q) = 0 := by
  blk_point [bB, iblk, V, idx t]

/-- One point stores the product of its rows with its columns, and the bias. -/
theorem pay_at (x : Vec Ideal S1024x1024 .bf16) (w : Vec Ideal S1x1024x512 .bf16) (b : Vec Ideal S1x512 .f32) (j : S1024x512.Idx) :
    k0_pay1 (F := Ideal) x w b j = (∑ l : Fin 1024, x (ix2 (j 0) l) * w (ix3 0 l (j 1))) + b (ix2 0 (j 1)) := by
  pointwise [k0_pay1]

/-- The reference, at one index. -/
theorem ref_at (x : FVec Ideal S8192x1024 .f32) (w : FVec Ideal S1024x4096 .f32) (j : S8192x4096.Idx) :
    Cert.Reference10Ideal.Read.val_main_v0 (F := Ideal) x w j = (∑ l : Fin 1024, x (ix2 (j 0) l) * w (ix2 l (j 1))) := by
  pointwise [Cert.Reference10Ideal.Read.val_main_v0]

/-- THE RESULT is the reference's. -/
theorem final : (dats m 0 c).arrAt 3 (cfgs 0).N = Cert.Reference10Ideal.Read.val_main_v0 (F := Ideal) (argX m c) (argW m c) := by
  refine (dats m 0 c).arrAt_eq_of_covers 3 _ (by decide +kernel) fun t hf y => ?_
  blk_simp [idx t]
  rw [after0_3, out0_3]
  frame_out
  refine (pay_at (xB m c t) (wB m c t) (bB m c t) y).trans ((congrArg₂ (· + ·)
    (Finset.sum_congr rfl fun l _ => congrArg₂ (· * ·) (xB_at m c t (y 0) l) (wB_at m c t l (y 1))) (bB_at m c t (y 1))).trans
    ((add_zero _).trans ((ref_at (argX m c) (argW m c) (ix2 (rowOf t (y 0)) (laneOf t (y 1)))).symm.trans
      (congrArg (Cert.Reference10Ideal.Read.val_main_v0 (F := Ideal) (argX m c) (argW m c)) ?_))))
  unfold rowOf laneOf
  blk_ext [idx t]

end Cert.Kernel10Ideal

/-! ## The input projection of the Conformer mixer -/

namespace Cert.Kernel11Ideal

open Cert.Kernel11Ideal.Gen

variable (m : (ℓ : Loc nD τ sig) → Buf (Elt Ideal) ℓ) (c : Dev nD)

/-- Where each window's block sits at grid point `t`: rows `1024·(t / 8)` on, column block `t % 8`. -/
theorem idx : ∀ t : Fin cfg0.N, win0_0.index t = ![t.val / 8, 0] ∧ win0_1.index t = ![t.val % 8, 0, 0] ∧ win0_2.index t = ![0, t.val % 8] ∧ win0_3.index t = ![t.val / 8, t.val % 8] :=
  (by decide +kernel : ∀ t : Fin grid0.N, _)

theorem lt64 : ∀ t : Fin cfg0.N, t.val < 64 := (by decide +kernel : ∀ t : Fin grid0.N, t.val < 64)

/-- The row and the column that row `r` and lane `q` of point `t`'s block are. -/
def rowOf (t : Fin cfg0.N) (r : Fin 1024) : Fin 8192 := ⟨t.val / 8 * 1024 + r, by have := lt64 t; omega⟩
def laneOf (t : Fin cfg0.N) (q : Fin 256) : Fin 2048 := ⟨t.val % 8 * 256 + q, by omega⟩

/-- The arguments, and the blocks that one point reads. -/
abbrev argX : FVec Ideal S8192x1024 .f32 := m ((c : Thread nD τ).loc main_arg0)
abbrev argW : FVec Ideal S1024x2048 .f32 := m ((c : Thread nD τ).loc main_arg1)
abbrev argB : FVec Ideal S2048 .f32 := m ((c : Thread nD τ).loc main_arg2)
abbrev xB (t : Fin cfg0.N) : FVec Ideal S1024x1024 .bf16 := iblk m c 0 t
abbrev wB (t : Fin cfg0.N) : FVec Ideal S1x1024x256 .bf16 := iblk m c 1 t
abbrev bB (t : Fin cfg0.N) : FVec Ideal S1x256 .f32 := iblk m c 2 t

theorem xB_at (t : Fin cfg0.N) (r l : Fin 1024) : xB m c t (ix2 r l) = argX m c (ix2 (rowOf t r) l) := by
  unfold rowOf
  blk_point [xB, iblk, V, idx t]

theorem wB_at (t : Fin cfg0.N) (l : Fin 1024) (q : Fin 256) : wB m c t (ix3 0 l q) = argW m c (ix2 l (laneOf t q)) := by
  unfold laneOf
  blk_point [wB, iblk, V, idx t]

theorem bB_at (t : Fin cfg0.N) (q : Fin 256) : bB m c t (ix2 0 q) = argB m c (ix1 (laneOf t q)) := by
  unfold laneOf
  blk_point [bB, iblk, V, idx t]

/-- One point stores the product of its rows with its columns, and the bias. -/
theorem pay_at (x : Vec Ideal S1024x1024 .bf16) (w : Vec Ideal S1x1024x256 .bf16) (b : Vec Ideal S1x256 .f32) (j : S1024x256.Idx) :
    k0_pay1 (F := Ideal) x w b j = (∑ l : Fin 1024, x (ix2 (j 0) l) * w (ix3 0 l (j 1))) + b (ix2 0 (j 1)) := by
  pointwise [k0_pay1]

/-- The reference, at one index. -/
theorem ref_at (x : FVec Ideal S8192x1024 .f32) (w : FVec Ideal S1024x2048 .f32) (b : FVec Ideal S2048 .f32) (j : S8192x2048.Idx) :
    Cert.Reference11Ideal.Read.val_main_v3 (F := Ideal) x w b j = (∑ l : Fin 1024, x (ix2 (j 0) l) * w (ix2 l (j 1))) + b (ix1 (j 1)) := by
  pointwise [Cert.Reference11Ideal.Read.val_main_v3, Cert.Reference11Ideal.Read.val_main_v2, Cert.Reference11Ideal.Read.val_main_v1, Cert.Reference11Ideal.Read.val_main_v0]

/-- THE RESULT is the reference's. -/
theorem final : (dats m 0 c).arrAt 3 (cfgs 0).N = Cert.Reference11Ideal.Read.val_main_v3 (F := Ideal) (argX m c) (argW m c) (argB m c) := by
  refine (dats m 0 c).arrAt_eq_of_covers 3 _ (by decide +kernel) fun t hf y => ?_
  blk_simp [idx t]
  rw [after0_3, out0_3]
  frame_out
  refine (pay_at (xB m c t) (wB m c t) (bB m c t) y).trans ((congrArg₂ (· + ·)
    (Finset.sum_congr rfl fun l _ => congrArg₂ (· * ·) (xB_at m c t (y 0) l) (wB_at m c t l (y 1))) (bB_at m c t (y 1))).trans
    ((ref_at (argX m c) (argW m c) (argB m c) (ix2 (rowOf t (y 0)) (laneOf t (y 1)))).symm.trans
      (congrArg (Cert.Reference11Ideal.Read.val_main_v3 (F := Ideal) (argX m c) (argW m c) (argB m c)) ?_)))
  unfold rowOf laneOf
  blk_ext [idx t]

end Cert.Kernel11Ideal

end
-- ==== Proof.OutProj.lean ====
/- The output projection of a mixer, with the residual and the next input: the three result arrays after the run, element by element. -/
module

public import proofs.«01_k».proof.Proof.Gen.Kernel12Ideal.Frame
public import proofs.«01_k».proof.Proof.Gen.Reference12Ideal.Read
public import proofs.«01_k».proof.Proof.FwdNorm
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.Kernel12Ideal

open Cert.Kernel12Ideal.Gen Cert.Reference12Ideal.Read

variable (m : (ℓ : Loc nD τ sig) → Buf (Elt Ideal) ℓ) (c : Dev nD)

/-- Where each window's block sits at grid point `t`: rows `512·t` on; the weight and the row vectors are whole. -/
theorem idx : ∀ t : Fin cfg0.N, win0_0.index t = ![t.val, 0] ∧ win0_1.index t = ![0, 0] ∧ win0_2.index t = ![0, 0] ∧ win0_3.index t = ![t.val, 0] ∧ win0_4.index t = ![0, 0] ∧ win0_5.index t = ![0, 0] ∧ win0_6.index t = ![0, 0] ∧ win0_7.index t = ![0, 0] ∧ win0_8.index t = ![0, 0] ∧ win0_9.index t = ![t.val, 0] ∧ win0_10.index t = ![t.val, 0] ∧ win0_11.index t = ![t.val, 0] :=
  (by decide +kernel : ∀ t : Fin grid0.N, _)

theorem lt16 : ∀ t : Fin cfg0.N, t.val < 16 := (by decide +kernel : ∀ t : Fin grid0.N, t.val < 16)

/-- The row that row `r` of point `t`'s block is. -/
def rowOf (t : Fin cfg0.N) (r : Fin 512) : Fin 8192 := ⟨t.val * 512 + r, by have := lt16 t; omega⟩

/-- The arguments. -/
abbrev argA : FVec Ideal S8192x1024 .f32 := m ((c : Thread nD τ).loc main_arg0)
abbrev argW : FVec Ideal S1024x1024 .f32 := m ((c : Thread nD τ).loc main_arg1)
abbrev argX : FVec Ideal S8192x1024 .f32 := m ((c : Thread nD τ).loc main_arg3)
abbrev argB : FVec Ideal S1024 .f32 := m ((c : Thread nD τ).loc main_arg2)
abbrev argG : FVec Ideal S1024 .f32 := m ((c : Thread nD τ).loc main_arg4)
abbrev argP : FVec Ideal S1024 .f32 := m ((c : Thread nD τ).loc main_arg5)
abbrev argN : FVec Ideal S1024 .f32 := m ((c : Thread nD τ).loc main_arg6)
abbrev argS : FVec Ideal S1024 .f32 := m ((c : Thread nD τ).loc main_arg7)
abbrev argU : FVec Ideal S1024 .f32 := m ((c : Thread nD τ).loc main_arg8)

/-- The blocks that one point reads. -/
abbrev aB (t : Fin cfg0.N) : FVec Ideal S512x1024 .bf16 := iblk m c 0 t
abbrev wB (t : Fin cfg0.N) : FVec Ideal S1024x1024 .bf16 := iblk m c 1 t
abbrev xB (t : Fin cfg0.N) : FVec Ideal S512x1024 .f32 := iblk m c 3 t
abbrev bB (t : Fin cfg0.N) : FVec Ideal S1x1024 .f32 := iblk m c 2 t
abbrev gB (t : Fin cfg0.N) : FVec Ideal S1x1024 .f32 := iblk m c 4 t
abbrev pB (t : Fin cfg0.N) : FVec Ideal S1x1024 .f32 := iblk m c 5 t
abbrev nB (t : Fin cfg0.N) : FVec Ideal S1x1024 .f32 := iblk m c 6 t
abbrev sB (t : Fin cfg0.N) : FVec Ideal S1x1024 .f32 := iblk m c 7 t
abbrev uB (t : Fin cfg0.N) : FVec Ideal S1x1024 .f32 := iblk m c 8 t

theorem aB_at (t : Fin cfg0.N) (r : Fin 512) (l : Fin 1024) : aB m c t (ix2 r l) = argA m c (ix2 (rowOf t r) l) := by
  unfold rowOf
  blk_point [aB, iblk, V, idx t]

theorem wB_at (t : Fin cfg0.N) (k l : Fin 1024) : wB m c t (ix2 k l) = argW m c (ix2 k l) := by
  blk_point [wB, iblk, V, idx t]

theorem xB_at (t : Fin cfg0.N) (r : Fin 512) (l : Fin 1024) : xB m c t (ix2 r l) = argX m c (ix2 (rowOf t r) l) := by
  unfold rowOf
  blk_point [xB, iblk, V, idx t]

theorem bB_at (t : Fin cfg0.N) (l : Fin 1024) : bB m c t (ix2 0 l) = argB m c (ix1 l) := by
  blk_point [bB, iblk, V, idx t]

theorem gB_at (t : Fin cfg0.N) (l : Fin 1024) : gB m c t (ix2 0 l) = argG m c (ix1 l) := by
  blk_point [gB, iblk, V, idx t]

theorem pB_at (t : Fin cfg0.N) (l : Fin 1024) : pB m c t (ix2 0 l) = argP m c (ix1 l) := by
  blk_point [pB, iblk, V, idx t]

theorem nB_at (t : Fin cfg0.N) (l : Fin 1024) : nB m c t (ix2 0 l) = argN m c (ix1 l) := by
  blk_point [nB, iblk, V, idx t]

theorem sB_at (t : Fin cfg0.N) (l : Fin 1024) : sB m c t (ix2 0 l) = argS m c (ix1 l) := by
  blk_point [sB, iblk, V, idx t]

theorem uB_at (t : Fin cfg0.N) (l : Fin 1024) : uB m c t (ix2 0 l) = argU m c (ix1 l) := by
  blk_point [uB, iblk, V, idx t]

section Payload

variable (a : Vec Ideal S512x1024 .bf16) (w : Vec Ideal S1024x1024 .bf16) (b g p n s h : Vec Ideal S1x1024 .f32) (x : Vec Ideal S512x1024 .f32) (r : Fin 512) (q : Fin 1024)

/-- One point's block of the product with the bias. -/
theorem prod_at : k0_pay2 (F := Ideal) a w b (ix2 r q) = (∑ l : Fin 1024, a (ix2 r l) * w (ix2 l q)) + b (ix2 0 q) := by
  pointwise [k0_pay2]

/-- One point's block of the residual. -/
theorem added_at : k0_pay3 (F := Ideal) a w b x g p (ix2 r q)
    = Cert.Fwd.added (fun l => x (ix2 r l)) (fun l => g (ix2 0 l)) (fun l => k0_pay2 (F := Ideal) a w b (ix2 r l)) (fun l => p (ix2 0 l)) q := by
  pointwise [k0_pay3]
  rfl

/-- One point's block of the next sub-layer's input. -/
theorem shifted_at : k0_pay1 (F := Ideal) (k0_pay3 a w b x g p) (k0_pay4 a w b x g p) k0_pay5 n s h (ix2 r q)
    = Cert.Fwd.shifted (fun l => k0_pay3 (F := Ideal) a w b x g p (ix2 r l)) (fun l => n (ix2 0 l)) (fun l => s (ix2 0 l)) (fun l => h (ix2 0 l)) q := by
  pointwise [k0_pay1, k0_pay4, k0_pay5]
  rfl

end Payload

section Reference

variable (a x : FVec Ideal S8192x1024 .f32) (w : FVec Ideal S1024x1024 .f32) (b g p n s h : FVec Ideal S1024 .f32) (r : Fin 8192) (q : Fin 1024)

/-- The reference's three results, at one index. -/
theorem ref_prod : val_main_v3 (F := Ideal) a w b (ix2 r q) = (∑ l : Fin 1024, a (ix2 r l) * w (ix2 l q)) + b (ix1 q) := by
  pointwise [val_main_v3, val_main_v2, val_main_v1, val_main_v0, val_main_cst, val_main_cst_0, val_main_cst_1, val_main_cst_2, val_main_cst_3, val_main_cst_4, val_main_cst_5]

theorem ref_added : val_main_v20 (F := Ideal) a w b x g p (ix2 r q)
    = Cert.Fwd.added (fun l => x (ix2 r l)) (fun l => g (ix1 l)) (fun l => val_main_v3 (F := Ideal) a w b (ix2 r l)) (fun l => p (ix1 l)) q := by
  pointwise [val_main_v20, val_main_v19, val_main_v18, val_main_v17, val_main_v16, val_main_v15, val_main_v14, val_main_v13, val_main_v12, val_main_v11, val_main_v10, val_main_v9, val_main_v8, val_main_v7, val_main_v6, val_main_v5, val_main_v4, val_main_cst, val_main_cst_0, val_main_cst_1, val_main_cst_2, val_main_cst_3, val_main_cst_4, val_main_cst_5]
  rfl

theorem ref_shifted : val_main_v42 (F := Ideal) a w b x g p n s h (ix2 r q)
    = Cert.Fwd.shifted (fun l => val_main_v20 (F := Ideal) a w b x g p (ix2 r l)) (fun l => n (ix1 l)) (fun l => s (ix1 l)) (fun l => h (ix1 l)) q := by
  pointwise [val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_cst, val_main_cst_0, val_main_cst_1, val_main_cst_2, val_main_cst_3, val_main_cst_4, val_main_cst_5]
  rfl

end Reference

/-- The reference's three arrays. -/
abbrev yR : FVec Ideal S8192x1024 .f32 := val_main_v3 (F := Ideal) (argA m c) (argW m c) (argB m c)
abbrev xR : FVec Ideal S8192x1024 .f32 := val_main_v20 (F := Ideal) (argA m c) (argW m c) (argB m c) (argX m c) (argG m c) (argP m c)
abbrev nR : FVec Ideal S8192x1024 .bf16 :=
  val_main_v42 (F := Ideal) (argA m c) (argW m c) (argB m c) (argX m c) (argG m c) (argP m c) (argN m c) (argS m c) (argU m c)

/-- The product's block is the reference's. -/
theorem y_at (t : Fin cfg0.N) (r : Fin 512) (q : Fin 1024) : k0_pay2 (F := Ideal) (aB m c t) (wB m c t) (bB m c t) (ix2 r q) = yR m c (ix2 (rowOf t r) q) :=
  (prod_at (aB m c t) (wB m c t) (bB m c t) r q).trans ((congrArg₂ (· + ·)
    (Finset.sum_congr rfl fun l _ => congrArg₂ (· * ·) (aB_at m c t r l) (wB_at m c t l q)) (bB_at m c t q)).trans
    (ref_prod (argA m c) (argW m c) (argB m c) (rowOf t r) q).symm)

/-- The residual's block is the reference's. -/
theorem x_at (t : Fin cfg0.N) (r : Fin 512) (q : Fin 1024) :
    k0_pay3 (F := Ideal) (aB m c t) (wB m c t) (bB m c t) (xB m c t) (gB m c t) (pB m c t) (ix2 r q) = xR m c (ix2 (rowOf t r) q) := by
  refine (added_at (aB m c t) (wB m c t) (bB m c t) (gB m c t) (pB m c t) (xB m c t) r q).trans (Eq.trans ?_ (ref_added (argA m c) (argX m c) (argW m c) (argB m c) (argG m c) (argP m c) (rowOf t r) q).symm)
  have e1 : (fun l => xB m c t (ix2 r l)) = fun l => argX m c (ix2 (rowOf t r) l) := funext fun l => xB_at m c t r l
  have e2 : (fun l => gB m c t (ix2 0 l)) = fun l => argG m c (ix1 l) := funext fun l => gB_at m c t l
  have e3 : (fun l => k0_pay2 (F := Ideal) (aB m c t) (wB m c t) (bB m c t) (ix2 r l)) = fun l => yR m c (ix2 (rowOf t r) l) := funext fun l => y_at m c t r l
  have e4 : (fun l => pB m c t (ix2 0 l)) = fun l => argP m c (ix1 l) := funext fun l => pB_at m c t l
  rw [e1, e2, e3, e4]

/-- The next input's block is the reference's. -/
theorem n_at (t : Fin cfg0.N) (r : Fin 512) (q : Fin 1024) :
    k0_pay1 (F := Ideal) (k0_pay3 (aB m c t) (wB m c t) (bB m c t) (xB m c t) (gB m c t) (pB m c t)) (k0_pay4 (aB m c t) (wB m c t) (bB m c t) (xB m c t) (gB m c t) (pB m c t)) k0_pay5
      (nB m c t) (sB m c t) (uB m c t) (ix2 r q) = nR m c (ix2 (rowOf t r) q) := by
  refine (shifted_at (aB m c t) (wB m c t) (bB m c t) (gB m c t) (pB m c t) (nB m c t) (sB m c t) (uB m c t) (xB m c t) r q).trans
    (Eq.trans ?_ (ref_shifted (argA m c) (argX m c) (argW m c) (argB m c) (argG m c) (argP m c) (argN m c) (argS m c) (argU m c) (rowOf t r) q).symm)
  have e1 : (fun l => k0_pay3 (F := Ideal) (aB m c t) (wB m c t) (bB m c t) (xB m c t) (gB m c t) (pB m c t) (ix2 r l)) = fun l => xR m c (ix2 (rowOf t r) l) :=
    funext fun l => x_at m c t r l
  have e2 : (fun l => nB m c t (ix2 0 l)) = fun l => argN m c (ix1 l) := funext fun l => nB_at m c t l
  have e3 : (fun l => sB m c t (ix2 0 l)) = fun l => argS m c (ix1 l) := funext fun l => sB_at m c t l
  have e4 : (fun l => uB m c t (ix2 0 l)) = fun l => argU m c (ix1 l) := funext fun l => uB_at m c t l
  rw [e1, e2, e3, e4]

/-- THE FIRST RESULT, the product with the bias, is the reference's. -/
theorem final9 : (dats m 0 c).arrAt 9 (cfgs 0).N = yR m c := by
  refine (dats m 0 c).arrAt_eq_of_covers 9 _ (by decide +kernel) fun t hf y => ?_
  blk_simp [idx t]
  rw [after0_9, out0_9]
  frame_out
  refine (congrArg _ (eq_ix2 y)).trans ((y_at m c t (y 0) (y 1)).trans (congrArg (yR m c) ?_))
  unfold rowOf
  blk_ext [idx t]

/-- THE SECOND RESULT, the residual, is the reference's. -/
theorem final10 : (dats m 0 c).arrAt 10 (cfgs 0).N = xR m c := by
  refine (dats m 0 c).arrAt_eq_of_covers 10 _ (by decide +kernel) fun t hf y => ?_
  blk_simp [idx t]
  rw [after0_10, out0_10]
  frame_out
  refine (congrArg _ (eq_ix2 y)).trans ((x_at m c t (y 0) (y 1)).trans (congrArg (xR m c) ?_))
  unfold rowOf
  blk_ext [idx t]

/-- THE THIRD RESULT, the next sub-layer's input, is the reference's. -/
theorem final11 : (dats m 0 c).arrAt 11 (cfgs 0).N = nR m c := by
  refine (dats m 0 c).arrAt_eq_of_covers 11 _ (by decide +kernel) fun t hf y => ?_
  blk_simp [idx t]
  rw [after0_11, out0_11]
  frame_out
  refine (congrArg _ (eq_ix2 y)).trans ((n_at m c t (y 0) (y 1)).trans (congrArg (nR m c) ?_))
  unfold rowOf
  blk_ext [idx t]

end Cert.Kernel12Ideal

end
-- ==== Proof.ProdClaim.lean ====
/- The equations of the mixers' products with their references. -/
module

public import proofs.«01_k».proof.Defs
public import proofs.«01_k».proof.Proof.LeftGrad
public import proofs.«01_k».proof.Proof.RightGrad
public import proofs.«01_k».proof.Proof.Project
public import proofs.«01_k».proof.Proof.OutProj
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12Ideal.Value
public import proofs.«01_k».proof.Proof.Gen.Reference12Ideal.Run
public import proofs.«01_k».proof.Proof.Gen.Reference12Ideal.Read
public import Idealize.ShloMosaic.Lib.Quiescent

@[expose] public section

set_option maxRecDepth 16384

noncomputable section

open Idealize.ShloMosaic Idealize.ShloMosaic.TcCoe Idealize.SL.Sem

namespace Cert.Product4

attribute [local instance] Cert.Kernel4Ideal.Gen.facts Cert.Reference4Ideal.Gen.facts

/-- The reference runs, leaves its arguments, and has no semaphores. -/
theorem frame_ref : Cert.quiescent_Reference4Ideal := fun m g _ =>
  (θ_run Cert.Reference4Ideal.defs _ _).mono (fun r h => ⟨fun c => (h c).2, sem_eq_zero_of_no_sems (by decide) r.2⟩) (Cert.Reference4Ideal.Value.run m g)

/-- Both programs end with the same array: the gradient of the input of the HGRN2 projection. -/
theorem algebraic : Cert.algebraic_Kernel4Ideal_Reference4Ideal := by
  intro m g m' g' hpre hargs
  refine ⟨fun c => (Cert.Kernel4Ideal.Gen.dats m 0 c).arrAt 2 _,
    Cert.Kernel4Ideal.Value.run_blocks m g, (θ_run Cert.Reference4Ideal.defs _ _).mono (fun r h c => ?_) (Cert.Reference4Ideal.Value.run m' g')⟩
  obtain ⟨h0, hk⟩ := h c
  obtain ⟨a0, a1⟩ := hargs c
  have e : c = 0 := Subsingleton.elim (α := Dev Cert.Kernel4Ideal.nD) c 0
  subst e
  refine ⟨h0.trans ?_, hk⟩
  rw [Cert.Reference4Ideal.Read.val_main_v2_eq, a0, a1]
  exact (Cert.Kernel4Ideal.final m 0).symm

end Cert.Product4

namespace Cert.Product5

attribute [local instance] Cert.Kernel5Ideal.Gen.facts Cert.Reference5Ideal.Gen.facts

/-- The reference runs, leaves its arguments, and has no semaphores. -/
theorem frame_ref : Cert.quiescent_Reference5Ideal := fun m g _ =>
  (θ_run Cert.Reference5Ideal.defs _ _).mono (fun r h => ⟨fun c => (h c).2, sem_eq_zero_of_no_sems (by decide) r.2⟩) (Cert.Reference5Ideal.Value.run m g)

/-- Both programs end with the same array: the gradient of the weight of the HGRN2 projection, by column blocks. -/
theorem algebraic : Cert.algebraic_Kernel5Ideal_Reference5Ideal := by
  intro m g m' g' hpre hargs
  refine ⟨fun c => (Cert.Kernel5Ideal.Gen.dats m 0 c).arrAt 2 _,
    Cert.Kernel5Ideal.Value.run_blocks m g, (θ_run Cert.Reference5Ideal.defs _ _).mono (fun r h c => ?_) (Cert.Reference5Ideal.Value.run m' g')⟩
  obtain ⟨h0, hk⟩ := h c
  obtain ⟨a0, a1⟩ := hargs c
  have e : c = 0 := Subsingleton.elim (α := Dev Cert.Kernel5Ideal.nD) c 0
  subst e
  refine ⟨h0.trans ?_, hk⟩
  rw [Cert.Reference5Ideal.Read.val_main_v6_eq, a0, a1]
  exact (Cert.Kernel5Ideal.final m 0).symm

end Cert.Product5

namespace Cert.Product6

attribute [local instance] Cert.Kernel6Ideal.Gen.facts Cert.Reference6Ideal.Gen.facts

/-- The reference runs, leaves its arguments, and has no semaphores. -/
theorem frame_ref : Cert.quiescent_Reference6Ideal := fun m g _ =>
  (θ_run Cert.Reference6Ideal.defs _ _).mono (fun r h => ⟨fun c => (h c).2, sem_eq_zero_of_no_sems (by decide) r.2⟩) (Cert.Reference6Ideal.Value.run m g)

/-- Both programs end with the same array: the gradient of the input of the Conformer projection. -/
theorem algebraic : Cert.algebraic_Kernel6Ideal_Reference6Ideal := by
  intro m g m' g' hpre hargs
  refine ⟨fun c => (Cert.Kernel6Ideal.Gen.dats m 0 c).arrAt 2 _,
    Cert.Kernel6Ideal.Value.run_blocks m g, (θ_run Cert.Reference6Ideal.defs _ _).mono (fun r h c => ?_) (Cert.Reference6Ideal.Value.run m' g')⟩
  obtain ⟨h0, hk⟩ := h c
  obtain ⟨a0, a1⟩ := hargs c
  have e : c = 0 := Subsingleton.elim (α := Dev Cert.Kernel6Ideal.nD) c 0
  subst e
  refine ⟨h0.trans ?_, hk⟩
  rw [Cert.Reference6Ideal.Read.val_main_v2_eq, a0, a1]
  exact (Cert.Kernel6Ideal.final m 0).symm

end Cert.Product6

namespace Cert.Product7

attribute [local instance] Cert.Kernel7Ideal.Gen.facts Cert.Reference7Ideal.Gen.facts

/-- The reference runs, leaves its arguments, and has no semaphores. -/
theorem frame_ref : Cert.quiescent_Reference7Ideal := fun m g _ =>
  (θ_run Cert.Reference7Ideal.defs _ _).mono (fun r h => ⟨fun c => (h c).2, sem_eq_zero_of_no_sems (by decide) r.2⟩) (Cert.Reference7Ideal.Value.run m g)

/-- Both programs end with the same array: the gradient of the weight of the Conformer projection, by column blocks. -/
theorem algebraic : Cert.algebraic_Kernel7Ideal_Reference7Ideal := by
  intro m g m' g' hpre hargs
  refine ⟨fun c => (Cert.Kernel7Ideal.Gen.dats m 0 c).arrAt 2 _,
    Cert.Kernel7Ideal.Value.run_blocks m g, (θ_run Cert.Reference7Ideal.defs _ _).mono (fun r h c => ?_) (Cert.Reference7Ideal.Value.run m' g')⟩
  obtain ⟨h0, hk⟩ := h c
  obtain ⟨a0, a1⟩ := hargs c
  have e : c = 0 := Subsingleton.elim (α := Dev Cert.Kernel7Ideal.nD) c 0
  subst e
  refine ⟨h0.trans ?_, hk⟩
  rw [Cert.Reference7Ideal.Read.val_main_v6_eq, a0, a1]
  exact (Cert.Kernel7Ideal.final m 0).symm

end Cert.Product7

namespace Cert.Product8

attribute [local instance] Cert.Kernel8Ideal.Gen.facts Cert.Reference8Ideal.Gen.facts

/-- The reference runs, leaves its arguments, and has no semaphores. -/
theorem frame_ref : Cert.quiescent_Reference8Ideal := fun m g _ =>
  (θ_run Cert.Reference8Ideal.defs _ _).mono (fun r h => ⟨fun c => (h c).2, sem_eq_zero_of_no_sems (by decide) r.2⟩) (Cert.Reference8Ideal.Value.run m g)

/-- Both programs end with the same array: the gradient of the input of a mixer's output projection. -/
theorem algebraic : Cert.algebraic_Kernel8Ideal_Reference8Ideal := by
  intro m g m' g' hpre hargs
  refine ⟨fun c => (Cert.Kernel8Ideal.Gen.dats m 0 c).arrAt 2 _,
    Cert.Kernel8Ideal.Value.run_blocks m g, (θ_run Cert.Reference8Ideal.defs _ _).mono (fun r h c => ?_) (Cert.Reference8Ideal.Value.run m' g')⟩
  obtain ⟨h0, hk⟩ := h c
  obtain ⟨a0, a1⟩ := hargs c
  have e : c = 0 := Subsingleton.elim (α := Dev Cert.Kernel8Ideal.nD) c 0
  subst e
  refine ⟨h0.trans ?_, hk⟩
  rw [Cert.Reference8Ideal.Read.val_main_v2_eq, a0, a1]
  exact (Cert.Kernel8Ideal.final m 0).symm

end Cert.Product8

namespace Cert.Product9

attribute [local instance] Cert.Kernel9Ideal.Gen.facts Cert.Reference9Ideal.Gen.facts

/-- The reference runs, leaves its arguments, and has no semaphores. -/
theorem frame_ref : Cert.quiescent_Reference9Ideal := fun m g _ =>
  (θ_run Cert.Reference9Ideal.defs _ _).mono (fun r h => ⟨fun c => (h c).2, sem_eq_zero_of_no_sems (by decide) r.2⟩) (Cert.Reference9Ideal.Value.run m g)

/-- Both programs end with the same array: the gradient of the weight of a mixer's output projection. -/
theorem algebraic : Cert.algebraic_Kernel9Ideal_Reference9Ideal := by
  intro m g m' g' hpre hargs
  refine ⟨fun c => (Cert.Kernel9Ideal.Gen.dats m 0 c).arrAt 2 _,
    Cert.Kernel9Ideal.Value.run_blocks m g, (θ_run Cert.Reference9Ideal.defs _ _).mono (fun r h c => ?_) (Cert.Reference9Ideal.Value.run m' g')⟩
  obtain ⟨h0, hk⟩ := h c
  obtain ⟨a0, a1⟩ := hargs c
  have e : c = 0 := Subsingleton.elim (α := Dev Cert.Kernel9Ideal.nD) c 0
  subst e
  refine ⟨h0.trans ?_, hk⟩
  rw [Cert.Reference9Ideal.Read.val_main_v6_eq, a0, a1]
  exact (Cert.Kernel9Ideal.final m 0).symm

end Cert.Product9

namespace Cert.Product10

attribute [local instance] Cert.Kernel10Ideal.Gen.facts Cert.Reference10Ideal.Gen.facts

/-- The reference runs, leaves its arguments, and has no semaphores. -/
theorem frame_ref : Cert.quiescent_Reference10Ideal := fun m g _ =>
  (θ_run Cert.Reference10Ideal.defs _ _).mono (fun r h => ⟨fun c => (h c).2, sem_eq_zero_of_no_sems (by decide) r.2⟩) (Cert.Reference10Ideal.Value.run m g)

/-- Both programs end with the same array: the projection of the HGRN2 mixer. -/
theorem algebraic : Cert.algebraic_Kernel10Ideal_Reference10Ideal := by
  intro m g m' g' hpre hargs
  refine ⟨fun c => (Cert.Kernel10Ideal.Gen.dats m 0 c).arrAt 3 _,
    Cert.Kernel10Ideal.Value.run_blocks m g, (θ_run Cert.Reference10Ideal.defs _ _).mono (fun r h c => ?_) (Cert.Reference10Ideal.Value.run m' g')⟩
  obtain ⟨h0, hk⟩ := h c
  obtain ⟨a0, a1⟩ := hargs c
  have e : c = 0 := Subsingleton.elim (α := Dev Cert.Kernel10Ideal.nD) c 0
  subst e
  refine ⟨h0.trans ?_, hk⟩
  rw [Cert.Reference10Ideal.Read.val_main_v0_eq, a0, a1]
  exact (Cert.Kernel10Ideal.final m 0).symm

end Cert.Product10

namespace Cert.Product11

attribute [local instance] Cert.Kernel11Ideal.Gen.facts Cert.Reference11Ideal.Gen.facts

/-- The reference runs, leaves its arguments, and has no semaphores. -/
theorem frame_ref : Cert.quiescent_Reference11Ideal := fun m g _ =>
  (θ_run Cert.Reference11Ideal.defs _ _).mono (fun r h => ⟨fun c => (h c).2, sem_eq_zero_of_no_sems (by decide) r.2⟩) (Cert.Reference11Ideal.Value.run m g)

/-- Both programs end with the same array: the projection of the Conformer mixer. -/
theorem algebraic : Cert.algebraic_Kernel11Ideal_Reference11Ideal := by
  intro m g m' g' hpre hargs
  refine ⟨fun c => (Cert.Kernel11Ideal.Gen.dats m 0 c).arrAt 3 _,
    Cert.Kernel11Ideal.Value.run_blocks m g, (θ_run Cert.Reference11Ideal.defs _ _).mono (fun r h c => ?_) (Cert.Reference11Ideal.Value.run m' g')⟩
  obtain ⟨h0, hk⟩ := h c
  obtain ⟨a0, a1, a2⟩ := hargs c
  have e : c = 0 := Subsingleton.elim (α := Dev Cert.Kernel11Ideal.nD) c 0
  subst e
  refine ⟨h0.trans ?_, hk⟩
  rw [Cert.Reference11Ideal.Read.val_main_v3_eq, a0, a1, a2]
  exact (Cert.Kernel11Ideal.final m 0).symm

end Cert.Product11

namespace Cert.Product12

attribute [local instance] Cert.Kernel12Ideal.Gen.facts Cert.Reference12Ideal.Gen.facts

/-- The reference runs, leaves its arguments, and has no semaphores. -/
theorem frame_ref : Cert.quiescent_Reference12Ideal := fun m g _ =>
  (θ_run Cert.Reference12Ideal.defs _ _).mono (fun r h => ⟨fun c => (h c).2.2.2, sem_eq_zero_of_no_sems (by decide) r.2⟩) (Cert.Reference12Ideal.Value.run m g)

/-- Both programs end with the same three arrays: the product, the residual, and the next sub-layer's input. -/
theorem algebraic : Cert.algebraic_Kernel12Ideal_Reference12Ideal := by
  intro m g m' g' hpre hargs
  refine ⟨fun c => (Cert.Kernel12Ideal.Gen.dats m 0 c).arrAt 9 _, fun c => (Cert.Kernel12Ideal.Gen.dats m 0 c).arrAt 10 _, fun c => (Cert.Kernel12Ideal.Gen.dats m 0 c).arrAt 11 _,
    Cert.Kernel12Ideal.Value.run_blocks m g, (θ_run Cert.Reference12Ideal.defs _ _).mono (fun r h c => ?_) (Cert.Reference12Ideal.Value.run m' g')⟩
  obtain ⟨h0, h1, h2, hk⟩ := h c
  obtain ⟨a0, a1, a2, a3, a4, a5, a6, a7, a8⟩ := hargs c
  have e : c = 0 := Subsingleton.elim (α := Dev Cert.Kernel12Ideal.nD) c 0
  subst e
  refine ⟨h0.trans ?_, h1.trans ?_, h2.trans ?_, hk⟩
  · rw [Cert.Reference12Ideal.Read.val_main_v3_eq, a0, a1, a2]
    exact (Cert.Kernel12Ideal.final9 m 0).symm
  · rw [Cert.Reference12Ideal.Read.val_main_v20_eq, a0, a1, a2, a3, a4, a5]
    exact (Cert.Kernel12Ideal.final10 m 0).symm
  · rw [Cert.Reference12Ideal.Read.val_main_v42_eq, a0, a1, a2, a3, a4, a5, a6, a7, a8]
    exact (Cert.Kernel12Ideal.final11 m 0).symm

end Cert.Product12

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.GateClaim
public import proofs.«01_k».proof.Proof.TapsClaim
public import proofs.«01_k».proof.Proof.FwdClaim
public import proofs.«01_k».proof.Proof.LeftGrad
public import proofs.«01_k».proof.Proof.RightGrad
public import proofs.«01_k».proof.Proof.Project
public import proofs.«01_k».proof.Proof.OutProj
public import proofs.«01_k».proof.Proof.ProdClaim
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Pre_finite.Gen.facts,
  fun m ρ _ => Cert.Kernel.Gen.frame m ρ,
  fun m ρ _ => Cert.KernelIdeal.Gen.frame m ρ,
  fun m ρ _ => Cert.KernelIdeal.Gen.frame m ρ,
  fun m ρ _ => Cert.Gate.frame_ref m ρ trivial,
  fun m ρ _ => Cert.Gate.frame_ref m ρ trivial,
  Cert.Taps.frame_kernel,
  Cert.Taps.frame_ideal,
  Cert.Taps.frame_ref,
  fun m ρ _ => Cert.Kernel3.Gen.frame m ρ, fun m ρ _ => Cert.Kernel3Ideal.Gen.frame m ρ, Cert.Fwd.frame_ref,
  fun m ρ _ => Cert.Kernel4.Gen.frame m ρ, fun m ρ _ => Cert.Kernel4Ideal.Gen.frame m ρ, Cert.Product4.frame_ref,
  fun m ρ _ => Cert.Kernel5.Gen.frame m ρ, fun m ρ _ => Cert.Kernel5Ideal.Gen.frame m ρ, Cert.Product5.frame_ref,
  fun m ρ _ => Cert.Kernel6.Gen.frame m ρ, fun m ρ _ => Cert.Kernel6Ideal.Gen.frame m ρ, Cert.Product6.frame_ref,
  fun m ρ _ => Cert.Kernel7.Gen.frame m ρ, fun m ρ _ => Cert.Kernel7Ideal.Gen.frame m ρ, Cert.Product7.frame_ref,
  fun m ρ _ => Cert.Kernel8.Gen.frame m ρ, fun m ρ _ => Cert.Kernel8Ideal.Gen.frame m ρ, Cert.Product8.frame_ref,
  fun m ρ _ => Cert.Kernel9.Gen.frame m ρ, fun m ρ _ => Cert.Kernel9Ideal.Gen.frame m ρ, Cert.Product9.frame_ref,
  fun m ρ _ => Cert.Kernel10.Gen.frame m ρ, fun m ρ _ => Cert.Kernel10Ideal.Gen.frame m ρ, Cert.Product10.frame_ref,
  fun m ρ _ => Cert.Kernel11.Gen.frame m ρ, fun m ρ _ => Cert.Kernel11Ideal.Gen.frame m ρ, Cert.Product11.frame_ref,
  fun m ρ _ => Cert.Kernel12.Gen.frame m ρ, fun m ρ _ => Cert.Kernel12Ideal.Gen.frame m ρ, Cert.Product12.frame_ref,
  trivial,
  Cert.Gate.algebraic,
  trivial,
  Cert.Taps.algebraic,
  trivial,
  Cert.Fwd.algebraic,
  trivial,
  Cert.Product4.algebraic,
  trivial,
  Cert.Product5.algebraic,
  trivial,
  Cert.Product6.algebraic,
  trivial,
  Cert.Product7.algebraic,
  trivial,
  Cert.Product8.algebraic,
  trivial,
  Cert.Product9.algebraic,
  trivial,
  Cert.Product10.algebraic,
  trivial,
  Cert.Product11.algebraic,
  trivial,
  Cert.Product12.algebraic⟩

end Cert.Proof

end
